-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_p" .f32 0x3D3A2E8C#32 ((1 / 22 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v509) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x1 : Shape := ⟨2, ![1024, 1]⟩
abbrev S1024x66 : Shape := ⟨2, ![1024, 66]⟩
abbrev S22x4 : Shape := ⟨2, ![22, 4]⟩
abbrev S2x473088 : Shape := ⟨2, ![2, 473088]⟩
abbrev S5x64 : Shape := ⟨2, ![5, 64]⟩
abbrev S64 : Shape := ⟨1, ![64]⟩
abbrev S64x5 : Shape := ⟨2, ![64, 5]⟩
abbrev S5 : Shape := ⟨1, ![5]⟩
abbrev S4x130x64 : Shape := ⟨3, ![4, 130, 64]⟩
abbrev S4x64 : Shape := ⟨2, ![4, 64]⟩
abbrev S4x64x64 : Shape := ⟨3, ![4, 64, 64]⟩
abbrev S4x128x64 : Shape := ⟨3, ![4, 128, 64]⟩
abbrev S4x64x1 : Shape := ⟨3, ![4, 64, 1]⟩
abbrev S462 : Shape := ⟨1, ![462]⟩
abbrev S_ : Shape := ⟨0, ![]⟩
abbrev S1x462 : Shape := ⟨2, ![1, 462]⟩
abbrev S1024x462 : Shape := ⟨2, ![1024, 462]⟩
abbrev S473088 : Shape := ⟨1, ![473088]⟩
abbrev S1x473088 : Shape := ⟨2, ![1, 473088]⟩
abbrev S3x128x64 : Shape := ⟨3, ![3, 128, 64]⟩
abbrev S3x64 : Shape := ⟨2, ![3, 64]⟩
abbrev S3x64x64 : Shape := ⟨3, ![3, 64, 64]⟩

class Facts : Prop where
  bcast_S_S1024x1 : S_.BroadcastsInDim S1024x1 (![] : Fin 0 → Fin S1024x1.rank)
  bcast_S462_S1x462_1 : S462.BroadcastsInDim S1x462 (![1] : Fin 1 → Fin S1x462.rank)
  bcast_S1x462_S1024x462_0_1 : S1x462.BroadcastsInDim S1024x462 (![0, 1] : Fin 2 → Fin S1024x462.rank)
  bcast_S1024x1_S1024x462_0_1 : S1024x1.BroadcastsInDim S1024x462 (![0, 1] : Fin 2 → Fin S1024x462.rank)
  shapeCasts_S1024x462_S473088 : S1024x462.ShapeCasts S473088
  bcast_S473088_S1x473088_1 : S473088.BroadcastsInDim S1x473088 (![1] : Fin 1 → Fin S1x473088.rank)
  concatenates_S1x473088_S1x473088_S2x473088_d0 : Shape.Concatenates [S1x473088, S1x473088] S2x473088 0
  reducesTo_S2x473088_S_d0_1 : S2x473088.ReducesTo [0, 1] S_
  h_S_ : 0 < S_.numel
  slices_S4x128x64_S3x128x64_0_0_0 : S4x128x64.Slices ![0, 0, 0] S3x128x64
  slices_S4x64_S3x64_0_0 : S4x64.Slices ![0, 0] S3x64
  slices_S4x64x64_S3x64x64_0_0_0 : S4x64x64.Slices ![0, 0, 0] S3x64x64
  reducesTo_S1024x1_S_d0_1 : S1024x1.ReducesTo [0, 1] S_
  bcast_S_S1024x66 : S_.BroadcastsInDim S1024x66 (![] : Fin 0 → Fin S1024x66.rank)
  reducesTo_S1024x66_S_d0_1 : S1024x66.ReducesTo [0, 1] S_
  bcast_S_S22x4 : S_.BroadcastsInDim S22x4 (![] : Fin 0 → Fin S22x4.rank)
  reducesTo_S22x4_S_d0_1 : S22x4.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S4x130x64 : S_.BroadcastsInDim S4x130x64 (![] : Fin 0 → Fin S4x130x64.rank)
  reducesTo_S4x130x64_S_d0_1_2 : S4x130x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S4x64x1 : S_.BroadcastsInDim S4x64x1 (![] : Fin 0 → Fin S4x64x1.rank)
  reducesTo_S4x64x1_S_d0_1_2 : S4x64x1.ReducesTo [0, 1, 2] S_

variable [Facts]

noncomputable abbrev lit0 : Fin 462 → BitVec 32 := fun
  | 0 => 0#32 | 1 => 1#32 | 2 => 0#32 | 3 => 2#32 | 4 => 0#32 | 5 => 3#32 | 6 => 0#32 | 7 => 4#32
  | 8 => 0#32 | 9 => 5#32 | 10 => 0#32 | 11 => 6#32 | 12 => 0#32 | 13 => 7#32 | 14 => 0#32 | 15 => 8#32
  | 16 => 0#32 | 17 => 9#32 | 18 => 0#32 | 19 => 10#32 | 20 => 0#32 | 21 => 11#32 | 22 => 0#32 | 23 => 12#32
  | 24 => 0#32 | 25 => 13#32 | 26 => 0#32 | 27 => 14#32 | 28 => 0#32 | 29 => 15#32 | 30 => 0#32 | 31 => 16#32
  | 32 => 0#32 | 33 => 17#32 | 34 => 0#32 | 35 => 18#32 | 36 => 0#32 | 37 => 19#32 | 38 => 0#32 | 39 => 20#32
  | 40 => 0#32 | 41 => 21#32 | 42 => 1#32 | 43 => 2#32 | 44 => 1#32 | 45 => 3#32 | 46 => 1#32 | 47 => 4#32
  | 48 => 1#32 | 49 => 5#32 | 50 => 1#32 | 51 => 6#32 | 52 => 1#32 | 53 => 7#32 | 54 => 1#32 | 55 => 8#32
  | 56 => 1#32 | 57 => 9#32 | 58 => 1#32 | 59 => 10#32 | 60 => 1#32 | 61 => 11#32 | 62 => 1#32 | 63 => 12#32
  | 64 => 1#32 | 65 => 13#32 | 66 => 1#32 | 67 => 14#32 | 68 => 1#32 | 69 => 15#32 | 70 => 1#32 | 71 => 16#32
  | 72 => 1#32 | 73 => 17#32 | 74 => 1#32 | 75 => 18#32 | 76 => 1#32 | 77 => 19#32 | 78 => 1#32 | 79 => 20#32
  | 80 => 1#32 | 81 => 21#32 | 82 => 2#32 | 83 => 3#32 | 84 => 2#32 | 85 => 4#32 | 86 => 2#32 | 87 => 5#32
  | 88 => 2#32 | 89 => 6#32 | 90 => 2#32 | 91 => 7#32 | 92 => 2#32 | 93 => 8#32 | 94 => 2#32 | 95 => 9#32
  | 96 => 2#32 | 97 => 10#32 | 98 => 2#32 | 99 => 11#32 | 100 => 2#32 | 101 => 12#32 | 102 => 2#32 | 103 => 13#32
  | 104 => 2#32 | 105 => 14#32 | 106 => 2#32 | 107 => 15#32 | 108 => 2#32 | 109 => 16#32 | 110 => 2#32 | 111 => 17#32
  | 112 => 2#32 | 113 => 18#32 | 114 => 2#32 | 115 => 19#32 | 116 => 2#32 | 117 => 20#32 | 118 => 2#32 | 119 => 21#32
  | 120 => 3#32 | 121 => 4#32 | 122 => 3#32 | 123 => 5#32 | 124 => 3#32 | 125 => 6#32 | 126 => 3#32 | 127 => 7#32
  | 128 => 3#32 | 129 => 8#32 | 130 => 3#32 | 131 => 9#32 | 132 => 3#32 | 133 => 10#32 | 134 => 3#32 | 135 => 11#32
  | 136 => 3#32 | 137 => 12#32 | 138 => 3#32 | 139 => 13#32 | 140 => 3#32 | 141 => 14#32 | 142 => 3#32 | 143 => 15#32
  | 144 => 3#32 | 145 => 16#32 | 146 => 3#32 | 147 => 17#32 | 148 => 3#32 | 149 => 18#32 | 150 => 3#32 | 151 => 19#32
  | 152 => 3#32 | 153 => 20#32 | 154 => 3#32 | 155 => 21#32 | 156 => 4#32 | 157 => 5#32 | 158 => 4#32 | 159 => 6#32
  | 160 => 4#32 | 161 => 7#32 | 162 => 4#32 | 163 => 8#32 | 164 => 4#32 | 165 => 9#32 | 166 => 4#32 | 167 => 10#32
  | 168 => 4#32 | 169 => 11#32 | 170 => 4#32 | 171 => 12#32 | 172 => 4#32 | 173 => 13#32 | 174 => 4#32 | 175 => 14#32
  | 176 => 4#32 | 177 => 15#32 | 178 => 4#32 | 179 => 16#32 | 180 => 4#32 | 181 => 17#32 | 182 => 4#32 | 183 => 18#32
  | 184 => 4#32 | 185 => 19#32 | 186 => 4#32 | 187 => 20#32 | 188 => 4#32 | 189 => 21#32 | 190 => 5#32 | 191 => 6#32
  | 192 => 5#32 | 193 => 7#32 | 194 => 5#32 | 195 => 8#32 | 196 => 5#32 | 197 => 9#32 | 198 => 5#32 | 199 => 10#32
  | 200 => 5#32 | 201 => 11#32 | 202 => 5#32 | 203 => 12#32 | 204 => 5#32 | 205 => 13#32 | 206 => 5#32 | 207 => 14#32
  | 208 => 5#32 | 209 => 15#32 | 210 => 5#32 | 211 => 16#32 | 212 => 5#32 | 213 => 17#32 | 214 => 5#32 | 215 => 18#32
  | 216 => 5#32 | 217 => 19#32 | 218 => 5#32 | 219 => 20#32 | 220 => 5#32 | 221 => 21#32 | 222 => 6#32 | 223 => 7#32
  | 224 => 6#32 | 225 => 8#32 | 226 => 6#32 | 227 => 9#32 | 228 => 6#32 | 229 => 10#32 | 230 => 6#32 | 231 => 11#32
  | 232 => 6#32 | 233 => 12#32 | 234 => 6#32 | 235 => 13#32 | 236 => 6#32 | 237 => 14#32 | 238 => 6#32 | 239 => 15#32
  | 240 => 6#32 | 241 => 16#32 | 242 => 6#32 | 243 => 17#32 | 244 => 6#32 | 245 => 18#32 | 246 => 6#32 | 247 => 19#32
  | 248 => 6#32 | 249 => 20#32 | 250 => 6#32 | 251 => 21#32 | 252 => 7#32 | 253 => 8#32 | 254 => 7#32 | 255 => 9#32
  | 256 => 7#32 | 257 => 10#32 | 258 => 7#32 | 259 => 11#32 | 260 => 7#32 | 261 => 12#32 | 262 => 7#32 | 263 => 13#32
  | 264 => 7#32 | 265 => 14#32 | 266 => 7#32 | 267 => 15#32 | 268 => 7#32 | 269 => 16#32 | 270 => 7#32 | 271 => 17#32
  | 272 => 7#32 | 273 => 18#32 | 274 => 7#32 | 275 => 19#32 | 276 => 7#32 | 277 => 20#32 | 278 => 7#32 | 279 => 21#32
  | 280 => 8#32 | 281 => 9#32 | 282 => 8#32 | 283 => 10#32 | 284 => 8#32 | 285 => 11#32 | 286 => 8#32 | 287 => 12#32
  | 288 => 8#32 | 289 => 13#32 | 290 => 8#32 | 291 => 14#32 | 292 => 8#32 | 293 => 15#32 | 294 => 8#32 | 295 => 16#32
  | 296 => 8#32 | 297 => 17#32 | 298 => 8#32 | 299 => 18#32 | 300 => 8#32 | 301 => 19#32 | 302 => 8#32 | 303 => 20#32
  | 304 => 8#32 | 305 => 21#32 | 306 => 9#32 | 307 => 10#32 | 308 => 9#32 | 309 => 11#32 | 310 => 9#32 | 311 => 12#32
  | 312 => 9#32 | 313 => 13#32 | 314 => 9#32 | 315 => 14#32 | 316 => 9#32 | 317 => 15#32 | 318 => 9#32 | 319 => 16#32
  | 320 => 9#32 | 321 => 17#32 | 322 => 9#32 | 323 => 18#32 | 324 => 9#32 | 325 => 19#32 | 326 => 9#32 | 327 => 20#32
  | 328 => 9#32 | 329 => 21#32 | 330 => 10#32 | 331 => 11#32 | 332 => 10#32 | 333 => 12#32 | 334 => 10#32 | 335 => 13#32
  | 336 => 10#32 | 337 => 14#32 | 338 => 10#32 | 339 => 15#32 | 340 => 10#32 | 341 => 16#32 | 342 => 10#32 | 343 => 17#32
  | 344 => 10#32 | 345 => 18#32 | 346 => 10#32 | 347 => 19#32 | 348 => 10#32 | 349 => 20#32 | 350 => 10#32 | 351 => 21#32
  | 352 => 11#32 | 353 => 12#32 | 354 => 11#32 | 355 => 13#32 | 356 => 11#32 | 357 => 14#32 | 358 => 11#32 | 359 => 15#32
  | 360 => 11#32 | 361 => 16#32 | 362 => 11#32 | 363 => 17#32 | 364 => 11#32 | 365 => 18#32 | 366 => 11#32 | 367 => 19#32
  | 368 => 11#32 | 369 => 20#32 | 370 => 11#32 | 371 => 21#32 | 372 => 12#32 | 373 => 13#32 | 374 => 12#32 | 375 => 14#32
  | 376 => 12#32 | 377 => 15#32 | 378 => 12#32 | 379 => 16#32 | 380 => 12#32 | 381 => 17#32 | 382 => 12#32 | 383 => 18#32
  | 384 => 12#32 | 385 => 19#32 | 386 => 12#32 | 387 => 20#32 | 388 => 12#32 | 389 => 21#32 | 390 => 13#32 | 391 => 14#32
  | 392 => 13#32 | 393 => 15#32 | 394 => 13#32 | 395 => 16#32 | 396 => 13#32 | 397 => 17#32 | 398 => 13#32 | 399 => 18#32
  | 400 => 13#32 | 401 => 19#32 | 402 => 13#32 | 403 => 20#32 | 404 => 13#32 | 405 => 21#32 | 406 => 14#32 | 407 => 15#32
  | 408 => 14#32 | 409 => 16#32 | 410 => 14#32 | 411 => 17#32 | 412 => 14#32 | 413 => 18#32 | 414 => 14#32 | 415 => 19#32
  | 416 => 14#32 | 417 => 20#32 | 418 => 14#32 | 419 => 21#32 | 420 => 15#32 | 421 => 16#32 | 422 => 15#32 | 423 => 17#32
  | 424 => 15#32 | 425 => 18#32 | 426 => 15#32 | 427 => 19#32 | 428 => 15#32 | 429 => 20#32 | 430 => 15#32 | 431 => 21#32
  | 432 => 16#32 | 433 => 17#32 | 434 => 16#32 | 435 => 18#32 | 436 => 16#32 | 437 => 19#32 | 438 => 16#32 | 439 => 20#32
  | 440 => 16#32 | 441 => 21#32 | 442 => 17#32 | 443 => 18#32 | 444 => 17#32 | 445 => 19#32 | 446 => 17#32 | 447 => 20#32
  | 448 => 17#32 | 449 => 21#32 | 450 => 18#32 | 451 => 19#32 | 452 => 18#32 | 453 => 20#32 | 454 => 18#32 | 455 => 21#32
  | 456 => 19#32 | 457 => 20#32 | 458 => 19#32 | 459 => 21#32 | 460 => 20#32 | 461 => 21#32
  | _ => 0#32

noncomputable abbrev lit1 : Fin 462 → BitVec 32 := fun
  | 0 => 1#32 | 1 => 0#32 | 2 => 2#32 | 3 => 0#32 | 4 => 3#32 | 5 => 0#32 | 6 => 4#32 | 7 => 0#32
  | 8 => 5#32 | 9 => 0#32 | 10 => 6#32 | 11 => 0#32 | 12 => 7#32 | 13 => 0#32 | 14 => 8#32 | 15 => 0#32
  | 16 => 9#32 | 17 => 0#32 | 18 => 10#32 | 19 => 0#32 | 20 => 11#32 | 21 => 0#32 | 22 => 12#32 | 23 => 0#32
  | 24 => 13#32 | 25 => 0#32 | 26 => 14#32 | 27 => 0#32 | 28 => 15#32 | 29 => 0#32 | 30 => 16#32 | 31 => 0#32
  | 32 => 17#32 | 33 => 0#32 | 34 => 18#32 | 35 => 0#32 | 36 => 19#32 | 37 => 0#32 | 38 => 20#32 | 39 => 0#32
  | 40 => 21#32 | 41 => 0#32 | 42 => 2#32 | 43 => 1#32 | 44 => 3#32 | 45 => 1#32 | 46 => 4#32 | 47 => 1#32
  | 48 => 5#32 | 49 => 1#32 | 50 => 6#32 | 51 => 1#32 | 52 => 7#32 | 53 => 1#32 | 54 => 8#32 | 55 => 1#32
  | 56 => 9#32 | 57 => 1#32 | 58 => 10#32 | 59 => 1#32 | 60 => 11#32 | 61 => 1#32 | 62 => 12#32 | 63 => 1#32
  | 64 => 13#32 | 65 => 1#32 | 66 => 14#32 | 67 => 1#32 | 68 => 15#32 | 69 => 1#32 | 70 => 16#32 | 71 => 1#32
  | 72 => 17#32 | 73 => 1#32 | 74 => 18#32 | 75 => 1#32 | 76 => 19#32 | 77 => 1#32 | 78 => 20#32 | 79 => 1#32
  | 80 => 21#32 | 81 => 1#32 | 82 => 3#32 | 83 => 2#32 | 84 => 4#32 | 85 => 2#32 | 86 => 5#32 | 87 => 2#32
  | 88 => 6#32 | 89 => 2#32 | 90 => 7#32 | 91 => 2#32 | 92 => 8#32 | 93 => 2#32 | 94 => 9#32 | 95 => 2#32
  | 96 => 10#32 | 97 => 2#32 | 98 => 11#32 | 99 => 2#32 | 100 => 12#32 | 101 => 2#32 | 102 => 13#32 | 103 => 2#32
  | 104 => 14#32 | 105 => 2#32 | 106 => 15#32 | 107 => 2#32 | 108 => 16#32 | 109 => 2#32 | 110 => 17#32 | 111 => 2#32
  | 112 => 18#32 | 113 => 2#32 | 114 => 19#32 | 115 => 2#32 | 116 => 20#32 | 117 => 2#32 | 118 => 21#32 | 119 => 2#32
  | 120 => 4#32 | 121 => 3#32 | 122 => 5#32 | 123 => 3#32 | 124 => 6#32 | 125 => 3#32 | 126 => 7#32 | 127 => 3#32
  | 128 => 8#32 | 129 => 3#32 | 130 => 9#32 | 131 => 3#32 | 132 => 10#32 | 133 => 3#32 | 134 => 11#32 | 135 => 3#32
  | 136 => 12#32 | 137 => 3#32 | 138 => 13#32 | 139 => 3#32 | 140 => 14#32 | 141 => 3#32 | 142 => 15#32 | 143 => 3#32
  | 144 => 16#32 | 145 => 3#32 | 146 => 17#32 | 147 => 3#32 | 148 => 18#32 | 149 => 3#32 | 150 => 19#32 | 151 => 3#32
  | 152 => 20#32 | 153 => 3#32 | 154 => 21#32 | 155 => 3#32 | 156 => 5#32 | 157 => 4#32 | 158 => 6#32 | 159 => 4#32
  | 160 => 7#32 | 161 => 4#32 | 162 => 8#32 | 163 => 4#32 | 164 => 9#32 | 165 => 4#32 | 166 => 10#32 | 167 => 4#32
  | 168 => 11#32 | 169 => 4#32 | 170 => 12#32 | 171 => 4#32 | 172 => 13#32 | 173 => 4#32 | 174 => 14#32 | 175 => 4#32
  | 176 => 15#32 | 177 => 4#32 | 178 => 16#32 | 179 => 4#32 | 180 => 17#32 | 181 => 4#32 | 182 => 18#32 | 183 => 4#32
  | 184 => 19#32 | 185 => 4#32 | 186 => 20#32 | 187 => 4#32 | 188 => 21#32 | 189 => 4#32 | 190 => 6#32 | 191 => 5#32
  | 192 => 7#32 | 193 => 5#32 | 194 => 8#32 | 195 => 5#32 | 196 => 9#32 | 197 => 5#32 | 198 => 10#32 | 199 => 5#32
  | 200 => 11#32 | 201 => 5#32 | 202 => 12#32 | 203 => 5#32 | 204 => 13#32 | 205 => 5#32 | 206 => 14#32 | 207 => 5#32
  | 208 => 15#32 | 209 => 5#32 | 210 => 16#32 | 211 => 5#32 | 212 => 17#32 | 213 => 5#32 | 214 => 18#32 | 215 => 5#32
  | 216 => 19#32 | 217 => 5#32 | 218 => 20#32 | 219 => 5#32 | 220 => 21#32 | 221 => 5#32 | 222 => 7#32 | 223 => 6#32
  | 224 => 8#32 | 225 => 6#32 | 226 => 9#32 | 227 => 6#32 | 228 => 10#32 | 229 => 6#32 | 230 => 11#32 | 231 => 6#32
  | 232 => 12#32 | 233 => 6#32 | 234 => 13#32 | 235 => 6#32 | 236 => 14#32 | 237 => 6#32 | 238 => 15#32 | 239 => 6#32
  | 240 => 16#32 | 241 => 6#32 | 242 => 17#32 | 243 => 6#32 | 244 => 18#32 | 245 => 6#32 | 246 => 19#32 | 247 => 6#32
  | 248 => 20#32 | 249 => 6#32 | 250 => 21#32 | 251 => 6#32 | 252 => 8#32 | 253 => 7#32 | 254 => 9#32 | 255 => 7#32
  | 256 => 10#32 | 257 => 7#32 | 258 => 11#32 | 259 => 7#32 | 260 => 12#32 | 261 => 7#32 | 262 => 13#32 | 263 => 7#32
  | 264 => 14#32 | 265 => 7#32 | 266 => 15#32 | 267 => 7#32 | 268 => 16#32 | 269 => 7#32 | 270 => 17#32 | 271 => 7#32
  | 272 => 18#32 | 273 => 7#32 | 274 => 19#32 | 275 => 7#32 | 276 => 20#32 | 277 => 7#32 | 278 => 21#32 | 279 => 7#32
  | 280 => 9#32 | 281 => 8#32 | 282 => 10#32 | 283 => 8#32 | 284 => 11#32 | 285 => 8#32 | 286 => 12#32 | 287 => 8#32
  | 288 => 13#32 | 289 => 8#32 | 290 => 14#32 | 291 => 8#32 | 292 => 15#32 | 293 => 8#32 | 294 => 16#32 | 295 => 8#32
  | 296 => 17#32 | 297 => 8#32 | 298 => 18#32 | 299 => 8#32 | 300 => 19#32 | 301 => 8#32 | 302 => 20#32 | 303 => 8#32
  | 304 => 21#32 | 305 => 8#32 | 306 => 10#32 | 307 => 9#32 | 308 => 11#32 | 309 => 9#32 | 310 => 12#32 | 311 => 9#32
  | 312 => 13#32 | 313 => 9#32 | 314 => 14#32 | 315 => 9#32 | 316 => 15#32 | 317 => 9#32 | 318 => 16#32 | 319 => 9#32
  | 320 => 17#32 | 321 => 9#32 | 322 => 18#32 | 323 => 9#32 | 324 => 19#32 | 325 => 9#32 | 326 => 20#32 | 327 => 9#32
  | 328 => 21#32 | 329 => 9#32 | 330 => 11#32 | 331 => 10#32 | 332 => 12#32 | 333 => 10#32 | 334 => 13#32 | 335 => 10#32
  | 336 => 14#32 | 337 => 10#32 | 338 => 15#32 | 339 => 10#32 | 340 => 16#32 | 341 => 10#32 | 342 => 17#32 | 343 => 10#32
  | 344 => 18#32 | 345 => 10#32 | 346 => 19#32 | 347 => 10#32 | 348 => 20#32 | 349 => 10#32 | 350 => 21#32 | 351 => 10#32
  | 352 => 12#32 | 353 => 11#32 | 354 => 13#32 | 355 => 11#32 | 356 => 14#32 | 357 => 11#32 | 358 => 15#32 | 359 => 11#32
  | 360 => 16#32 | 361 => 11#32 | 362 => 17#32 | 363 => 11#32 | 364 => 18#32 | 365 => 11#32 | 366 => 19#32 | 367 => 11#32
  | 368 => 20#32 | 369 => 11#32 | 370 => 21#32 | 371 => 11#32 | 372 => 13#32 | 373 => 12#32 | 374 => 14#32 | 375 => 12#32
  | 376 => 15#32 | 377 => 12#32 | 378 => 16#32 | 379 => 12#32 | 380 => 17#32 | 381 => 12#32 | 382 => 18#32 | 383 => 12#32
  | 384 => 19#32 | 385 => 12#32 | 386 => 20#32 | 387 => 12#32 | 388 => 21#32 | 389 => 12#32 | 390 => 14#32 | 391 => 13#32
  | 392 => 15#32 | 393 => 13#32 | 394 => 16#32 | 395 => 13#32 | 396 => 17#32 | 397 => 13#32 | 398 => 18#32 | 399 => 13#32
  | 400 => 19#32 | 401 => 13#32 | 402 => 20#32 | 403 => 13#32 | 404 => 21#32 | 405 => 13#32 | 406 => 15#32 | 407 => 14#32
  | 408 => 16#32 | 409 => 14#32 | 410 => 17#32 | 411 => 14#32 | 412 => 18#32 | 413 => 14#32 | 414 => 19#32 | 415 => 14#32
  | 416 => 20#32 | 417 => 14#32 | 418 => 21#32 | 419 => 14#32 | 420 => 16#32 | 421 => 15#32 | 422 => 17#32 | 423 => 15#32
  | 424 => 18#32 | 425 => 15#32 | 426 => 19#32 | 427 => 15#32 | 428 => 20#32 | 429 => 15#32 | 430 => 21#32 | 431 => 15#32
  | 432 => 17#32 | 433 => 16#32 | 434 => 18#32 | 435 => 16#32 | 436 => 19#32 | 437 => 16#32 | 438 => 20#32 | 439 => 16#32
  | 440 => 21#32 | 441 => 16#32 | 442 => 18#32 | 443 => 17#32 | 444 => 19#32 | 445 => 17#32 | 446 => 20#32 | 447 => 17#32
  | 448 => 21#32 | 449 => 17#32 | 450 => 19#32 | 451 => 18#32 | 452 => 20#32 | 453 => 18#32 | 454 => 21#32 | 455 => 18#32
  | 456 => 20#32 | 457 => 19#32 | 458 => 21#32 | 459 => 19#32 | 460 => 21#32 | 461 => 20#32
  | _ => 0#32

def fn_part5 {F : FTy → Type} [FloatOps F] (main_arg17 : FVec F S4x64 .f32) (main_arg18 : FVec F S4x64x1 .f32) (main_v86 : IVec S_ 1) (main_v87 : FVec F S4x64x64 .f32) (main_v88 : FVec F S4x64x64 .f32) : IVec S_ 1 :=
  let main_v89 : IVec S4x64x64 1 := cmpf .olt main_v87 main_v88
  let main_c_29 : IVec S_ 1 := constantI S_ 1 1#1
  let main_v90 : IVec S_ 1 := (fun x v => Host.reduce IntOp.andi x v reducesTo_S4x64x64_S_d0_1_2 h_S_) main_v89 main_c_29
  let main_v91 : IVec S_ 1 := andi main_v86 main_v90
  let main_v92 : FVec F S4x64 .f32 := Host.absf main_arg17
  let main_cst_30 : FVec F S_ .f32 := constant S_ .f32 0x7F800000#32
  let main_v93 : FVec F S4x64 .f32 := broadcastInDim S4x64 ![] bcast_S_S4x64 main_cst_30
  let main_v94 : IVec S4x64 1 := cmpf .olt main_v92 main_v93
  let main_c_31 : IVec S_ 1 := constantI S_ 1 1#1
  let main_v95 : IVec S_ 1 := (fun x v => Host.reduce IntOp.andi x v reducesTo_S4x64_S_d0_1 h_S_) main_v94 main_c_31
  let main_v96 : IVec S_ 1 := andi main_v91 main_v95
  let main_v97 : FVec F S4x64x1 .f32 := Host.absf main_arg18
  let main_cst_32 : FVec F S_ .f32 := constant S_ .f32 0x7F800000#32
  let main_v98 : FVec F S4x64x1 .f32 := broadcastInDim S4x64x1 ![] bcast_S_S4x64x1 main_cst_32
  let main_v99 : IVec S4x64x1 1 := cmpf .olt main_v97 main_v98
  let main_c_33 : IVec S_ 1 := constantI S_ 1 1#1
  let main_v100 : IVec S_ 1 := (fun x v => Host.reduce IntOp.andi x v reducesTo_S4x64x1_S_d0_1_2 h_S_) main_v99 main_c_33
  let main_v101 : IVec S_ 1 := andi main_v96 main_v100
  main_v101

def fn_part4 {F : FTy → Type} [FloatOps F] (main_arg16 : FVec F S4x64x64 .f32) (main_arg17 : FVec F S4x64 .f32) (main_arg18 : FVec F S4x64x1 .f32) (main_v19 : FVec F S3x64 .f32) (main_v20 : FVec F S3x64x64 .f32) (main_v21 : FVec F S3x64 .f32) (main_v71 : IVec S_ 1) : IVec S_ 1 :=
  let main_v72 : FVec F S3x64 .f32 := Host.absf main_v19
  let main_cst_22 : FVec F S_ .f32 := constant S_ .f32 0x7F800000#32
  let main_v73 : FVec F S3x64 .f32 := broadcastInDim S3x64 ![] bcast_S_S3x64 main_cst_22
  let main_v74 : IVec S3x64 1 := cmpf .olt main_v72 main_v73
  let main_c_23 : IVec S_ 1 := constantI S_ 1 1#1
  let main_v75 : IVec S_ 1 := (fun x v => Host.reduce IntOp.andi x v reducesTo_S3x64_S_d0_1 h_S_) main_v74 main_c_23
  let main_v76 : IVec S_ 1 := andi main_v71 main_v75
  let main_v77 : FVec F S3x64x64 .f32 := Host.absf main_v20
  let main_cst_24 : FVec F S_ .f32 := constant S_ .f32 0x7F800000#32
  let main_v78 : FVec F S3x64x64 .f32 := broadcastInDim S3x64x64 ![] bcast_S_S3x64x64 main_cst_24
  let main_v79 : IVec S3x64x64 1 := cmpf .olt main_v77 main_v78
  let main_c_25 : IVec S_ 1 := constantI S_ 1 1#1
  let main_v80 : IVec S_ 1 := (fun x v => Host.reduce IntOp.andi x v reducesTo_S3x64x64_S_d0_1_2 h_S_) main_v79 main_c_25
  let main_v81 : IVec S_ 1 := andi main_v76 main_v80
  let main_v82 : FVec F S3x64 .f32 := Host.absf main_v21
  let main_cst_26 : FVec F S_ .f32 := constant S_ .f32 0x7F800000#32
  let main_v83 : FVec F S3x64 .f32 := broadcastInDim S3x64 ![] bcast_S_S3x64 main_cst_26
  let main_v84 : IVec S3x64 1 := cmpf .olt main_v82 main_v83
  let main_c_27 : IVec S_ 1 := constantI S_ 1 1#1
  let main_v85 : IVec S_ 1 := (fun x v => Host.reduce IntOp.andi x v reducesTo_S3x64_S_d0_1 h_S_) main_v84 main_c_27
  let main_v86 : IVec S_ 1 := andi main_v81 main_v85
  let main_v87 : FVec F S4x64x64 .f32 := Host.absf main_arg16
  let main_cst_28 : FVec F S_ .f32 := constant S_ .f32 0x7F800000#32
  let main_v88 : FVec F S4x64x64 .f32 := broadcastInDim S4x64x64 ![] bcast_S_S4x64x64 main_cst_28
  fn_part5 (F := F) main_arg17 main_arg18 main_v86 main_v87 main_v88

def fn_part3 {F : FTy → Type} [FloatOps F] (main_arg10 : FVec F S4x64x64 .f32) (main_arg11 : FVec F S4x64 .f32) (main_arg16 : FVec F S4x64x64 .f32) (main_arg17 : FVec F S4x64 .f32) (main_arg18 : FVec F S4x64x1 .f32) (main_v18 : FVec F S3x128x64 .f32) (main_v19 : FVec F S3x64 .f32) (main_v20 : FVec F S3x64x64 .f32) (main_v21 : FVec F S3x64 .f32) (main_v51 : IVec S_ 1) (main_v54 : IVec S4x64 1) : IVec S_ 1 :=
  let main_c_15 : IVec S_ 1 := constantI S_ 1 1#1
  let main_v55 : IVec S_ 1 := (fun x v => Host.reduce IntOp.andi x v reducesTo_S4x64_S_d0_1 h_S_) main_v54 main_c_15
  let main_v56 : IVec S_ 1 := andi main_v51 main_v55
  let main_v57 : FVec F S4x64x64 .f32 := Host.absf main_arg10
  let main_cst_16 : FVec F S_ .f32 := constant S_ .f32 0x7F800000#32
  let main_v58 : FVec F S4x64x64 .f32 := broadcastInDim S4x64x64 ![] bcast_S_S4x64x64 main_cst_16
  let main_v59 : IVec S4x64x64 1 := cmpf .olt main_v57 main_v58
  let main_c_17 : IVec S_ 1 := constantI S_ 1 1#1
  let main_v60 : IVec S_ 1 := (fun x v => Host.reduce IntOp.andi x v reducesTo_S4x64x64_S_d0_1_2 h_S_) main_v59 main_c_17
  let main_v61 : IVec S_ 1 := andi main_v56 main_v60
  let main_v62 : FVec F S4x64 .f32 := Host.absf main_arg11
  let main_cst_18 : FVec F S_ .f32 := constant S_ .f32 0x7F800000#32
  let main_v63 : FVec F S4x64 .f32 := broadcastInDim S4x64 ![] bcast_S_S4x64 main_cst_18
  let main_v64 : IVec S4x64 1 := cmpf .olt main_v62 main_v63
  let main_c_19 : IVec S_ 1 := constantI S_ 1 1#1
  let main_v65 : IVec S_ 1 := (fun x v => Host.reduce IntOp.andi x v reducesTo_S4x64_S_d0_1 h_S_) main_v64 main_c_19
  let main_v66 : IVec S_ 1 := andi main_v61 main_v65
  let main_v67 : FVec F S3x128x64 .f32 := Host.absf main_v18
  let main_cst_20 : FVec F S_ .f32 := constant S_ .f32 0x7F800000#32
  let main_v68 : FVec F S3x128x64 .f32 := broadcastInDim S3x128x64 ![] bcast_S_S3x128x64 main_cst_20
  let main_v69 : IVec S3x128x64 1 := cmpf .olt main_v67 main_v68
  let main_c_21 : IVec S_ 1 := constantI S_ 1 1#1
  let main_v70 : IVec S_ 1 := (fun x v => Host.reduce IntOp.andi x v reducesTo_S3x128x64_S_d0_1_2 h_S_) main_v69 main_c_21
  let main_v71 : IVec S_ 1 := andi main_v66 main_v70
  fn_part4 (F := F) main_arg16 main_arg17 main_arg18 main_v19 main_v20 main_v21 main_v71

def fn_part2 {F : FTy → Type} [FloatOps F] (main_arg5 : FVec F S64 .f32) (main_arg8 : FVec F S4x130x64 .f32) (main_arg9 : FVec F S4x64 .f32) (main_arg10 : FVec F S4x64x64 .f32) (main_arg11 : FVec F S4x64 .f32) (main_arg16 : FVec F S4x64x64 .f32) (main_arg17 : FVec F S4x64 .f32) (main_arg18 : FVec F S4x64x1 .f32) (main_v18 : FVec F S3x128x64 .f32) (main_v19 : FVec F S3x64 .f32) (main_v20 : FVec F S3x64x64 .f32) (main_v21 : FVec F S3x64 .f32) (main_v36 : IVec S_ 1) (main_v37 : FVec F S5x64 .f32) : IVec S_ 1 :=
  let main_cst_8 : FVec F S_ .f32 := constant S_ .f32 0x7F800000#32
  let main_v38 : FVec F S5x64 .f32 := broadcastInDim S5x64 ![] bcast_S_S5x64 main_cst_8
  let main_v39 : IVec S5x64 1 := cmpf .olt main_v37 main_v38
  let main_c_9 : IVec S_ 1 := constantI S_ 1 1#1
  let main_v40 : IVec S_ 1 := (fun x v => Host.reduce IntOp.andi x v reducesTo_S5x64_S_d0_1 h_S_) main_v39 main_c_9
  let main_v41 : IVec S_ 1 := andi main_v36 main_v40
  let main_v42 : FVec F S64 .f32 := Host.absf main_arg5
  let main_cst_10 : FVec F S_ .f32 := constant S_ .f32 0x7F800000#32
  let main_v43 : FVec F S64 .f32 := broadcastInDim S64 ![] bcast_S_S64 main_cst_10
  let main_v44 : IVec S64 1 := cmpf .olt main_v42 main_v43
  let main_c_11 : IVec S_ 1 := constantI S_ 1 1#1
  let main_v45 : IVec S_ 1 := (fun x v => Host.reduce IntOp.andi x v reducesTo_S64_S_d0 h_S_) main_v44 main_c_11
  let main_v46 : IVec S_ 1 := andi main_v41 main_v45
  let main_v47 : FVec F S4x130x64 .f32 := Host.absf main_arg8
  let main_cst_12 : FVec F S_ .f32 := constant S_ .f32 0x7F800000#32
  let main_v48 : FVec F S4x130x64 .f32 := broadcastInDim S4x130x64 ![] bcast_S_S4x130x64 main_cst_12
  let main_v49 : IVec S4x130x64 1 := cmpf .olt main_v47 main_v48
  let main_c_13 : IVec S_ 1 := constantI S_ 1 1#1
  let main_v50 : IVec S_ 1 := (fun x v => Host.reduce IntOp.andi x v reducesTo_S4x130x64_S_d0_1_2 h_S_) main_v49 main_c_13
  let main_v51 : IVec S_ 1 := andi main_v46 main_v50
  let main_v52 : FVec F S4x64 .f32 := Host.absf main_arg9
  let main_cst_14 : FVec F S_ .f32 := constant S_ .f32 0x7F800000#32
  let main_v53 : FVec F S4x64 .f32 := broadcastInDim S4x64 ![] bcast_S_S4x64 main_cst_14
  let main_v54 : IVec S4x64 1 := cmpf .olt main_v52 main_v53
  fn_part3 (F := F) main_arg10 main_arg11 main_arg16 main_arg17 main_arg18 main_v18 main_v19 main_v20 main_v21 main_v51 main_v54

def fn_part1 {F : FTy → Type} [FloatOps F] (main_arg0 : FVec F S1024x1 .f32) (main_arg1 : FVec F S1024x66 .f32) (main_arg2 : FVec F S22x4 .f32) (main_arg4 : FVec F S5x64 .f32) (main_arg5 : FVec F S64 .f32) (main_arg8 : FVec F S4x130x64 .f32) (main_arg9 : FVec F S4x64 .f32) (main_arg10 : FVec F S4x64x64 .f32) (main_arg11 : FVec F S4x64 .f32) (main_arg14 : FVec F S4x64x64 .f32) (main_arg15 : FVec F S4x64 .f32) (main_arg16 : FVec F S4x64x64 .f32) (main_arg17 : FVec F S4x64 .f32) (main_arg18 : FVec F S4x64x1 .f32) (main_v17 : IVec S_ 1) (main_v18 : FVec F S3x128x64 .f32) (main_v19 : FVec F S3x64 .f32) : IVec S_ 1 :=
  let main_v20 : FVec F S3x64x64 .f32 := (extractStridedSlice S3x64x64 ![0, 0, 0] · slices_S4x64x64_S3x64x64_0_0_0) main_arg14
  let main_v21 : FVec F S3x64 .f32 := (extractStridedSlice S3x64 ![0, 0] · slices_S4x64_S3x64_0_0) main_arg15
  let main_v22 : FVec F S1024x1 .f32 := Host.absf main_arg0
  let main_cst : FVec F S_ .f32 := constant S_ .f32 0x7F800000#32
  let main_v23 : FVec F S1024x1 .f32 := broadcastInDim S1024x1 ![] bcast_S_S1024x1 main_cst
  let main_v24 : IVec S1024x1 1 := cmpf .olt main_v22 main_v23
  let main_c_3 : IVec S_ 1 := constantI S_ 1 1#1
  let main_v25 : IVec S_ 1 := (fun x v => Host.reduce IntOp.andi x v reducesTo_S1024x1_S_d0_1 h_S_) main_v24 main_c_3
  let main_v26 : IVec S_ 1 := andi main_v17 main_v25
  let main_v27 : FVec F S1024x66 .f32 := Host.absf main_arg1
  let main_cst_4 : FVec F S_ .f32 := constant S_ .f32 0x7F800000#32
  let main_v28 : FVec F S1024x66 .f32 := broadcastInDim S1024x66 ![] bcast_S_S1024x66 main_cst_4
  let main_v29 : IVec S1024x66 1 := cmpf .olt main_v27 main_v28
  let main_c_5 : IVec S_ 1 := constantI S_ 1 1#1
  let main_v30 : IVec S_ 1 := (fun x v => Host.reduce IntOp.andi x v reducesTo_S1024x66_S_d0_1 h_S_) main_v29 main_c_5
  let main_v31 : IVec S_ 1 := andi main_v26 main_v30
  let main_v32 : FVec F S22x4 .f32 := Host.absf main_arg2
  let main_cst_6 : FVec F S_ .f32 := constant S_ .f32 0x7F800000#32
  let main_v33 : FVec F S22x4 .f32 := broadcastInDim S22x4 ![] bcast_S_S22x4 main_cst_6
  let main_v34 : IVec S22x4 1 := cmpf .olt main_v32 main_v33
  let main_c_7 : IVec S_ 1 := constantI S_ 1 1#1
  let main_v35 : IVec S_ 1 := (fun x v => Host.reduce IntOp.andi x v reducesTo_S22x4_S_d0_1 h_S_) main_v34 main_c_7
  let main_v36 : IVec S_ 1 := andi main_v31 main_v35
  let main_v37 : FVec F S5x64 .f32 := Host.absf main_arg4
  fn_part2 (F := F) main_arg5 main_arg8 main_arg9 main_arg10 main_arg11 main_arg16 main_arg17 main_arg18 main_v18 main_v19 main_v20 main_v21 main_v36 main_v37

def fn {F : FTy → Type} [FloatOps F] (main_arg0 : FVec F S1024x1 .f32) (main_arg1 : FVec F S1024x66 .f32) (main_arg2 : FVec F S22x4 .f32) (main_arg3 : IVec S2x473088 32) (main_arg4 : FVec F S5x64 .f32) (main_arg5 : FVec F S64 .f32) (main_arg6 : FVec F S64x5 .f32) (main_arg7 : FVec F S5 .f32) (main_arg8 : FVec F S4x130x64 .f32) (main_arg9 : FVec F S4x64 .f32) (main_arg10 : FVec F S4x64x64 .f32) (main_arg11 : FVec F S4x64 .f32) (main_arg12 : FVec F S4x128x64 .f32) (main_arg13 : FVec F S4x64 .f32) (main_arg14 : FVec F S4x64x64 .f32) (main_arg15 : FVec F S4x64 .f32) (main_arg16 : FVec F S4x64x64 .f32) (main_arg17 : FVec F S4x64 .f32) (main_arg18 : FVec F S4x64x1 .f32) : IVec S_ 1 :=
  let main_c : IVec S462 32 := fun i => lit0 (S462.rowMajor i)
  let main_c_0 : IVec S462 32 := fun i => lit1 (S462.rowMajor i)
  let main_v0 : IVec S1024x1 32 := iotaInDim S1024x1 32 0
  let main_c_1 : IVec S_ 32 := constantI S_ 32 22#32
  let main_v1 : IVec S1024x1 32 := broadcastInDim S1024x1 ![] bcast_S_S1024x1 main_c_1
  let main_v2 : IVec S1024x1 32 := muli main_v0 main_v1
  let main_v3 : IVec S1x462 32 := broadcastInDim S1x462 ![1] bcast_S462_S1x462_1 main_c
  let main_v4 : IVec S1024x462 32 := broadcastInDim S1024x462 ![0, 1] bcast_S1x462_S1024x462_0_1 main_v3
  let main_v5 : IVec S1024x462 32 := broadcastInDim S1024x462 ![0, 1] bcast_S1024x1_S1024x462_0_1 main_v2
  let main_v6 : IVec S1024x462 32 := addi main_v4 main_v5
  let main_v7 : IVec S473088 32 := shapeCast S473088 main_v6 shapeCasts_S1024x462_S473088
  let main_v8 : IVec S1x462 32 := broadcastInDim S1x462 ![1] bcast_S462_S1x462_1 main_c_0
  let main_v9 : IVec S1024x462 32 := broadcastInDim S1024x462 ![0, 1] bcast_S1x462_S1024x462_0_1 main_v8
  let main_v10 : IVec S1024x462 32 := broadcastInDim S1024x462 ![0, 1] bcast_S1024x1_S1024x462_0_1 main_v2
  let main_v11 : IVec S1024x462 32 := addi main_v9 main_v10
  let main_v12 : IVec S473088 32 := shapeCast S473088 main_v11 shapeCasts_S1024x462_S473088
  let main_v13 : IVec S1x473088 32 := broadcastInDim S1x473088 ![1] bcast_S473088_S1x473088_1 main_v7
  let main_v14 : IVec S1x473088 32 := broadcastInDim S1x473088 ![1] bcast_S473088_S1x473088_1 main_v12
  let main_v15 : IVec S2x473088 32 := (fun a b => concatenate S2x473088 0 [⟨S1x473088, a⟩, ⟨S1x473088, b⟩] concatenates_S1x473088_S1x473088_S2x473088_d0) main_v13 main_v14
  let main_v16 : IVec S2x473088 1 := cmpi .eq main_arg3 main_v15
  let main_c_2 : IVec S_ 1 := constantI S_ 1 1#1
  let main_v17 : IVec S_ 1 := (fun x v => Host.reduce IntOp.andi x v reducesTo_S2x473088_S_d0_1 h_S_) main_v16 main_c_2
  let main_v18 : FVec F S3x128x64 .f32 := (extractStridedSlice S3x128x64 ![0, 0, 0] · slices_S4x128x64_S3x128x64_0_0_0) main_arg12
  let main_v19 : FVec F S3x64 .f32 := (extractStridedSlice S3x64 ![0, 0] · slices_S4x64_S3x64_0_0) main_arg13
  fn_part1 (F := F) main_arg0 main_arg1 main_arg2 main_arg4 main_arg5 main_arg8 main_arg9 main_arg10 main_arg11 main_arg14 main_arg15 main_arg16 main_arg17 main_arg18 main_v17 main_v18 main_v19
-- ==== Kernel.lean ====
abbrev S1024x1 : Shape := ⟨2, ![1024, 1]⟩
abbrev S1024x66 : Shape := ⟨2, ![1024, 66]⟩
abbrev S22x4 : Shape := ⟨2, ![22, 4]⟩
abbrev S2x473088 : Shape := ⟨2, ![2, 473088]⟩
abbrev S5x64 : Shape := ⟨2, ![5, 64]⟩
abbrev S64 : Shape := ⟨1, ![64]⟩
abbrev S64x5 : Shape := ⟨2, ![64, 5]⟩
abbrev S5 : Shape := ⟨1, ![5]⟩
abbrev S4x130x64 : Shape := ⟨3, ![4, 130, 64]⟩
abbrev S4x64 : Shape := ⟨2, ![4, 64]⟩
abbrev S4x64x64 : Shape := ⟨3, ![4, 64, 64]⟩
abbrev S4x128x64 : Shape := ⟨3, ![4, 128, 64]⟩
abbrev S4x64x1 : Shape := ⟨3, ![4, 64, 1]⟩
abbrev S6x2 : Shape := ⟨2, ![6, 2]⟩
abbrev S2x128 : Shape := ⟨2, ![2, 128]⟩
abbrev S1024x22x3 : Shape := ⟨3, ![1024, 22, 3]⟩
abbrev S_ : Shape := ⟨0, ![]⟩
abbrev S1024x24x3 : Shape := ⟨3, ![1024, 24, 3]⟩
abbrev S512x2x24x3 : Shape := ⟨4, ![512, 2, 24, 3]⟩
abbrev S512x24x2x3 : Shape := ⟨4, ![512, 24, 2, 3]⟩
abbrev S512x24x6 : Shape := ⟨3, ![512, 24, 6]⟩
abbrev S512x2 : Shape := ⟨2, ![512, 2]⟩
abbrev S24x4 : Shape := ⟨2, ![24, 4]⟩
abbrev S1x64 : Shape := ⟨2, ![1, 64]⟩
abbrev S4x64x128 : Shape := ⟨3, ![4, 64, 128]⟩
abbrev S4x128x128 : Shape := ⟨3, ![4, 128, 128]⟩
abbrev S4x1x64 : Shape := ⟨3, ![4, 1, 64]⟩
abbrev S4x1x128 : Shape := ⟨3, ![4, 1, 128]⟩
abbrev S4x2x128 : Shape := ⟨3, ![4, 2, 128]⟩
abbrev S1x4x1x64x1x1 : Shape := ⟨6, ![1, 4, 1, 64, 1, 1]⟩
abbrev S1x4x1x64x3x1 : Shape := ⟨6, ![1, 4, 1, 64, 3, 1]⟩
abbrev S4x64x3 : Shape := ⟨3, ![4, 64, 3]⟩
abbrev S4x64x6 : Shape := ⟨3, ![4, 64, 6]⟩
abbrev S4x128x6 : Shape := ⟨3, ![4, 128, 6]⟩
abbrev S16x2 : Shape := ⟨2, ![16, 2]⟩
abbrev S16x24x6 : Shape := ⟨3, ![16, 24, 6]⟩
abbrev S24x64 : Shape := ⟨2, ![24, 64]⟩
abbrev S24x128 : Shape := ⟨2, ![24, 128]⟩
abbrev S16x128 : Shape := ⟨2, ![16, 128]⟩
abbrev S1x128 : Shape := ⟨2, ![1, 128]⟩
abbrev S1x24x128 : Shape := ⟨3, ![1, 24, 128]⟩
abbrev S16x24x128 : Shape := ⟨3, ![16, 24, 128]⟩
abbrev S16x1x128 : Shape := ⟨3, ![16, 1, 128]⟩
abbrev S1x1x128 : Shape := ⟨3, ![1, 1, 128]⟩
abbrev S384x128 : Shape := ⟨2, ![384, 128]⟩
abbrev S1x24x1 : Shape := ⟨3, ![1, 24, 1]⟩
abbrev S16x24x1x6 : Shape := ⟨4, ![16, 24, 1, 6]⟩
abbrev S16x24x24x6 : Shape := ⟨4, ![16, 24, 24, 6]⟩
abbrev S16x1x24x6 : Shape := ⟨4, ![16, 1, 24, 6]⟩
abbrev S9216x6 : Shape := ⟨2, ![9216, 6]⟩
abbrev S9216x2 : Shape := ⟨2, ![9216, 2]⟩
abbrev S1x128x128 : Shape := ⟨3, ![1, 128, 128]⟩
abbrev S128x128 : Shape := ⟨2, ![128, 128]⟩
abbrev S1x128x6 : Shape := ⟨3, ![1, 128, 6]⟩
abbrev S128x6 : Shape := ⟨2, ![128, 6]⟩
abbrev S1x6 : Shape := ⟨2, ![1, 6]⟩
abbrev S16x24x1x128 : Shape := ⟨4, ![16, 24, 1, 128]⟩
abbrev S16x24x24x128 : Shape := ⟨4, ![16, 24, 24, 128]⟩
abbrev S9216x128 : Shape := ⟨2, ![9216, 128]⟩
abbrev S16x1x24x128 : Shape := ⟨4, ![16, 1, 24, 128]⟩
abbrev S1x2x128 : Shape := ⟨3, ![1, 2, 128]⟩
abbrev S1x1x6 : Shape := ⟨3, ![1, 1, 6]⟩
abbrev S16x6 : Shape := ⟨2, ![16, 6]⟩
abbrev S16x1x6 : Shape := ⟨3, ![16, 1, 6]⟩

abbrev nBuf : Space → Nat
  | .hbm => 148
  | .vmem => 27
  | .smem => 0
  | _ => 0

abbrev hbmTy0_0 (i : Nat) : BufTy := match i % 128 with
  | 0 => ⟨S1024x1, .f32⟩
  | 1 => ⟨S1024x66, .f32⟩
  | 2 => ⟨S22x4, .f32⟩
  | 3 => ⟨S2x473088, .i32⟩
  | 4 => ⟨S5x64, .f32⟩
  | 5 => ⟨S64, .f32⟩
  | 6 => ⟨S64x5, .f32⟩
  | 7 => ⟨S5, .f32⟩
  | 8 => ⟨S4x130x64, .f32⟩
  | 9 => ⟨S4x64, .f32⟩
  | 10 => ⟨S4x64x64, .f32⟩
  | 11 => ⟨S4x64, .f32⟩
  | 12 => ⟨S4x128x64, .f32⟩
  | 13 => ⟨S4x64, .f32⟩
  | 14 => ⟨S4x64x64, .f32⟩
  | 15 => ⟨S4x64, .f32⟩
  | 16 => ⟨S4x64x64, .f32⟩
  | 17 => ⟨S4x64, .f32⟩
  | 18 => ⟨S4x64x1, .f32⟩
  | 19 => ⟨S6x2, .f32⟩
  | 20 => ⟨S2x128, .f32⟩
  | 21 => ⟨S1024x22x3, .f32⟩
  | 22 => ⟨S_, .i32⟩
  | 23 => ⟨S_, .f32⟩
  | 24 => ⟨S1024x24x3, .f32⟩
  | 25 => ⟨S512x2x24x3, .f32⟩
  | 26 => ⟨S512x24x2x3, .f32⟩
  | 27 => ⟨S512x24x6, .f32⟩
  | 28 => ⟨S512x2, .f32⟩
  | 29 => ⟨S_, .i32⟩
  | 30 => ⟨S_, .f32⟩
  | 31 => ⟨S24x4, .f32⟩
  | 32 => ⟨S4x64, .f32⟩
  | 33 => ⟨S1x64, .f32⟩
  | 34 => ⟨S1x64, .bf16⟩
  | 35 => ⟨S1x64, .f32⟩
  | 36 => ⟨S1x64, .f32⟩
  | 37 => ⟨S4x64x64, .f32⟩
  | 38 => ⟨S_, .f32⟩
  | 39 => ⟨S4x64x64, .f32⟩
  | 40 => ⟨S4x64x64, .f32⟩
  | 41 => ⟨S_, .f32⟩
  | 42 => ⟨S4x64x64, .f32⟩
  | 43 => ⟨S4x64x128, .f32⟩
  | 44 => ⟨S4x64x128, .f32⟩
  | 45 => ⟨S4x128x128, .f32⟩
  | 46 => ⟨S4x64x64, .f32⟩
  | 47 => ⟨S_, .f32⟩
  | 48 => ⟨S4x64x64, .f32⟩
  | 49 => ⟨S4x64x64, .f32⟩
  | 50 => ⟨S_, .f32⟩
  | 51 => ⟨S4x64x64, .f32⟩
  | 52 => ⟨S4x64x128, .f32⟩
  | 53 => ⟨S4x64x128, .f32⟩
  | 54 => ⟨S4x128x128, .f32⟩
  | 55 => ⟨S4x1x64, .f32⟩
  | 56 => ⟨S_, .f32⟩
  | 57 => ⟨S4x1x64, .f32⟩
  | 58 => ⟨S4x1x64, .f32⟩
  | 59 => ⟨S_, .f32⟩
  | 60 => ⟨S4x1x64, .f32⟩
  | 61 => ⟨S4x1x128, .f32⟩
  | 62 => ⟨S4x1x128, .f32⟩
  | 63 => ⟨S4x2x128, .f32⟩
  | 64 => ⟨S4x1x64, .f32⟩
  | 65 => ⟨S_, .f32⟩
  | 66 => ⟨S4x1x64, .f32⟩
  | 67 => ⟨S4x1x64, .f32⟩
  | 68 => ⟨S_, .f32⟩
  | 69 => ⟨S4x1x64, .f32⟩
  | 70 => ⟨S4x1x128, .f32⟩
  | 71 => ⟨S4x1x128, .f32⟩
  | 72 => ⟨S4x2x128, .f32⟩
  | 73 => ⟨S4x1x64, .f32⟩
  | 74 => ⟨S_, .f32⟩
  | 75 => ⟨S4x1x64, .f32⟩
  | 76 => ⟨S4x1x64, .f32⟩
  | 77 => ⟨S4x1x128, .f32⟩
  | 78 => ⟨S_, .f32⟩
  | 79 => ⟨S4x64x64, .f32⟩
  | 80 => ⟨S4x64x64, .f32⟩
  | 81 => ⟨S_, .f32⟩
  | 82 => ⟨S4x64x64, .f32⟩
  | 83 => ⟨S4x64x128, .f32⟩
  | 84 => ⟨S4x64x128, .f32⟩
  | 85 => ⟨S4x128x128, .f32⟩
  | 86 => ⟨S4x1x64, .f32⟩
  | 87 => ⟨S_, .f32⟩
  | 88 => ⟨S4x1x64, .f32⟩
  | 89 => ⟨S4x1x64, .f32⟩
  | 90 => ⟨S4x1x128, .f32⟩
  | 91 => ⟨S_, .f32⟩
  | 92 => ⟨S4x64x64, .f32⟩
  | 93 => ⟨S4x64x64, .f32⟩
  | 94 => ⟨S_, .f32⟩
  | 95 => ⟨S4x64x64, .f32⟩
  | 96 => ⟨S4x64x128, .f32⟩
  | 97 => ⟨S4x64x128, .f32⟩
  | 98 => ⟨S4x128x128, .f32⟩
  | 99 => ⟨S4x1x64, .f32⟩
  | 100 => ⟨S_, .f32⟩
  | 101 => ⟨S4x1x64, .f32⟩
  | 102 => ⟨S4x1x64, .f32⟩
  | 103 => ⟨S4x1x128, .f32⟩
  | 104 => ⟨S1x4x1x64x1x1, .f32⟩
  | 105 => ⟨S1x4x1x64x3x1, .f32⟩
  | 106 => ⟨S4x64x3, .f32⟩
  | 107 => ⟨S_, .f32⟩
  | 108 => ⟨S4x64x3, .f32⟩
  | 109 => ⟨S4x64x6, .f32⟩
  | 110 => ⟨S4x64x6, .f32⟩
  | 111 => ⟨S4x128x6, .f32⟩
  | 112 => ⟨S4x64x64, .f32⟩
  | 113 => ⟨S_, .f32⟩
  | 114 => ⟨S4x64x64, .f32⟩
  | 115 => ⟨S4x64x64, .f32⟩
  | 116 => ⟨S_, .f32⟩
  | 117 => ⟨S4x64x64, .f32⟩
  | 118 => ⟨S4x64x128, .f32⟩
  | 119 => ⟨S4x64x128, .f32⟩
  | 120 => ⟨S4x128x128, .f32⟩
  | 121 => ⟨S4x64x64, .f32⟩
  | 122 => ⟨S_, .f32⟩
  | 123 => ⟨S4x64x64, .f32⟩
  | 124 => ⟨S4x64x64, .f32⟩
  | 125 => ⟨S_, .f32⟩
  | 126 => ⟨S4x64x64, .f32⟩
  | 127 => ⟨S4x64x128, .f32⟩
  | _ => ⟨S1024x1, .f32⟩

abbrev hbmTy0_1 (i : Nat) : BufTy := match i % 128 with
  | 0 => ⟨S4x64x128, .f32⟩
  | 1 => ⟨S4x128x128, .f32⟩
  | 2 => ⟨S4x1x64, .f32⟩
  | 3 => ⟨S_, .f32⟩
  | 4 => ⟨S4x1x64, .f32⟩
  | 5 => ⟨S4x1x64, .f32⟩
  | 6 => ⟨S4x1x128, .f32⟩
  | 7 => ⟨S_, .f32⟩
  | 8 => ⟨S4x64x64, .f32⟩
  | 9 => ⟨S4x64x128, .f32⟩
  | 10 => ⟨S4x64x128, .f32⟩
  | 11 => ⟨S4x128x128, .f32⟩
  | 12 => ⟨S4x1x64, .f32⟩
  | 13 => ⟨S4x1x128, .f32⟩
  | 14 => ⟨S512x24x6, .f32⟩
  | 15 => ⟨S512x24x2x3, .f32⟩
  | 16 => ⟨S512x2x24x3, .f32⟩
  | 17 => ⟨S1024x24x3, .f32⟩
  | 18 => ⟨S1024x22x3, .f32⟩
  | 19 => ⟨S1024x66, .f32⟩
  | _ => ⟨S1024x1, .f32⟩

abbrev hbmTy (i : Nat) : BufTy := match i / 128 with
  | 0 => hbmTy0_0 i
  | 1 => hbmTy0_1 i
  | _ => ⟨S1024x1, .f32⟩

abbrev bufTy : (tb : Table) → Fin (tcTables nBuf tb) → BufTy
  | .hbm, ⟨i, _⟩ => hbmTy i
  | .local _ .vmem, ⟨0, _⟩ => ⟨S16x2, .f32⟩
  | .local _ .vmem, ⟨1, _⟩ => ⟨S16x2, .f32⟩
  | .local _ .vmem, ⟨2, _⟩ => ⟨S16x24x6, .f32⟩
  | .local _ .vmem, ⟨3, _⟩ => ⟨S16x24x6, .f32⟩
  | .local _ .vmem, ⟨4, _⟩ => ⟨S24x4, .f32⟩
  | .local _ .vmem, ⟨5, _⟩ => ⟨S4x64, .f32⟩
  | .local _ .vmem, ⟨6, _⟩ => ⟨S1x64, .f32⟩
  | .local _ .vmem, ⟨7, _⟩ => ⟨S1x64, .f32⟩
  | .local _ .vmem, ⟨8, _⟩ => ⟨S6x2, .f32⟩
  | .local _ .vmem, ⟨9, _⟩ => ⟨S2x128, .f32⟩
  | .local _ .vmem, ⟨10, _⟩ => ⟨S4x128x128, .f32⟩
  | .local _ .vmem, ⟨11, _⟩ => ⟨S4x128x128, .f32⟩
  | .local _ .vmem, ⟨12, _⟩ => ⟨S4x2x128, .f32⟩
  | .local _ .vmem, ⟨13, _⟩ => ⟨S4x2x128, .f32⟩
  | .local _ .vmem, ⟨14, _⟩ => ⟨S4x1x128, .f32⟩
  | .local _ .vmem, ⟨15, _⟩ => ⟨S4x128x128, .f32⟩
  | .local _ .vmem, ⟨16, _⟩ => ⟨S4x1x128, .f32⟩
  | .local _ .vmem, ⟨17, _⟩ => ⟨S4x128x128, .f32⟩
  | .local _ .vmem, ⟨18, _⟩ => ⟨S4x1x128, .f32⟩
  | .local _ .vmem, ⟨19, _⟩ => ⟨S4x128x6, .f32⟩
  | .local _ .vmem, ⟨20, _⟩ => ⟨S4x128x128, .f32⟩
  | .local _ .vmem, ⟨21, _⟩ => ⟨S4x128x128, .f32⟩
  | .local _ .vmem, ⟨22, _⟩ => ⟨S4x1x128, .f32⟩
  | .local _ .vmem, ⟨23, _⟩ => ⟨S4x128x128, .f32⟩
  | .local _ .vmem, ⟨24, _⟩ => ⟨S4x1x128, .f32⟩
  | .local _ .vmem, ⟨25, _⟩ => ⟨S16x24x6, .f32⟩
  | .local _ .vmem, ⟨26, _⟩ => ⟨S16x24x6, .f32⟩
  | _, _ => ⟨S1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_call1_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_8 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_10 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_v45 : Ref sig .tc := ⟨.hbm, 80, rfl⟩
abbrev main_cst_12 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_13 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_cst_15 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_16 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_v72 : Ref sig .tc := ⟨.hbm, 114, rfl⟩
abbrev main_v73 : Ref sig .tc := ⟨.hbm, 115, rfl⟩
abbrev main_cst_19 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_20 : Ref sig .tc := ⟨.hbm, 122, rfl⟩
abbrev main_v79 : Ref sig .tc := ⟨.hbm, 123, rfl⟩
abbrev main_v80 : Ref sig .tc := ⟨.hbm, 124, rfl⟩
abbrev main_cst_21 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_22 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_23 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x24x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x6 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S16x24x6 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "inv_p" => some ((1 / 22 : ℝ) : EReal)
  | "mask" => some ⊥
  | _ => none
-- ==== ReferenceIdeal.lean ====
abbrev S1024x1 : Shape := ⟨2, ![1024, 1]⟩
abbrev S1024x66 : Shape := ⟨2, ![1024, 66]⟩
abbrev S22x4 : Shape := ⟨2, ![22, 4]⟩
abbrev S2x473088 : Shape := ⟨2, ![2, 473088]⟩
abbrev S5x64 : Shape := ⟨2, ![5, 64]⟩
abbrev S64 : Shape := ⟨1, ![64]⟩
abbrev S64x5 : Shape := ⟨2, ![64, 5]⟩
abbrev S5 : Shape := ⟨1, ![5]⟩
abbrev S4x130x64 : Shape := ⟨3, ![4, 130, 64]⟩
abbrev S4x64 : Shape := ⟨2, ![4, 64]⟩
abbrev S4x64x64 : Shape := ⟨3, ![4, 64, 64]⟩
abbrev S4x128x64 : Shape := ⟨3, ![4, 128, 64]⟩
abbrev S4x64x1 : Shape := ⟨3, ![4, 64, 1]⟩
abbrev S1x473088 : Shape := ⟨2, ![1, 473088]⟩
abbrev S473088 : Shape := ⟨1, ![473088]⟩
abbrev S22528x3 : Shape := ⟨2, ![22528, 3]⟩
abbrev S1x88 : Shape := ⟨2, ![1, 88]⟩
abbrev S1x1x1x88 : Shape := ⟨4, ![1, 1, 1, 88]⟩
abbrev S1024x1x1x88 : Shape := ⟨4, ![1024, 1, 1, 88]⟩
abbrev S1024x88 : Shape := ⟨2, ![1024, 88]⟩
abbrev S22528x4 : Shape := ⟨2, ![22528, 4]⟩
abbrev S1x1024x1x1 : Shape := ⟨4, ![1, 1024, 1, 1]⟩
abbrev S1x1024x22x1 : Shape := ⟨4, ![1, 1024, 22, 1]⟩
abbrev S1024x22 : Shape := ⟨2, ![1024, 22]⟩
abbrev S22528x1 : Shape := ⟨2, ![22528, 1]⟩
abbrev S22528x5 : Shape := ⟨2, ![22528, 5]⟩
abbrev S_ : Shape := ⟨0, ![]⟩
abbrev S473088x1 : Shape := ⟨2, ![473088, 1]⟩
abbrev S473088x3 : Shape := ⟨2, ![473088, 3]⟩
abbrev S22528x64 : Shape := ⟨2, ![22528, 64]⟩
abbrev S1x64 : Shape := ⟨2, ![1, 64]⟩
abbrev S473088x64 : Shape := ⟨2, ![473088, 64]⟩
abbrev S473088x130 : Shape := ⟨2, ![473088, 130]⟩
abbrev S1x130x64 : Shape := ⟨3, ![1, 130, 64]⟩
abbrev S130x64 : Shape := ⟨2, ![130, 64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S22528x128 : Shape := ⟨2, ![22528, 128]⟩
abbrev S1x128x64 : Shape := ⟨3, ![1, 128, 64]⟩
abbrev S128x64 : Shape := ⟨2, ![128, 64]⟩
abbrev S1x5 : Shape := ⟨2, ![1, 5]⟩
abbrev S1024x22x3 : Shape := ⟨3, ![1024, 22, 3]⟩
abbrev S1024x3 : Shape := ⟨2, ![1024, 3]⟩
abbrev S1024x1x3 : Shape := ⟨3, ![1024, 1, 3]⟩

abbrev nBuf : Space → Nat
  | .hbm => 612
  | .vmem => 0
  | .smem => 0
  | _ => 0

abbrev hbmTy0_0 (i : Nat) : BufTy := match i % 128 with
  | 0 => ⟨S1024x1, .f32⟩
  | 1 => ⟨S1024x66, .f32⟩
  | 2 => ⟨S22x4, .f32⟩
  | 3 => ⟨S2x473088, .i32⟩
  | 4 => ⟨S5x64, .f32⟩
  | 5 => ⟨S64, .f32⟩
  | 6 => ⟨S64x5, .f32⟩
  | 7 => ⟨S5, .f32⟩
  | 8 => ⟨S4x130x64, .f32⟩
  | 9 => ⟨S4x64, .f32⟩
  | 10 => ⟨S4x64x64, .f32⟩
  | 11 => ⟨S4x64, .f32⟩
  | 12 => ⟨S4x128x64, .f32⟩
  | 13 => ⟨S4x64, .f32⟩
  | 14 => ⟨S4x64x64, .f32⟩
  | 15 => ⟨S4x64, .f32⟩
  | 16 => ⟨S4x64x64, .f32⟩
  | 17 => ⟨S4x64, .f32⟩
  | 18 => ⟨S4x64x1, .f32⟩
  | 19 => ⟨S1x473088, .i32⟩
  | 20 => ⟨S473088, .i32⟩
  | 21 => ⟨S1x473088, .i32⟩
  | 22 => ⟨S473088, .i32⟩
  | 23 => ⟨S22528x3, .f32⟩
  | 24 => ⟨S1x88, .f32⟩
  | 25 => ⟨S1x1x1x88, .f32⟩
  | 26 => ⟨S1024x1x1x88, .f32⟩
  | 27 => ⟨S1024x88, .f32⟩
  | 28 => ⟨S22528x4, .f32⟩
  | 29 => ⟨S1x1024x1x1, .f32⟩
  | 30 => ⟨S1x1024x22x1, .f32⟩
  | 31 => ⟨S1024x22, .f32⟩
  | 32 => ⟨S22528x1, .f32⟩
  | 33 => ⟨S22528x5, .f32⟩
  | 34 => ⟨S_, .i32⟩
  | 35 => ⟨S473088, .i32⟩
  | 36 => ⟨S473088, .i1⟩
  | 37 => ⟨S_, .i32⟩
  | 38 => ⟨S473088, .i32⟩
  | 39 => ⟨S473088, .i32⟩
  | 40 => ⟨S473088, .i32⟩
  | 41 => ⟨S473088x1, .i32⟩
  | 42 => ⟨S473088x3, .f32⟩
  | 43 => ⟨S_, .i32⟩
  | 44 => ⟨S473088, .i32⟩
  | 45 => ⟨S473088, .i1⟩
  | 46 => ⟨S_, .i32⟩
  | 47 => ⟨S473088, .i32⟩
  | 48 => ⟨S473088, .i32⟩
  | 49 => ⟨S473088, .i32⟩
  | 50 => ⟨S473088x1, .i32⟩
  | 51 => ⟨S473088x3, .f32⟩
  | 52 => ⟨S473088x3, .f32⟩
  | 53 => ⟨S473088x3, .f32⟩
  | 54 => ⟨S_, .f32⟩
  | 55 => ⟨S473088, .f32⟩
  | 56 => ⟨S473088x1, .f32⟩
  | 57 => ⟨S22528x64, .f32⟩
  | 58 => ⟨S1x64, .f32⟩
  | 59 => ⟨S22528x64, .f32⟩
  | 60 => ⟨S22528x64, .f32⟩
  | 61 => ⟨S_, .i32⟩
  | 62 => ⟨S473088, .i32⟩
  | 63 => ⟨S473088, .i1⟩
  | 64 => ⟨S_, .i32⟩
  | 65 => ⟨S473088, .i32⟩
  | 66 => ⟨S473088, .i32⟩
  | 67 => ⟨S473088, .i32⟩
  | 68 => ⟨S473088x1, .i32⟩
  | 69 => ⟨S473088x3, .f32⟩
  | 70 => ⟨S_, .i32⟩
  | 71 => ⟨S473088, .i32⟩
  | 72 => ⟨S473088, .i1⟩
  | 73 => ⟨S_, .i32⟩
  | 74 => ⟨S473088, .i32⟩
  | 75 => ⟨S473088, .i32⟩
  | 76 => ⟨S473088, .i32⟩
  | 77 => ⟨S473088x1, .i32⟩
  | 78 => ⟨S473088x3, .f32⟩
  | 79 => ⟨S473088x3, .f32⟩
  | 80 => ⟨S473088x3, .f32⟩
  | 81 => ⟨S_, .f32⟩
  | 82 => ⟨S473088, .f32⟩
  | 83 => ⟨S473088x1, .f32⟩
  | 84 => ⟨S_, .i32⟩
  | 85 => ⟨S473088, .i32⟩
  | 86 => ⟨S473088, .i1⟩
  | 87 => ⟨S_, .i32⟩
  | 88 => ⟨S473088, .i32⟩
  | 89 => ⟨S473088, .i32⟩
  | 90 => ⟨S473088, .i32⟩
  | 91 => ⟨S473088x1, .i32⟩
  | 92 => ⟨S473088x64, .f32⟩
  | 93 => ⟨S_, .i32⟩
  | 94 => ⟨S473088, .i32⟩
  | 95 => ⟨S473088, .i1⟩
  | 96 => ⟨S_, .i32⟩
  | 97 => ⟨S473088, .i32⟩
  | 98 => ⟨S473088, .i32⟩
  | 99 => ⟨S473088, .i32⟩
  | 100 => ⟨S473088x1, .i32⟩
  | 101 => ⟨S473088x64, .f32⟩
  | 102 => ⟨S473088x130, .f32⟩
  | 103 => ⟨S1x130x64, .f32⟩
  | 104 => ⟨S130x64, .f32⟩
  | 105 => ⟨S473088x64, .f32⟩
  | 106 => ⟨S1x64, .f32⟩
  | 107 => ⟨S64, .f32⟩
  | 108 => ⟨S1x64, .f32⟩
  | 109 => ⟨S473088x64, .f32⟩
  | 110 => ⟨S473088x64, .f32⟩
  | 111 => ⟨S473088x64, .f32⟩
  | 112 => ⟨S473088x64, .f32⟩
  | 113 => ⟨S_, .f32⟩
  | 114 => ⟨S473088x64, .f32⟩
  | 115 => ⟨S473088x64, .f32⟩
  | 116 => ⟨S_, .f32⟩
  | 117 => ⟨S473088x64, .f32⟩
  | 118 => ⟨S473088x64, .f32⟩
  | 119 => ⟨S473088x64, .f32⟩
  | 120 => ⟨S1x64x64, .f32⟩
  | 121 => ⟨S64x64, .f32⟩
  | 122 => ⟨S473088x64, .f32⟩
  | 123 => ⟨S1x64, .f32⟩
  | 124 => ⟨S64, .f32⟩
  | 125 => ⟨S1x64, .f32⟩
  | 126 => ⟨S473088x64, .f32⟩
  | 127 => ⟨S473088x64, .f32⟩
  | _ => ⟨S1024x1, .f32⟩

abbrev hbmTy0_1 (i : Nat) : BufTy := match i % 128 with
  | 0 => ⟨S473088x64, .f32⟩
  | 1 => ⟨S473088x64, .f32⟩
  | 2 => ⟨S_, .f32⟩
  | 3 => ⟨S473088x64, .f32⟩
  | 4 => ⟨S473088x64, .f32⟩
  | 5 => ⟨S_, .f32⟩
  | 6 => ⟨S473088x64, .f32⟩
  | 7 => ⟨S473088x64, .f32⟩
  | 8 => ⟨S473088x64, .f32⟩
  | 9 => ⟨S1x64x64, .f32⟩
  | 10 => ⟨S64x64, .f32⟩
  | 11 => ⟨S473088x64, .f32⟩
  | 12 => ⟨S1x64, .f32⟩
  | 13 => ⟨S64, .f32⟩
  | 14 => ⟨S1x64, .f32⟩
  | 15 => ⟨S473088x64, .f32⟩
  | 16 => ⟨S473088x64, .f32⟩
  | 17 => ⟨S473088x64, .f32⟩
  | 18 => ⟨S473088x64, .f32⟩
  | 19 => ⟨S_, .f32⟩
  | 20 => ⟨S473088x64, .f32⟩
  | 21 => ⟨S473088x64, .f32⟩
  | 22 => ⟨S_, .f32⟩
  | 23 => ⟨S473088x64, .f32⟩
  | 24 => ⟨S473088x64, .f32⟩
  | 25 => ⟨S473088x64, .f32⟩
  | 26 => ⟨S1x64x1, .f32⟩
  | 27 => ⟨S64x1, .f32⟩
  | 28 => ⟨S473088x1, .f32⟩
  | 29 => ⟨S473088x3, .f32⟩
  | 30 => ⟨S473088x3, .f32⟩
  | 31 => ⟨S_, .f32⟩
  | 32 => ⟨S22528x3, .f32⟩
  | 33 => ⟨S473088x1, .i32⟩
  | 34 => ⟨S22528x3, .f32⟩
  | 35 => ⟨S22528x3, .f32⟩
  | 36 => ⟨S_, .f32⟩
  | 37 => ⟨S22528x64, .f32⟩
  | 38 => ⟨S473088x1, .i32⟩
  | 39 => ⟨S22528x64, .f32⟩
  | 40 => ⟨S22528x128, .f32⟩
  | 41 => ⟨S1x128x64, .f32⟩
  | 42 => ⟨S128x64, .f32⟩
  | 43 => ⟨S22528x64, .f32⟩
  | 44 => ⟨S1x64, .f32⟩
  | 45 => ⟨S64, .f32⟩
  | 46 => ⟨S1x64, .f32⟩
  | 47 => ⟨S22528x64, .f32⟩
  | 48 => ⟨S22528x64, .f32⟩
  | 49 => ⟨S22528x64, .f32⟩
  | 50 => ⟨S22528x64, .f32⟩
  | 51 => ⟨S_, .f32⟩
  | 52 => ⟨S22528x64, .f32⟩
  | 53 => ⟨S22528x64, .f32⟩
  | 54 => ⟨S_, .f32⟩
  | 55 => ⟨S22528x64, .f32⟩
  | 56 => ⟨S22528x64, .f32⟩
  | 57 => ⟨S22528x64, .f32⟩
  | 58 => ⟨S1x64x64, .f32⟩
  | 59 => ⟨S64x64, .f32⟩
  | 60 => ⟨S22528x64, .f32⟩
  | 61 => ⟨S1x64, .f32⟩
  | 62 => ⟨S64, .f32⟩
  | 63 => ⟨S1x64, .f32⟩
  | 64 => ⟨S22528x64, .f32⟩
  | 65 => ⟨S22528x64, .f32⟩
  | 66 => ⟨S22528x64, .f32⟩
  | 67 => ⟨S_, .i32⟩
  | 68 => ⟨S473088, .i32⟩
  | 69 => ⟨S473088, .i1⟩
  | 70 => ⟨S_, .i32⟩
  | 71 => ⟨S473088, .i32⟩
  | 72 => ⟨S473088, .i32⟩
  | 73 => ⟨S473088, .i32⟩
  | 74 => ⟨S473088x1, .i32⟩
  | 75 => ⟨S473088x3, .f32⟩
  | 76 => ⟨S_, .i32⟩
  | 77 => ⟨S473088, .i32⟩
  | 78 => ⟨S473088, .i1⟩
  | 79 => ⟨S_, .i32⟩
  | 80 => ⟨S473088, .i32⟩
  | 81 => ⟨S473088, .i32⟩
  | 82 => ⟨S473088, .i32⟩
  | 83 => ⟨S473088x1, .i32⟩
  | 84 => ⟨S473088x3, .f32⟩
  | 85 => ⟨S473088x3, .f32⟩
  | 86 => ⟨S473088x3, .f32⟩
  | 87 => ⟨S_, .f32⟩
  | 88 => ⟨S473088, .f32⟩
  | 89 => ⟨S473088x1, .f32⟩
  | 90 => ⟨S_, .i32⟩
  | 91 => ⟨S473088, .i32⟩
  | 92 => ⟨S473088, .i1⟩
  | 93 => ⟨S_, .i32⟩
  | 94 => ⟨S473088, .i32⟩
  | 95 => ⟨S473088, .i32⟩
  | 96 => ⟨S473088, .i32⟩
  | 97 => ⟨S473088x1, .i32⟩
  | 98 => ⟨S473088x64, .f32⟩
  | 99 => ⟨S_, .i32⟩
  | 100 => ⟨S473088, .i32⟩
  | 101 => ⟨S473088, .i1⟩
  | 102 => ⟨S_, .i32⟩
  | 103 => ⟨S473088, .i32⟩
  | 104 => ⟨S473088, .i32⟩
  | 105 => ⟨S473088, .i32⟩
  | 106 => ⟨S473088x1, .i32⟩
  | 107 => ⟨S473088x64, .f32⟩
  | 108 => ⟨S473088x130, .f32⟩
  | 109 => ⟨S1x130x64, .f32⟩
  | 110 => ⟨S130x64, .f32⟩
  | 111 => ⟨S473088x64, .f32⟩
  | 112 => ⟨S1x64, .f32⟩
  | 113 => ⟨S64, .f32⟩
  | 114 => ⟨S1x64, .f32⟩
  | 115 => ⟨S473088x64, .f32⟩
  | 116 => ⟨S473088x64, .f32⟩
  | 117 => ⟨S473088x64, .f32⟩
  | 118 => ⟨S473088x64, .f32⟩
  | 119 => ⟨S_, .f32⟩
  | 120 => ⟨S473088x64, .f32⟩
  | 121 => ⟨S473088x64, .f32⟩
  | 122 => ⟨S_, .f32⟩
  | 123 => ⟨S473088x64, .f32⟩
  | 124 => ⟨S473088x64, .f32⟩
  | 125 => ⟨S473088x64, .f32⟩
  | 126 => ⟨S1x64x64, .f32⟩
  | 127 => ⟨S64x64, .f32⟩
  | _ => ⟨S1024x1, .f32⟩

abbrev hbmTy0_2 (i : Nat) : BufTy := match i % 128 with
  | 0 => ⟨S473088x64, .f32⟩
  | 1 => ⟨S1x64, .f32⟩
  | 2 => ⟨S64, .f32⟩
  | 3 => ⟨S1x64, .f32⟩
  | 4 => ⟨S473088x64, .f32⟩
  | 5 => ⟨S473088x64, .f32⟩
  | 6 => ⟨S473088x64, .f32⟩
  | 7 => ⟨S473088x64, .f32⟩
  | 8 => ⟨S_, .f32⟩
  | 9 => ⟨S473088x64, .f32⟩
  | 10 => ⟨S473088x64, .f32⟩
  | 11 => ⟨S_, .f32⟩
  | 12 => ⟨S473088x64, .f32⟩
  | 13 => ⟨S473088x64, .f32⟩
  | 14 => ⟨S473088x64, .f32⟩
  | 15 => ⟨S1x64x64, .f32⟩
  | 16 => ⟨S64x64, .f32⟩
  | 17 => ⟨S473088x64, .f32⟩
  | 18 => ⟨S1x64, .f32⟩
  | 19 => ⟨S64, .f32⟩
  | 20 => ⟨S1x64, .f32⟩
  | 21 => ⟨S473088x64, .f32⟩
  | 22 => ⟨S473088x64, .f32⟩
  | 23 => ⟨S473088x64, .f32⟩
  | 24 => ⟨S473088x64, .f32⟩
  | 25 => ⟨S_, .f32⟩
  | 26 => ⟨S473088x64, .f32⟩
  | 27 => ⟨S473088x64, .f32⟩
  | 28 => ⟨S_, .f32⟩
  | 29 => ⟨S473088x64, .f32⟩
  | 30 => ⟨S473088x64, .f32⟩
  | 31 => ⟨S473088x64, .f32⟩
  | 32 => ⟨S1x64x1, .f32⟩
  | 33 => ⟨S64x1, .f32⟩
  | 34 => ⟨S473088x1, .f32⟩
  | 35 => ⟨S473088x3, .f32⟩
  | 36 => ⟨S473088x3, .f32⟩
  | 37 => ⟨S_, .f32⟩
  | 38 => ⟨S22528x3, .f32⟩
  | 39 => ⟨S473088x1, .i32⟩
  | 40 => ⟨S22528x3, .f32⟩
  | 41 => ⟨S22528x3, .f32⟩
  | 42 => ⟨S_, .f32⟩
  | 43 => ⟨S22528x64, .f32⟩
  | 44 => ⟨S473088x1, .i32⟩
  | 45 => ⟨S22528x64, .f32⟩
  | 46 => ⟨S22528x128, .f32⟩
  | 47 => ⟨S1x128x64, .f32⟩
  | 48 => ⟨S128x64, .f32⟩
  | 49 => ⟨S22528x64, .f32⟩
  | 50 => ⟨S1x64, .f32⟩
  | 51 => ⟨S64, .f32⟩
  | 52 => ⟨S1x64, .f32⟩
  | 53 => ⟨S22528x64, .f32⟩
  | 54 => ⟨S22528x64, .f32⟩
  | 55 => ⟨S22528x64, .f32⟩
  | 56 => ⟨S22528x64, .f32⟩
  | 57 => ⟨S_, .f32⟩
  | 58 => ⟨S22528x64, .f32⟩
  | 59 => ⟨S22528x64, .f32⟩
  | 60 => ⟨S_, .f32⟩
  | 61 => ⟨S22528x64, .f32⟩
  | 62 => ⟨S22528x64, .f32⟩
  | 63 => ⟨S22528x64, .f32⟩
  | 64 => ⟨S1x64x64, .f32⟩
  | 65 => ⟨S64x64, .f32⟩
  | 66 => ⟨S22528x64, .f32⟩
  | 67 => ⟨S1x64, .f32⟩
  | 68 => ⟨S64, .f32⟩
  | 69 => ⟨S1x64, .f32⟩
  | 70 => ⟨S22528x64, .f32⟩
  | 71 => ⟨S22528x64, .f32⟩
  | 72 => ⟨S22528x64, .f32⟩
  | 73 => ⟨S_, .i32⟩
  | 74 => ⟨S473088, .i32⟩
  | 75 => ⟨S473088, .i1⟩
  | 76 => ⟨S_, .i32⟩
  | 77 => ⟨S473088, .i32⟩
  | 78 => ⟨S473088, .i32⟩
  | 79 => ⟨S473088, .i32⟩
  | 80 => ⟨S473088x1, .i32⟩
  | 81 => ⟨S473088x3, .f32⟩
  | 82 => ⟨S_, .i32⟩
  | 83 => ⟨S473088, .i32⟩
  | 84 => ⟨S473088, .i1⟩
  | 85 => ⟨S_, .i32⟩
  | 86 => ⟨S473088, .i32⟩
  | 87 => ⟨S473088, .i32⟩
  | 88 => ⟨S473088, .i32⟩
  | 89 => ⟨S473088x1, .i32⟩
  | 90 => ⟨S473088x3, .f32⟩
  | 91 => ⟨S473088x3, .f32⟩
  | 92 => ⟨S473088x3, .f32⟩
  | 93 => ⟨S_, .f32⟩
  | 94 => ⟨S473088, .f32⟩
  | 95 => ⟨S473088x1, .f32⟩
  | 96 => ⟨S_, .i32⟩
  | 97 => ⟨S473088, .i32⟩
  | 98 => ⟨S473088, .i1⟩
  | 99 => ⟨S_, .i32⟩
  | 100 => ⟨S473088, .i32⟩
  | 101 => ⟨S473088, .i32⟩
  | 102 => ⟨S473088, .i32⟩
  | 103 => ⟨S473088x1, .i32⟩
  | 104 => ⟨S473088x64, .f32⟩
  | 105 => ⟨S_, .i32⟩
  | 106 => ⟨S473088, .i32⟩
  | 107 => ⟨S473088, .i1⟩
  | 108 => ⟨S_, .i32⟩
  | 109 => ⟨S473088, .i32⟩
  | 110 => ⟨S473088, .i32⟩
  | 111 => ⟨S473088, .i32⟩
  | 112 => ⟨S473088x1, .i32⟩
  | 113 => ⟨S473088x64, .f32⟩
  | 114 => ⟨S473088x130, .f32⟩
  | 115 => ⟨S1x130x64, .f32⟩
  | 116 => ⟨S130x64, .f32⟩
  | 117 => ⟨S473088x64, .f32⟩
  | 118 => ⟨S1x64, .f32⟩
  | 119 => ⟨S64, .f32⟩
  | 120 => ⟨S1x64, .f32⟩
  | 121 => ⟨S473088x64, .f32⟩
  | 122 => ⟨S473088x64, .f32⟩
  | 123 => ⟨S473088x64, .f32⟩
  | 124 => ⟨S473088x64, .f32⟩
  | 125 => ⟨S_, .f32⟩
  | 126 => ⟨S473088x64, .f32⟩
  | 127 => ⟨S473088x64, .f32⟩
  | _ => ⟨S1024x1, .f32⟩

abbrev hbmTy0_3 (i : Nat) : BufTy := match i % 128 with
  | 0 => ⟨S_, .f32⟩
  | 1 => ⟨S473088x64, .f32⟩
  | 2 => ⟨S473088x64, .f32⟩
  | 3 => ⟨S473088x64, .f32⟩
  | 4 => ⟨S1x64x64, .f32⟩
  | 5 => ⟨S64x64, .f32⟩
  | 6 => ⟨S473088x64, .f32⟩
  | 7 => ⟨S1x64, .f32⟩
  | 8 => ⟨S64, .f32⟩
  | 9 => ⟨S1x64, .f32⟩
  | 10 => ⟨S473088x64, .f32⟩
  | 11 => ⟨S473088x64, .f32⟩
  | 12 => ⟨S473088x64, .f32⟩
  | 13 => ⟨S473088x64, .f32⟩
  | 14 => ⟨S_, .f32⟩
  | 15 => ⟨S473088x64, .f32⟩
  | 16 => ⟨S473088x64, .f32⟩
  | 17 => ⟨S_, .f32⟩
  | 18 => ⟨S473088x64, .f32⟩
  | 19 => ⟨S473088x64, .f32⟩
  | 20 => ⟨S473088x64, .f32⟩
  | 21 => ⟨S1x64x64, .f32⟩
  | 22 => ⟨S64x64, .f32⟩
  | 23 => ⟨S473088x64, .f32⟩
  | 24 => ⟨S1x64, .f32⟩
  | 25 => ⟨S64, .f32⟩
  | 26 => ⟨S1x64, .f32⟩
  | 27 => ⟨S473088x64, .f32⟩
  | 28 => ⟨S473088x64, .f32⟩
  | 29 => ⟨S473088x64, .f32⟩
  | 30 => ⟨S473088x64, .f32⟩
  | 31 => ⟨S_, .f32⟩
  | 32 => ⟨S473088x64, .f32⟩
  | 33 => ⟨S473088x64, .f32⟩
  | 34 => ⟨S_, .f32⟩
  | 35 => ⟨S473088x64, .f32⟩
  | 36 => ⟨S473088x64, .f32⟩
  | 37 => ⟨S473088x64, .f32⟩
  | 38 => ⟨S1x64x1, .f32⟩
  | 39 => ⟨S64x1, .f32⟩
  | 40 => ⟨S473088x1, .f32⟩
  | 41 => ⟨S473088x3, .f32⟩
  | 42 => ⟨S473088x3, .f32⟩
  | 43 => ⟨S_, .f32⟩
  | 44 => ⟨S22528x3, .f32⟩
  | 45 => ⟨S473088x1, .i32⟩
  | 46 => ⟨S22528x3, .f32⟩
  | 47 => ⟨S22528x3, .f32⟩
  | 48 => ⟨S_, .f32⟩
  | 49 => ⟨S22528x64, .f32⟩
  | 50 => ⟨S473088x1, .i32⟩
  | 51 => ⟨S22528x64, .f32⟩
  | 52 => ⟨S22528x128, .f32⟩
  | 53 => ⟨S1x128x64, .f32⟩
  | 54 => ⟨S128x64, .f32⟩
  | 55 => ⟨S22528x64, .f32⟩
  | 56 => ⟨S1x64, .f32⟩
  | 57 => ⟨S64, .f32⟩
  | 58 => ⟨S1x64, .f32⟩
  | 59 => ⟨S22528x64, .f32⟩
  | 60 => ⟨S22528x64, .f32⟩
  | 61 => ⟨S22528x64, .f32⟩
  | 62 => ⟨S22528x64, .f32⟩
  | 63 => ⟨S_, .f32⟩
  | 64 => ⟨S22528x64, .f32⟩
  | 65 => ⟨S22528x64, .f32⟩
  | 66 => ⟨S_, .f32⟩
  | 67 => ⟨S22528x64, .f32⟩
  | 68 => ⟨S22528x64, .f32⟩
  | 69 => ⟨S22528x64, .f32⟩
  | 70 => ⟨S1x64x64, .f32⟩
  | 71 => ⟨S64x64, .f32⟩
  | 72 => ⟨S22528x64, .f32⟩
  | 73 => ⟨S1x64, .f32⟩
  | 74 => ⟨S64, .f32⟩
  | 75 => ⟨S1x64, .f32⟩
  | 76 => ⟨S22528x64, .f32⟩
  | 77 => ⟨S22528x64, .f32⟩
  | 78 => ⟨S22528x64, .f32⟩
  | 79 => ⟨S_, .i32⟩
  | 80 => ⟨S473088, .i32⟩
  | 81 => ⟨S473088, .i1⟩
  | 82 => ⟨S_, .i32⟩
  | 83 => ⟨S473088, .i32⟩
  | 84 => ⟨S473088, .i32⟩
  | 85 => ⟨S473088, .i32⟩
  | 86 => ⟨S473088x1, .i32⟩
  | 87 => ⟨S473088x3, .f32⟩
  | 88 => ⟨S_, .i32⟩
  | 89 => ⟨S473088, .i32⟩
  | 90 => ⟨S473088, .i1⟩
  | 91 => ⟨S_, .i32⟩
  | 92 => ⟨S473088, .i32⟩
  | 93 => ⟨S473088, .i32⟩
  | 94 => ⟨S473088, .i32⟩
  | 95 => ⟨S473088x1, .i32⟩
  | 96 => ⟨S473088x3, .f32⟩
  | 97 => ⟨S473088x3, .f32⟩
  | 98 => ⟨S473088x3, .f32⟩
  | 99 => ⟨S_, .f32⟩
  | 100 => ⟨S473088, .f32⟩
  | 101 => ⟨S473088x1, .f32⟩
  | 102 => ⟨S_, .i32⟩
  | 103 => ⟨S473088, .i32⟩
  | 104 => ⟨S473088, .i1⟩
  | 105 => ⟨S_, .i32⟩
  | 106 => ⟨S473088, .i32⟩
  | 107 => ⟨S473088, .i32⟩
  | 108 => ⟨S473088, .i32⟩
  | 109 => ⟨S473088x1, .i32⟩
  | 110 => ⟨S473088x64, .f32⟩
  | 111 => ⟨S_, .i32⟩
  | 112 => ⟨S473088, .i32⟩
  | 113 => ⟨S473088, .i1⟩
  | 114 => ⟨S_, .i32⟩
  | 115 => ⟨S473088, .i32⟩
  | 116 => ⟨S473088, .i32⟩
  | 117 => ⟨S473088, .i32⟩
  | 118 => ⟨S473088x1, .i32⟩
  | 119 => ⟨S473088x64, .f32⟩
  | 120 => ⟨S473088x130, .f32⟩
  | 121 => ⟨S1x130x64, .f32⟩
  | 122 => ⟨S130x64, .f32⟩
  | 123 => ⟨S473088x64, .f32⟩
  | 124 => ⟨S1x64, .f32⟩
  | 125 => ⟨S64, .f32⟩
  | 126 => ⟨S1x64, .f32⟩
  | 127 => ⟨S473088x64, .f32⟩
  | _ => ⟨S1024x1, .f32⟩

abbrev hbmTy0_4 (i : Nat) : BufTy := match i % 128 with
  | 0 => ⟨S473088x64, .f32⟩
  | 1 => ⟨S473088x64, .f32⟩
  | 2 => ⟨S473088x64, .f32⟩
  | 3 => ⟨S_, .f32⟩
  | 4 => ⟨S473088x64, .f32⟩
  | 5 => ⟨S473088x64, .f32⟩
  | 6 => ⟨S_, .f32⟩
  | 7 => ⟨S473088x64, .f32⟩
  | 8 => ⟨S473088x64, .f32⟩
  | 9 => ⟨S473088x64, .f32⟩
  | 10 => ⟨S1x64x64, .f32⟩
  | 11 => ⟨S64x64, .f32⟩
  | 12 => ⟨S473088x64, .f32⟩
  | 13 => ⟨S1x64, .f32⟩
  | 14 => ⟨S64, .f32⟩
  | 15 => ⟨S1x64, .f32⟩
  | 16 => ⟨S473088x64, .f32⟩
  | 17 => ⟨S473088x64, .f32⟩
  | 18 => ⟨S473088x64, .f32⟩
  | 19 => ⟨S473088x64, .f32⟩
  | 20 => ⟨S_, .f32⟩
  | 21 => ⟨S473088x64, .f32⟩
  | 22 => ⟨S473088x64, .f32⟩
  | 23 => ⟨S_, .f32⟩
  | 24 => ⟨S473088x64, .f32⟩
  | 25 => ⟨S473088x64, .f32⟩
  | 26 => ⟨S473088x64, .f32⟩
  | 27 => ⟨S1x64x64, .f32⟩
  | 28 => ⟨S64x64, .f32⟩
  | 29 => ⟨S473088x64, .f32⟩
  | 30 => ⟨S1x64, .f32⟩
  | 31 => ⟨S64, .f32⟩
  | 32 => ⟨S1x64, .f32⟩
  | 33 => ⟨S473088x64, .f32⟩
  | 34 => ⟨S473088x64, .f32⟩
  | 35 => ⟨S473088x64, .f32⟩
  | 36 => ⟨S473088x64, .f32⟩
  | 37 => ⟨S_, .f32⟩
  | 38 => ⟨S473088x64, .f32⟩
  | 39 => ⟨S473088x64, .f32⟩
  | 40 => ⟨S_, .f32⟩
  | 41 => ⟨S473088x64, .f32⟩
  | 42 => ⟨S473088x64, .f32⟩
  | 43 => ⟨S473088x64, .f32⟩
  | 44 => ⟨S1x64x1, .f32⟩
  | 45 => ⟨S64x1, .f32⟩
  | 46 => ⟨S473088x1, .f32⟩
  | 47 => ⟨S473088x3, .f32⟩
  | 48 => ⟨S473088x3, .f32⟩
  | 49 => ⟨S_, .f32⟩
  | 50 => ⟨S22528x3, .f32⟩
  | 51 => ⟨S473088x1, .i32⟩
  | 52 => ⟨S22528x3, .f32⟩
  | 53 => ⟨S22528x3, .f32⟩
  | 54 => ⟨S_, .f32⟩
  | 55 => ⟨S22528x64, .f32⟩
  | 56 => ⟨S473088x1, .i32⟩
  | 57 => ⟨S22528x64, .f32⟩
  | 58 => ⟨S22528x128, .f32⟩
  | 59 => ⟨S1x128x64, .f32⟩
  | 60 => ⟨S128x64, .f32⟩
  | 61 => ⟨S22528x64, .f32⟩
  | 62 => ⟨S1x64, .f32⟩
  | 63 => ⟨S64, .f32⟩
  | 64 => ⟨S1x64, .f32⟩
  | 65 => ⟨S22528x64, .f32⟩
  | 66 => ⟨S22528x64, .f32⟩
  | 67 => ⟨S22528x64, .f32⟩
  | 68 => ⟨S22528x64, .f32⟩
  | 69 => ⟨S_, .f32⟩
  | 70 => ⟨S22528x64, .f32⟩
  | 71 => ⟨S22528x64, .f32⟩
  | 72 => ⟨S_, .f32⟩
  | 73 => ⟨S22528x64, .f32⟩
  | 74 => ⟨S22528x64, .f32⟩
  | 75 => ⟨S22528x64, .f32⟩
  | 76 => ⟨S1x64x64, .f32⟩
  | 77 => ⟨S64x64, .f32⟩
  | 78 => ⟨S22528x64, .f32⟩
  | 79 => ⟨S1x64, .f32⟩
  | 80 => ⟨S64, .f32⟩
  | 81 => ⟨S1x64, .f32⟩
  | 82 => ⟨S22528x64, .f32⟩
  | 83 => ⟨S22528x64, .f32⟩
  | 84 => ⟨S22528x64, .f32⟩
  | 85 => ⟨S22528x5, .f32⟩
  | 86 => ⟨S1x5, .f32⟩
  | 87 => ⟨S22528x5, .f32⟩
  | 88 => ⟨S22528x5, .f32⟩
  | 89 => ⟨S22528x3, .f32⟩
  | 90 => ⟨S1024x22x3, .f32⟩
  | 91 => ⟨S_, .f32⟩
  | 92 => ⟨S1024x3, .f32⟩
  | 93 => ⟨S1024x1x3, .f32⟩
  | 94 => ⟨S_, .f32⟩
  | 95 => ⟨S1024x1x3, .f32⟩
  | 96 => ⟨S1024x1x3, .f32⟩
  | 97 => ⟨S1024x22x3, .f32⟩
  | 98 => ⟨S1024x22x3, .f32⟩
  | 99 => ⟨S1024x66, .f32⟩
  | _ => ⟨S1024x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x1, .f32⟩

abbrev bufTy : (tb : Table) → Fin (tcTables nBuf tb) → BufTy
  | .hbm, ⟨i, _⟩ => hbmTy i
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_1 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_3 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_14 : Ref sig .tc := ⟨.hbm, 130, rfl⟩
abbrev main_v95 : Ref sig .tc := ⟨.hbm, 131, rfl⟩
abbrev main_v96 : Ref sig .tc := ⟨.hbm, 132, rfl⟩
abbrev main_cst_15 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_v111 : Ref sig .tc := ⟨.hbm, 149, rfl⟩
abbrev main_cst_17 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_18 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_19 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_20 : Ref sig .tc := ⟨.hbm, 179, rfl⟩
abbrev main_v138 : Ref sig .tc := ⟨.hbm, 180, rfl⟩
abbrev main_v139 : Ref sig .tc := ⟨.hbm, 181, rfl⟩
abbrev main_cst_21 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_22 : Ref sig .tc := ⟨.hbm, 195, rfl⟩
abbrev main_v152 : Ref sig .tc := ⟨.hbm, 196, rfl⟩
abbrev main_v153 : Ref sig .tc := ⟨.hbm, 197, rfl⟩
abbrev main_c_23 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_24 : Ref sig .tc := ⟨.hbm, 204, rfl⟩
abbrev main_v159 : Ref sig .tc := ⟨.hbm, 205, rfl⟩
abbrev main_v160 : Ref sig .tc := ⟨.hbm, 206, rfl⟩
abbrev main_c_25 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_26 : Ref sig .tc := ⟨.hbm, 215, rfl⟩
abbrev main_v168 : Ref sig .tc := ⟨.hbm, 216, rfl⟩
abbrev main_v169 : Ref sig .tc := ⟨.hbm, 217, rfl⟩
abbrev main_c_27 : Ref sig .tc := ⟨.hbm, 218, rfl⟩
abbrev main_v170 : Ref sig .tc := ⟨.hbm, 219, rfl⟩
abbrev main_v171 : Ref sig .tc := ⟨.hbm, 220, rfl⟩
abbrev main_c_28 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_c_29 : Ref sig .tc := ⟨.hbm, 227, rfl⟩
abbrev main_v177 : Ref sig .tc := ⟨.hbm, 228, rfl⟩
abbrev main_v178 : Ref sig .tc := ⟨.hbm, 229, rfl⟩
abbrev main_c_30 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_31 : Ref sig .tc := ⟨.hbm, 247, rfl⟩
abbrev main_v195 : Ref sig .tc := ⟨.hbm, 248, rfl⟩
abbrev main_v196 : Ref sig .tc := ⟨.hbm, 249, rfl⟩
abbrev main_cst_32 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_cst_33 : Ref sig .tc := ⟨.hbm, 264, rfl⟩
abbrev main_v210 : Ref sig .tc := ⟨.hbm, 265, rfl⟩
abbrev main_v211 : Ref sig .tc := ⟨.hbm, 266, rfl⟩
abbrev main_cst_34 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_35 : Ref sig .tc := ⟨.hbm, 281, rfl⟩
abbrev main_v225 : Ref sig .tc := ⟨.hbm, 282, rfl⟩
abbrev main_v226 : Ref sig .tc := ⟨.hbm, 283, rfl⟩
abbrev main_cst_36 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_cst_37 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_38 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_cst_39 : Ref sig .tc := ⟨.hbm, 313, rfl⟩
abbrev main_v253 : Ref sig .tc := ⟨.hbm, 314, rfl⟩
abbrev main_v254 : Ref sig .tc := ⟨.hbm, 315, rfl⟩
abbrev main_cst_40 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_c_41 : Ref sig .tc := ⟨.hbm, 329, rfl⟩
abbrev main_v267 : Ref sig .tc := ⟨.hbm, 330, rfl⟩
abbrev main_v268 : Ref sig .tc := ⟨.hbm, 331, rfl⟩
abbrev main_c_42 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_c_43 : Ref sig .tc := ⟨.hbm, 338, rfl⟩
abbrev main_v274 : Ref sig .tc := ⟨.hbm, 339, rfl⟩
abbrev main_v275 : Ref sig .tc := ⟨.hbm, 340, rfl⟩
abbrev main_c_44 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_cst_45 : Ref sig .tc := ⟨.hbm, 349, rfl⟩
abbrev main_v283 : Ref sig .tc := ⟨.hbm, 350, rfl⟩
abbrev main_v284 : Ref sig .tc := ⟨.hbm, 351, rfl⟩
abbrev main_c_46 : Ref sig .tc := ⟨.hbm, 352, rfl⟩
abbrev main_v285 : Ref sig .tc := ⟨.hbm, 353, rfl⟩
abbrev main_v286 : Ref sig .tc := ⟨.hbm, 354, rfl⟩
abbrev main_c_47 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_c_48 : Ref sig .tc := ⟨.hbm, 361, rfl⟩
abbrev main_v292 : Ref sig .tc := ⟨.hbm, 362, rfl⟩
abbrev main_v293 : Ref sig .tc := ⟨.hbm, 363, rfl⟩
abbrev main_c_49 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_cst_50 : Ref sig .tc := ⟨.hbm, 381, rfl⟩
abbrev main_v310 : Ref sig .tc := ⟨.hbm, 382, rfl⟩
abbrev main_v311 : Ref sig .tc := ⟨.hbm, 383, rfl⟩
abbrev main_cst_51 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_cst_52 : Ref sig .tc := ⟨.hbm, 398, rfl⟩
abbrev main_v325 : Ref sig .tc := ⟨.hbm, 399, rfl⟩
abbrev main_v326 : Ref sig .tc := ⟨.hbm, 400, rfl⟩
abbrev main_cst_53 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_cst_54 : Ref sig .tc := ⟨.hbm, 415, rfl⟩
abbrev main_v340 : Ref sig .tc := ⟨.hbm, 416, rfl⟩
abbrev main_v341 : Ref sig .tc := ⟨.hbm, 417, rfl⟩
abbrev main_cst_55 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_cst_56 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_cst_57 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_cst_58 : Ref sig .tc := ⟨.hbm, 447, rfl⟩
abbrev main_v368 : Ref sig .tc := ⟨.hbm, 448, rfl⟩
abbrev main_v369 : Ref sig .tc := ⟨.hbm, 449, rfl⟩
abbrev main_cst_59 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_c_60 : Ref sig .tc := ⟨.hbm, 463, rfl⟩
abbrev main_v382 : Ref sig .tc := ⟨.hbm, 464, rfl⟩
abbrev main_v383 : Ref sig .tc := ⟨.hbm, 465, rfl⟩
abbrev main_c_61 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_c_62 : Ref sig .tc := ⟨.hbm, 472, rfl⟩
abbrev main_v389 : Ref sig .tc := ⟨.hbm, 473, rfl⟩
abbrev main_v390 : Ref sig .tc := ⟨.hbm, 474, rfl⟩
abbrev main_c_63 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_cst_64 : Ref sig .tc := ⟨.hbm, 483, rfl⟩
abbrev main_v398 : Ref sig .tc := ⟨.hbm, 484, rfl⟩
abbrev main_v399 : Ref sig .tc := ⟨.hbm, 485, rfl⟩
abbrev main_c_65 : Ref sig .tc := ⟨.hbm, 486, rfl⟩
abbrev main_v400 : Ref sig .tc := ⟨.hbm, 487, rfl⟩
abbrev main_v401 : Ref sig .tc := ⟨.hbm, 488, rfl⟩
abbrev main_c_66 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_c_67 : Ref sig .tc := ⟨.hbm, 495, rfl⟩
abbrev main_v407 : Ref sig .tc := ⟨.hbm, 496, rfl⟩
abbrev main_v408 : Ref sig .tc := ⟨.hbm, 497, rfl⟩
abbrev main_c_68 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_cst_69 : Ref sig .tc := ⟨.hbm, 515, rfl⟩
abbrev main_v425 : Ref sig .tc := ⟨.hbm, 516, rfl⟩
abbrev main_v426 : Ref sig .tc := ⟨.hbm, 517, rfl⟩
abbrev main_cst_70 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_v430 : Ref sig .tc := ⟨.hbm, 522, rfl⟩
abbrev main_v431 : Ref sig .tc := ⟨.hbm, 523, rfl⟩
abbrev main_v432 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_v436 : Ref sig .tc := ⟨.hbm, 528, rfl⟩
abbrev main_v437 : Ref sig .tc := ⟨.hbm, 529, rfl⟩
abbrev main_v438 : Ref sig .tc := ⟨.hbm, 530, rfl⟩
abbrev main_v439 : Ref sig .tc := ⟨.hbm, 531, rfl⟩
abbrev main_cst_71 : Ref sig .tc := ⟨.hbm, 532, rfl⟩
abbrev main_v440 : Ref sig .tc := ⟨.hbm, 533, rfl⟩
abbrev main_v441 : Ref sig .tc := ⟨.hbm, 534, rfl⟩
abbrev main_cst_72 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_v446 : Ref sig .tc := ⟨.hbm, 540, rfl⟩
abbrev main_v447 : Ref sig .tc := ⟨.hbm, 541, rfl⟩
abbrev main_v448 : Ref sig .tc := ⟨.hbm, 542, rfl⟩
abbrev main_v449 : Ref sig .tc := ⟨.hbm, 543, rfl⟩
abbrev main_v450 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_cst_73 : Ref sig .tc := ⟨.hbm, 549, rfl⟩
abbrev main_v455 : Ref sig .tc := ⟨.hbm, 550, rfl⟩
abbrev main_v456 : Ref sig .tc := ⟨.hbm, 551, rfl⟩
abbrev main_cst_74 : Ref sig .tc := ⟨.hbm, 552, rfl⟩
abbrev main_v457 : Ref sig .tc := ⟨.hbm, 553, rfl⟩
abbrev main_v458 : Ref sig .tc := ⟨.hbm, 554, rfl⟩
abbrev main_v459 : Ref sig .tc := ⟨.hbm, 555, rfl⟩
abbrev main_v460 : Ref sig .tc := ⟨.hbm, 556, rfl⟩
abbrev main_v461 : Ref sig .tc := ⟨.hbm, 557, rfl⟩
abbrev main_v462 : Ref sig .tc := ⟨.hbm, 558, rfl⟩
abbrev main_v463 : Ref sig .tc := ⟨.hbm, 559, rfl⟩
abbrev main_v464 : Ref sig .tc := ⟨.hbm, 560, rfl⟩
abbrev main_cst_75 : Ref sig .tc := ⟨.hbm, 561, rfl⟩
abbrev main_v465 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_cst_76 : Ref sig .tc := ⟨.hbm, 566, rfl⟩
abbrev main_v469 : Ref sig .tc := ⟨.hbm, 567, rfl⟩
abbrev main_v470 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_cst_77 : Ref sig .tc := ⟨.hbm, 581, rfl⟩
abbrev main_v483 : Ref sig .tc := ⟨.hbm, 582, rfl⟩
abbrev main_v484 : Ref sig .tc := ⟨.hbm, 583, rfl⟩
abbrev main_cst_78 : Ref sig .tc := ⟨.hbm, 584, rfl⟩
abbrev main_v485 : Ref sig .tc := ⟨.hbm, 585, rfl⟩
abbrev main_v486 : Ref sig .tc := ⟨.hbm, 586, rfl⟩
abbrev main_v487 : Ref sig .tc := ⟨.hbm, 587, rfl⟩
abbrev main_v488 : Ref sig .tc := ⟨.hbm, 588, rfl⟩
abbrev main_v489 : Ref sig .tc := ⟨.hbm, 589, rfl⟩
abbrev main_v490 : Ref sig .tc := ⟨.hbm, 590, rfl⟩
abbrev main_v491 : Ref sig .tc := ⟨.hbm, 591, rfl⟩
abbrev main_v492 : Ref sig .tc := ⟨.hbm, 592, rfl⟩
abbrev main_v493 : Ref sig .tc := ⟨.hbm, 593, rfl⟩
abbrev main_v494 : Ref sig .tc := ⟨.hbm, 594, rfl⟩
abbrev main_v495 : Ref sig .tc := ⟨.hbm, 595, rfl⟩
abbrev main_v496 : Ref sig .tc := ⟨.hbm, 596, rfl⟩
abbrev main_v497 : Ref sig .tc := ⟨.hbm, 597, rfl⟩
abbrev main_v498 : Ref sig .tc := ⟨.hbm, 598, rfl⟩
abbrev main_v499 : Ref sig .tc := ⟨.hbm, 599, rfl⟩
abbrev main_v500 : Ref sig .tc := ⟨.hbm, 600, rfl⟩
abbrev main_v501 : Ref sig .tc := ⟨.hbm, 601, rfl⟩
abbrev main_v502 : Ref sig .tc := ⟨.hbm, 602, rfl⟩
abbrev main_cst_79 : Ref sig .tc := ⟨.hbm, 603, rfl⟩
abbrev main_v503 : Ref sig .tc := ⟨.hbm, 604, rfl⟩
abbrev main_v504 : Ref sig .tc := ⟨.hbm, 605, rfl⟩
abbrev main_cst_80 : Ref sig .tc := ⟨.hbm, 606, rfl⟩
abbrev main_v505 : Ref sig .tc := ⟨.hbm, 607, rfl⟩
abbrev main_v506 : Ref sig .tc := ⟨.hbm, 608, rfl⟩
abbrev main_v507 : Ref sig .tc := ⟨.hbm, 609, rfl⟩
abbrev main_v508 : Ref sig .tc := ⟨.hbm, 610, rfl⟩
abbrev main_v509 : Ref sig .tc := ⟨.hbm, 611, rfl⟩

abbrev nD : Nat := 1
abbrev τ : Topo := Topo.v7x

variable {F : FTy → Type} [FloatOps F]
-- ==== Proof.Spec.lean ====
/- The network over the reals, one sample at a time: what both programs compute. A sample has 22 particles with three
   coordinates and 64 features each; a layer sends a message along every ordered pair of different particles. The second
   half states the same layer as the kernel arranges it, over 24 rows of which the last two are padding, and proves the two
   agree on the first 22. -/
module

public import Mathlib.Analysis.SpecialFunctions.Trigonometric.Basic
public import Mathlib.Algebra.BigOperators.Fin
public import Mathlib.Tactic.Ring
public import Mathlib.Tactic.FieldSimp
public import Mathlib.Tactic.Linarith

@[expose] public section

noncomputable section

namespace Cert.Proof

open scoped BigOperators

/-- The activation `x · σ(x)`. -/
def silu (x : ℝ) : ℝ := x * (1 + Real.exp (-x))⁻¹

/-- The activation as the kernel computes it from half its argument. -/
theorem half_tanh_eq_silu (x : ℝ) : (1 / 2 * x) * (Real.tanh (1 / 2 * x) + 1) = silu x := by
  unfold silu
  rw [Real.tanh_eq_sinh_div_cosh, Real.sinh_eq, Real.cosh_eq]
  have e : Real.exp (-x) = Real.exp (-(1 / 2 * x)) * Real.exp (-(1 / 2 * x)) := by
    rw [← Real.exp_add]; congr 1; ring
  have e1 : Real.exp (1 / 2 * x) * Real.exp (-(1 / 2 * x)) = 1 := by
    rw [← Real.exp_add]; simp
  have p : 0 < Real.exp (1 / 2 * x) := Real.exp_pos _
  have n : 0 < Real.exp (-(1 / 2 * x)) := Real.exp_pos _
  rw [e]
  generalize Real.exp (1 / 2 * x) = a at *
  generalize Real.exp (-(1 / 2 * x)) = b at *
  have h1 : (a + b) / 2 ≠ 0 := by positivity
  have h2 : 1 + b * b ≠ 0 := by positivity
  have h3 : a + b ≠ 0 := by positivity
  field_simp
  linear_combination 2 * x * b * e1

/-- The weights of one layer, of which the first edge matrix is cut into the part of the receiver, the part of the sender
    and the rows of the two squared distances, and the first node matrix into the part of the features and that of the
    gathered messages. -/
structure Wt where
  eR : Fin 64 → Fin 64 → ℝ
  eC : Fin 64 → Fin 64 → ℝ
  e2 : Fin 64 → Fin 64 → ℝ
  nH : Fin 64 → Fin 64 → ℝ
  nA : Fin 64 → Fin 64 → ℝ
  n2 : Fin 64 → Fin 64 → ℝ
  c1 : Fin 64 → Fin 64 → ℝ
  eRad : Fin 64 → ℝ
  eEa : Fin 64 → ℝ
  eb1 : Fin 64 → ℝ
  eb2 : Fin 64 → ℝ
  nb1 : Fin 64 → ℝ
  nb2 : Fin 64 → ℝ
  cb1 : Fin 64 → ℝ
  c2 : Fin 64 → ℝ

/-- A row times a matrix. -/
def mv (f : Fin 64 → ℝ) (w : Fin 64 → Fin 64 → ℝ) (k : Fin 64) : ℝ := ∑ r, f r * w r k

/-- The first edge layer before its activation. -/
def pre1 (W : Wt) (hi hj : Fin 64 → ℝ) (rad ea : ℝ) (k : Fin 64) : ℝ :=
  mv hi W.eR k + mv hj W.eC k + rad * W.eRad k + ea * W.eEa k + W.eb1 k

/-- The second edge layer, on any first layer. -/
def msg2 (W : Wt) (m : Fin 64 → ℝ) (k : Fin 64) : ℝ := silu (mv m W.e2 k + W.eb2 k)

/-- The message along an edge. -/
def msg (W : Wt) (hi hj : Fin 64 → ℝ) (rad ea : ℝ) : Fin 64 → ℝ := msg2 W fun k => silu (pre1 W hi hj rad ea k)

/-- The weight of the coordinate difference that a message gives. -/
def coef (W : Wt) (m : Fin 64 → ℝ) : ℝ := ∑ k, silu (mv m W.c1 k + W.cb1 k) * W.c2 k

/-- A particle's new features. -/
def node (W : Wt) (h agg : Fin 64 → ℝ) (k : Fin 64) : ℝ :=
  h k + (mv (fun r => silu (mv h W.nH r + mv agg W.nA r + W.nb1 r)) W.n2 k + W.nb2 k)

/-- The squared distance of two particles. -/
def sqd {n : ℕ} (x : Fin n → Fin 3 → ℝ) (i j : Fin n) : ℝ := ∑ d, (x i d - x j d) * (x i d - x j d)

/-- One layer on the coordinates. -/
def stepX (W : Wt) (x : Fin 22 → Fin 3 → ℝ) (h : Fin 22 → Fin 64 → ℝ) (ea : Fin 22 → Fin 22 → ℝ) (i : Fin 22) (d : Fin 3) : ℝ :=
  x i d + ∑ j, if i = j then 0 else (x i d - x j d) * coef W (msg W (h i) (h j) (sqd x i j) (ea i j))

/-- One layer on the features. -/
def stepH (W : Wt) (x : Fin 22 → Fin 3 → ℝ) (h : Fin 22 → Fin 64 → ℝ) (ea : Fin 22 → Fin 22 → ℝ) (i : Fin 22) (k : Fin 64) : ℝ :=
  node W (h i) (fun k => ∑ j, if i = j then 0 else msg W (h i) (h j) (sqd x i j) (ea i j) k) k

/-- The features before the first layer: a particle's four inputs and its sample's time, embedded. -/
def feat {n : ℕ} (hi : Fin n → Fin 4 → ℝ) (t : ℝ) (em : Fin 4 → Fin 64 → ℝ) (et eb : Fin 64 → ℝ) (i : Fin n) (k : Fin 64) : ℝ :=
  ((∑ r, hi i r * em r k) + t * et k) + eb k

/-- One layer on both. -/
def lay (W : Wt) (ea : Fin 22 → Fin 22 → ℝ) (p : (Fin 22 → Fin 3 → ℝ) × (Fin 22 → Fin 64 → ℝ)) :
    (Fin 22 → Fin 3 → ℝ) × (Fin 22 → Fin 64 → ℝ) := (stepX W p.1 p.2 ea, stepH W p.1 p.2 ea)

/-- What the first three layers leave. -/
def lay3 (W : Fin 4 → Wt) (x : Fin 22 → Fin 3 → ℝ) (h : Fin 22 → Fin 64 → ℝ) : (Fin 22 → Fin 3 → ℝ) × (Fin 22 → Fin 64 → ℝ) :=
  lay (W 2) (sqd x) (lay (W 1) (sqd x) (lay (W 0) (sqd x) (x, h)))

/-- The coordinates after the four layers; the last layer's features are read by nothing. -/
def lastX (W : Fin 4 → Wt) (x : Fin 22 → Fin 3 → ℝ) (h : Fin 22 → Fin 64 → ℝ) : Fin 22 → Fin 3 → ℝ :=
  stepX (W 3) (lay3 W x h).1 (lay3 W x h).2 (sqd x)

/-- The velocity of a particle, less the mean velocity of its sample. -/
def net (W : Fin 4 → Wt) (x : Fin 22 → Fin 3 → ℝ) (h : Fin 22 → Fin 64 → ℝ) (i : Fin 22) (d : Fin 3) : ℝ :=
  (lastX W x h i d - x i d) - (∑ j, (lastX W x h j d - x j d)) * (1 / 22)

/-! ## The layer as the kernel arranges it, over 24 rows -/

/-- The row of a particle among the 24. -/
abbrev up (i : Fin 22) : Fin 24 := ⟨i.val, by omega⟩

/-- A message of the kernel: into every row, from every row; a padding row sends the message of a zero first layer. -/
def kM (W : Wt) (X : Fin 24 → Fin 3 → ℝ) (H : Fin 24 → Fin 64 → ℝ) (E : Fin 24 → Fin 24 → ℝ) (i j : Fin 24) : Fin 64 → ℝ :=
  if j.val < 22 then msg W (H i) (H j) (sqd X i j) (E i j) else fun k => silu (W.eb2 k)

/-- The kernel's layer on the coordinates. -/
def kX (W : Wt) (X : Fin 24 → Fin 3 → ℝ) (H : Fin 24 → Fin 64 → ℝ) (E : Fin 24 → Fin 24 → ℝ) (i : Fin 24) (d : Fin 3) : ℝ :=
  ((X i d + ∑ j, (X i d - X j d) * coef W (kM W X H E i j)) - 2 * coef W (fun k => silu (W.eb2 k)) * X i d)
    * (if i.val < 22 then 1 else 0)

/-- The kernel's layer on the features. -/
def kH (W : Wt) (X : Fin 24 → Fin 3 → ℝ) (H : Fin 24 → Fin 64 → ℝ) (E : Fin 24 → Fin 24 → ℝ) (i : Fin 24) (k : Fin 64) : ℝ :=
  H i k + mv (fun r => silu (mv (H i) W.nH r
    + mv (fun c => ((∑ j, kM W X H E i j c) - msg W (H i) (H i) 0 0 c) - 2 * silu (W.eb2 c)) W.nA r + W.nb1 r)) W.n2 k + W.nb2 k

/-- A sum over the 24 rows: the 22 particles and the two rows of padding. -/
theorem sum24 (f : Fin 24 → ℝ) : ∑ j, f j = (∑ j : Fin 22, f (up j)) + f ⟨22, by omega⟩ + f ⟨23, by omega⟩ := by
  rw [Fin.sum_univ_castSucc, Fin.sum_univ_castSucc]
  rfl

/-- What the layers keep: the padding rows' coordinates are zero, and the rows of the particles are the sample's. -/
structure Pads (X : Fin 24 → Fin 3 → ℝ) (x : Fin 22 → Fin 3 → ℝ) : Prop where
  pad : ∀ i d, ¬ i.val < 22 → X i d = 0
  row : ∀ i d, X (up i) d = x i d

/-- The padding leaves the distances of the particles as they are. -/
theorem sqd_up {X : Fin 24 → Fin 3 → ℝ} {x : Fin 22 → Fin 3 → ℝ} (hx : Pads X x) (i j : Fin 22) :
    sqd X (up i) (up j) = sqd x i j := by
  unfold sqd; simp only [hx.row]

/-- The padding leaves the messages of the particles as they are. -/
theorem kM_up {W : Wt} {X : Fin 24 → Fin 3 → ℝ} {x : Fin 22 → Fin 3 → ℝ} {H : Fin 24 → Fin 64 → ℝ} {h : Fin 22 → Fin 64 → ℝ}
    {E : Fin 24 → Fin 24 → ℝ} {e : Fin 22 → Fin 22 → ℝ}
    (hx : Pads X x) (hh : ∀ i, H (up i) = h i) (he : ∀ i j, E (up i) (up j) = e i j) (i j : Fin 22) :
    kM W X H E (up i) (up j) = msg W (h i) (h j) (sqd x i j) (e i j) := by
  unfold kM
  rw [if_pos j.isLt, sqd_up hx, hh, hh, he]

/-- The coordinates of the kernel's layer are the layer's. -/
theorem kX_up {W : Wt} {X : Fin 24 → Fin 3 → ℝ} {x : Fin 22 → Fin 3 → ℝ} {H : Fin 24 → Fin 64 → ℝ} {h : Fin 22 → Fin 64 → ℝ}
    {E : Fin 24 → Fin 24 → ℝ} {e : Fin 22 → Fin 22 → ℝ}
    (hx : Pads X x) (hh : ∀ i, H (up i) = h i) (he : ∀ i j, E (up i) (up j) = e i j) :
    Pads (kX W X H E) (stepX W x h e) where
  pad i d hi := by unfold kX; rw [if_neg hi, mul_zero]
  row i d := by
    unfold kX stepX
    rw [if_pos i.isLt, mul_one, sum24]
    have p22 : kM W X H E (up i) ⟨22, by omega⟩ = fun k => silu (W.eb2 k) := if_neg (lt_irrefl 22)
    have p23 : kM W X H E (up i) ⟨23, by omega⟩ = fun k => silu (W.eb2 k) := if_neg (by decide)
    rw [p22, p23, hx.pad ⟨22, by omega⟩ d (lt_irrefl 22), hx.pad ⟨23, by omega⟩ d (by decide)]
    have hs : (∑ j : Fin 22, (X (up i) d - X (up j) d) * coef W (kM W X H E (up i) (up j)))
        = ∑ j, if i = j then 0 else (x i d - x j d) * coef W (msg W (h i) (h j) (sqd x i j) (e i j)) :=
      Finset.sum_congr rfl fun j _ => by
        rw [kM_up hx hh he, hx.row, hx.row]
        split
        · next hij => rw [hij, sub_self, zero_mul]
        · rfl
    rw [hs, hx.row]
    ring

/-- The features of the kernel's layer are the layer's. -/
theorem kH_up {W : Wt} {X : Fin 24 → Fin 3 → ℝ} {x : Fin 22 → Fin 3 → ℝ} {H : Fin 24 → Fin 64 → ℝ} {h : Fin 22 → Fin 64 → ℝ}
    {E : Fin 24 → Fin 24 → ℝ} {e : Fin 22 → Fin 22 → ℝ}
    (hx : Pads X x) (hh : ∀ i, H (up i) = h i) (he : ∀ i j, E (up i) (up j) = e i j) (h0 : ∀ i, e i i = 0) (i : Fin 22) :
    kH W X H E (up i) = stepH W x h e i := by
  funext k
  unfold kH stepH node
  have hagg : (fun c => ((∑ j, kM W X H E (up i) j c) - msg W (H (up i)) (H (up i)) 0 0 c) - 2 * silu (W.eb2 c))
      = fun c => ∑ j, if i = j then 0 else msg W (h i) (h j) (sqd x i j) (e i j) c := by
    funext c
    rw [sum24]
    have p22 : kM W X H E (up i) ⟨22, by omega⟩ = fun k => silu (W.eb2 k) := if_neg (lt_irrefl 22)
    have p23 : kM W X H E (up i) ⟨23, by omega⟩ = fun k => silu (W.eb2 k) := if_neg (by decide)
    rw [p22, p23, hh]
    have hs : ∀ j : Fin 22, kM W X H E (up i) (up j) c
        = (if i = j then 0 else msg W (h i) (h j) (sqd x i j) (e i j) c) + if i = j then msg W (h i) (h i) 0 0 c else 0 := fun j => by
      rw [kM_up hx hh he]
      split
      · next hij =>
        subst hij
        have : sqd x i i = 0 := by unfold sqd; simp
        rw [this, h0, zero_add]
      · rw [add_zero]
    rw [Finset.sum_congr rfl fun j _ => hs j, Finset.sum_add_distrib, Finset.sum_ite_eq Finset.univ i]
    simp only [Finset.mem_univ, if_true]
    ring
  rw [hagg, hh, add_assoc]

/-- A particle has no distance from itself. -/
theorem sqd_self {n : ℕ} (x : Fin n → Fin 3 → ℝ) (i : Fin n) : sqd x i i = 0 := by simp [sqd]

/-- The kernel's layer on both. -/
def klay (W : Wt) (E : Fin 24 → Fin 24 → ℝ) (p : (Fin 24 → Fin 3 → ℝ) × (Fin 24 → Fin 64 → ℝ)) :
    (Fin 24 → Fin 3 → ℝ) × (Fin 24 → Fin 64 → ℝ) := (kX W p.1 p.2 E, kH W p.1 p.2 E)

/-- Coordinates and features over the 24 rows stand for those of a sample. -/
structure Holds (P : (Fin 24 → Fin 3 → ℝ) × (Fin 24 → Fin 64 → ℝ)) (p : (Fin 22 → Fin 3 → ℝ) × (Fin 22 → Fin 64 → ℝ)) : Prop where
  pads : Pads P.1 p.1
  rows : ∀ i, P.2 (up i) = p.2 i

/-- The kernel's layer keeps standing for the sample's. -/
theorem Holds.lay {W : Wt} {P : (Fin 24 → Fin 3 → ℝ) × (Fin 24 → Fin 64 → ℝ)} {p : (Fin 22 → Fin 3 → ℝ) × (Fin 22 → Fin 64 → ℝ)}
    {E : Fin 24 → Fin 24 → ℝ} {e : Fin 22 → Fin 22 → ℝ}
    (h : Holds P p) (he : ∀ i j, E (up i) (up j) = e i j) (h0 : ∀ i, e i i = 0) : Holds (klay W E P) (lay W e p) :=
  ⟨kX_up h.pads h.rows he, kH_up h.pads h.rows he h0⟩

/-- The kernel's coordinates after the four layers. -/
def klast (W : Fin 4 → Wt) (X : Fin 24 → Fin 3 → ℝ) (H : Fin 24 → Fin 64 → ℝ) : Fin 24 → Fin 3 → ℝ :=
  (klay (W 3) (sqd X) (klay (W 2) (sqd X) (klay (W 1) (sqd X) (klay (W 0) (sqd X) (X, H))))).1

/-- They are the sample's, and zero in the padding rows. -/
theorem klast_pads {W : Fin 4 → Wt} {X : Fin 24 → Fin 3 → ℝ} {x : Fin 22 → Fin 3 → ℝ} {H : Fin 24 → Fin 64 → ℝ} {h : Fin 22 → Fin 64 → ℝ}
    (hx : Pads X x) (hh : ∀ i, H (up i) = h i) : Pads (klast W X H) (lastX W x h) :=
  have he := sqd_up hx
  have h0 := sqd_self x
  (((((Holds.mk (P := (X, H)) (p := (x, h)) hx hh).lay (W := W 0) he h0).lay (W := W 1) he h0).lay (W := W 2) he h0).lay (W := W 3) he h0).pads

end Cert.Proof

end
-- ==== Proof.KRead.lean ====
/- The kernel's block, operation by operation: what each named value of it holds at an index, over the extended reals, as
   sums and products of what the values it reads hold. -/
module

public import proofs.«01_k».proof.Proof.Spec
public import proofs.«01_k».proof.Proof.Gen.KernelIdeal.Skeleton
public import Idealize.ShloMosaic.Lib.Pointwise
public import Idealize.ShloMosaic.Lib.MatmulPlain

@[expose] public section

noncomputable section

namespace Cert.Proof

open Idealize.ShloMosaic Cert.KernelIdeal Cert.KernelIdeal.Gen
open scoped BigOperators

/-- The kernel's activation of a halved argument. -/
def shE (t : EReal) : EReal := t * (Ideal.tanh t + 1)

/-- The constant two. -/
theorem ofBits_two : Ideal.ofBits .f32 0x40000000#32 = 2 := by
  simp [Ideal.ofBits, Ideal.ieee, -EReal.coe_mul]
  norm_num
  rfl

/-- The row of a pair of rows `(i, j)` has the receiving row `i`. -/
abbrev rcv (r : Fin 9216) : Fin 384 := ⟨r.val / 576 * 24 + r.val / 24 % 24, by omega⟩
/-- The row of a pair of rows `(i, j)` has the sending row `j`. -/
abbrev snd (r : Fin 9216) : Fin 384 := ⟨r.val / 576 * 24 + r.val % 24, by omega⟩

/-- An entry of the receiving part of a layer's edges. -/
theorem pay9_apply (h : FVec Ideal S384x128 .f32) (w : Vec Ideal S1x128x128 .f32) (b : Vec Ideal S1x1x128 .f32) (r : Fin 384) (c : Fin 128) :
    k0_pay9 h w b (ix2 r c) = (∑ k, h (ix2 r k) * w (ix3 0 k c)) + b (ix3 0 0 c) := by
  pointwise [k0_pay9]

/-- An entry of the sending part of a layer's edges. -/
theorem pay10_apply (h : FVec Ideal S384x128 .f32) (w : Vec Ideal S1x128x128 .f32) (r : Fin 384) (c : Fin 128) :
    k0_pay10 h w (ix2 r c) = ∑ k, h (ix2 r k) * w (ix3 0 k c) := by
  pointwise [k0_pay10]

/-- An entry of the message from a padding particle. -/
theorem pay27_apply (b : Vec Ideal S1x1x128 .f32) (c : Fin 128) :
    k0_pay27 b (ix2 0 c) = shE (b (ix3 0 0 c)) := by
  pointwise [k0_pay27, shE]

/-- An entry of the coefficient of the padding's message. -/
theorem pay28_apply (m : FVec Ideal S1x128 .f32) (w : Vec Ideal S1x128x128 .f32) (b : Vec Ideal S1x1x128 .f32) (w6 : Vec Ideal S1x128x6 .f32) (c : Fin 6) :
    k0_pay28 m w b w6 (ix2 0 c) = ∑ x, shE ((∑ k, m (ix2 0 k) * w (ix3 0 k x)) + b (ix3 0 0 x)) * w6 (ix3 0 x c) := by
  pointwise [k0_pay28, shE]

/-- An entry of the message from a particle to itself. -/
theorem pay29_apply (A C : FVec Ideal S384x128 .f32) (w : Vec Ideal S1x128x128 .f32) (b : Vec Ideal S1x1x128 .f32) (r : Fin 384) (c : Fin 128) :
    k0_pay29 A C w b (ix2 r c) = shE ((∑ k, shE (A (ix2 r k) + C (ix2 r k)) * w (ix3 0 k c)) + b (ix3 0 0 c)) := by
  pointwise [k0_pay29, shE]

/-- An entry of what a pair takes from its two ends, masked. -/
theorem pay30_apply (n : FVec Ideal S1x24x1 .f32) (A C : FVec Ideal S384x128 .f32) (r : Fin 9216) (c : Fin 128) :
    k0_pay30 n A C (ix2 r c) = A (ix2 (rcv r) c) + (C (ix2 (snd r) c) + n (ix3 0 ⟨r.val % 24, by omega⟩ 0)) := by
  pointwise [k0_pay30]

/-- An entry of a message. -/
theorem pay31_apply (ea rad : FVec Ideal S9216x2 .f32) (z : FVec Ideal S9216x128 .f32) (Wr We : Vec Ideal S1x2x128 .f32)
    (w : Vec Ideal S1x128x128 .f32) (b : Vec Ideal S1x1x128 .f32) (r : Fin 9216) (c : Fin 128) :
    k0_pay31 ea rad z Wr We w b (ix2 r c)
      = shE ((∑ x, shE (z (ix2 r x) + (∑ s, rad (ix2 r s) * Wr (ix3 0 s x)) + (∑ s, ea (ix2 r s) * We (ix3 0 s x))) * w (ix3 0 x c))
          + b (ix3 0 0 c)) := by
  pointwise [k0_pay31, shE]

/-- An entry of the hidden row that the coefficient of a message is read from. -/
theorem pay32_eq (ea rad : FVec Ideal S9216x2 .f32) (z : FVec Ideal S9216x128 .f32) (Wr We : Vec Ideal S1x2x128 .f32)
    (w : Vec Ideal S1x128x128 .f32) (b : Vec Ideal S1x1x128 .f32) (w' : Vec Ideal S1x128x128 .f32) (b' : Vec Ideal S1x1x128 .f32)
    (r : Fin 9216) (c : Fin 128) :
    k0_pay32 ea rad z Wr We w b w' b' (ix2 r c)
      = shE ((∑ x, k0_pay31 ea rad z Wr We w b (ix2 r x) * w' (ix3 0 x c)) + b' (ix3 0 0 c)) := by
  pointwise [k0_pay32, shE]

/-- An entry of the difference of two coordinates. -/
theorem pay23_apply (v : FVec Ideal S16x24x6 .f32) (q : Fin 16) (i j : Fin 24) (c : Fin 6) :
    k0_pay23 v (ix4 q i j c) = v (ix3 q i c) - v (ix3 q j c) := by
  pointwise [k0_pay23]

/-- An entry of a squared distance, and its rounding error which is zero. -/
theorem pay24_apply (v : FVec Ideal S16x24x6 .f32) (p p' : Vec Ideal S6x2 .f32) (r : Fin 9216) (s : Fin 2) :
    k0_pay24 v p p' (ix2 r s)
      = (∑ c, (k0_pay23 v (ix4 ⟨r.val / 576, by omega⟩ ⟨r.val / 24 % 24, by omega⟩ ⟨r.val % 24, by omega⟩ c)
            * k0_pay23 v (ix4 ⟨r.val / 576, by omega⟩ ⟨r.val / 24 % 24, by omega⟩ ⟨r.val % 24, by omega⟩ c)) * p (ix2 c s))
        + ∑ c, (k0_pay23 v (ix4 ⟨r.val / 576, by omega⟩ ⟨r.val / 24 % 24, by omega⟩ ⟨r.val % 24, by omega⟩ c)
            * k0_pay23 v (ix4 ⟨r.val / 576, by omega⟩ ⟨r.val / 24 % 24, by omega⟩ ⟨r.val % 24, by omega⟩ c)
            - k0_pay23 v (ix4 ⟨r.val / 576, by omega⟩ ⟨r.val / 24 % 24, by omega⟩ ⟨r.val % 24, by omega⟩ c)
            * k0_pay23 v (ix4 ⟨r.val / 576, by omega⟩ ⟨r.val / 24 % 24, by omega⟩ ⟨r.val % 24, by omega⟩ c)) * p' (ix2 c s) := by
  pointwise [k0_pay24]

/-- An entry of the new coordinates. -/
theorem pay33_apply (nm : FVec Ideal S1x24x1 .f32) (v : FVec Ideal S16x24x6 .f32) (cd : FVec Ideal S16x24x24x6 .f32)
    (cs : FVec Ideal S1x6 .f32) (c1 : FVec Ideal S9216x128 .f32) (w6 : Vec Ideal S1x128x6 .f32) (q : Fin 16) (i : Fin 24) (c : Fin 6) :
    k0_pay33 nm v cd cs c1 w6 (ix3 q i c)
      = ((v (ix3 q i c) + ∑ j : Fin 24, cd (ix4 q i j c) * ∑ x, c1 (ix2 (⟨q.val * 576 + i.val * 24 + j.val, by omega⟩ : Fin 9216) x) * w6 (ix3 0 x c))
          - 2 * cs (ix2 0 c) * v (ix3 q i c)) * nm (ix3 0 i 0) := by
  pointwise [k0_pay33]
  rw [ofBits_two]

/-- An entry of the node's hidden row. -/
theorem pay34_apply (h : FVec Ideal S384x128 .f32) (me : FVec Ideal S1x128 .f32) (md : FVec Ideal S384x128 .f32) (m : FVec Ideal S9216x128 .f32)
    (nH nA : Vec Ideal S1x128x128 .f32) (b : Vec Ideal S1x1x128 .f32) (r : Fin 384) (c : Fin 128) :
    k0_pay34 h me md m nH nA b (ix2 r c)
      = shE ((∑ x, h (ix2 r x) * nH (ix3 0 x c))
          + (∑ x, (((∑ j : Fin 24, m (ix2 (⟨r.val / 24 * 576 + r.val % 24 * 24 + j.val, by omega⟩ : Fin 9216) x)) - md (ix2 r x)) - 2 * me (ix2 0 x)) * nA (ix3 0 x c))
          + b (ix3 0 0 c)) := by
  pointwise [k0_pay34, shE]
  rw [ofBits_two]

/-- An entry of the new features. -/
theorem pay35_apply (h z : FVec Ideal S384x128 .f32) (w : Vec Ideal S1x128x128 .f32) (b : Vec Ideal S1x1x128 .f32) (r : Fin 384) (c : Fin 128) :
    k0_pay35 h z w b (ix2 r c) = h (ix2 r c) + (∑ k, z (ix2 r k) * w (ix3 0 k c)) + b (ix3 0 0 c) := by
  pointwise [k0_pay35]

/-- The features before the first layer: both halves of a row take the same embedding, the time has its own half's column. -/
theorem pay3_apply (hi : Vec Ideal S24x4 .f32) (w : Vec Ideal S4x64 .f32) (b : Vec Ideal S1x64 .f32) (t : Vec Ideal S16x2 .f32)
    (p : Vec Ideal S2x128 .f32) (u : Vec Ideal S1x64 .f32) (r : Fin 384) (c : Fin 128) :
    k0_pay3 hi w b t p u u (ix2 r c)
      = ((∑ k, hi (ix2 ⟨r.val % 24, by omega⟩ k) * w (ix2 k ⟨c.val % 64, by omega⟩)) + b (ix2 0 ⟨c.val % 64, by omega⟩))
        + (∑ s, t (ix2 ⟨r.val / 24, by omega⟩ s) * p (ix2 s c)) * u (ix2 0 ⟨c.val % 64, by omega⟩) := by
  pointwise [k0_pay3]
  by_cases hc : c.val < 64
  · have e : (⟨c.val % 64, by omega⟩ : Fin 64) = ⟨c.val, hc⟩ := Fin.ext (Nat.mod_eq_of_lt hc)
    rw [e, dif_pos hc, dif_pos hc]
  · have e : (⟨c.val % 64, by omega⟩ : Fin 64) = ⟨c.val - 64, by omega⟩ := Fin.ext (by show c.val % 64 = c.val - 64; omega)
    rw [e, dif_neg hc, dif_neg hc]

/-- An entry of the indicator of the particles that are not padding. -/
theorem pay4_apply (i : Fin 24) : k0_pay4 (F := Ideal) (ix3 0 i 0) = if i.val < 22 then 1 else 0 := by
  pointwise [k0_pay4]
  have e : ∀ i : Fin 24, BitVec.setWidth 32 (IntOp.cmpi CmpIPredicate.slt (BitVec.ofNat 32 i.val) 22#32)
      = if i.val < 22 then 1#32 else 0#32 := by decide
  rw [e]
  split
  · show ((((1#32 : BitVec 32).toInt : ℤ) : ℝ) : EReal) = 1
    rw [show (1#32 : BitVec 32).toInt = 1 by decide]; simp
  · show ((((0#32 : BitVec 32).toInt : ℤ) : ℝ) : EReal) = 0
    rw [show (0#32 : BitVec 32).toInt = 0 by decide]; simp

/-- An entry of the mask, from its indicator. -/
theorem pay6_apply (x : EReal) (i : Fin 24) : k0_pay6 (F := Ideal) k0_pay5 x (ix3 0 i 0) = (1 - k0_pay4 (F := Ideal) (ix3 0 i 0)) * x := by
  pointwise [k0_pay6, k0_pay5]

/-- The coordinates as loaded. -/
theorem pay2_eq (x : Vec Ideal S16x24x6 .f32) (q : Fin 16) (i : Fin 24) (c : Fin 6) : k0_pay2 x (ix3 q i c) = x (ix3 q i c) := by
  pointwise [k0_pay2]

/-- The mean-free velocity that the block stores, of the coordinates that the last layer leaves. -/
theorem pay1_apply (v1 : FVec Ideal S16x24x6 .f32) (nm : FVec Ideal S1x24x1 .f32) (v : FVec Ideal S16x24x6 .f32)
    (x : FVec Ideal S16x24x6 .f32) (y : FVec Ideal S1x1x6 .f32)
    (q : Fin 16) (i : Fin 24) (c : Fin 6) :
    k0_pay1 v1 nm v x y (ix3 q i c)
      = (((x (ix3 q i c) - y (ix3 0 0 c) * v (ix3 q i c)) * nm (ix3 0 i 0)) - v1 (ix3 q i c))
        - (∑ j : Fin 24, ((((x (ix3 q j c) - y (ix3 0 0 c) * v (ix3 q j c)) * nm (ix3 0 j 0)) - v1 (ix3 q j c)) * nm (ix3 0 j 0)))
          * Named.named (F := Ideal) κ "inv_p" 0x3D3A2E8C#32 := by
  pointwise [k0_pay1]

end Cert.Proof

end
-- ==== Proof.KLayer.lean ====
/- One layer of the kernel's block over the reals: with every value it reads finite — the padding rows' features reach only
   their own row —, what it leaves is the layer of `Spec` over 24 rows, for each of the 32 samples of a block. -/
module

public import proofs.«01_k».proof.Proof.KRead

@[expose] public section

noncomputable section

namespace Cert.Proof

open Idealize.ShloMosaic Cert.KernelIdeal Cert.KernelIdeal.Gen
open scoped BigOperators

/-! ## Indices of packed rows -/

/-- Feature `k` of the sample `s` of a packed row. -/
abbrev lane (s : Fin 2) (k : Fin 64) : Fin 128 := ⟨64 * s.val + k.val, by omega⟩
/-- Coordinate `d` of the sample `s` of a packed row. -/
abbrev crd (s : Fin 2) (d : Fin 3) : Fin 6 := ⟨3 * s.val + d.val, by omega⟩
/-- The row of particle `i` of pair of samples `q`. -/
abbrev row (q : Fin 16) (i : Fin 24) : Fin 384 := ⟨24 * q.val + i.val, by omega⟩
/-- The row of the edge into `i` from `j`. -/
abbrev edg (q : Fin 16) (i j : Fin 24) : Fin 9216 := ⟨576 * q.val + 24 * i.val + j.val, by omega⟩

/-- A sum over the lanes is one over the two samples and their features. -/
theorem sum_lane {M : Type*} [AddCommMonoid M] (f : Fin 128 → M) : ∑ c, f c = ∑ s : Fin 2, ∑ k : Fin 64, f (lane s k) := by
  rw [← Fintype.sum_prod_type']
  refine (Fintype.sum_equiv (finProdFinEquiv (m := 2) (n := 64)) _ _ fun x => ?_).symm
  congr 1
  exact Fin.ext (by show 64 * x.1.val + x.2.val = x.2.val + 64 * x.1.val; omega)

/-- A sum over the six coordinates is one over the two samples and their three coordinates. -/
theorem sum_crd {M : Type*} [AddCommMonoid M] (f : Fin 6 → M) : ∑ c, f c = ∑ s : Fin 2, ∑ d : Fin 3, f (crd s d) := by
  rw [← Fintype.sum_prod_type']
  refine (Fintype.sum_equiv (finProdFinEquiv (m := 2) (n := 3)) _ _ fun x => ?_).symm
  congr 1
  exact Fin.ext (by show 3 * x.1.val + x.2.val = x.2.val + 3 * x.1.val; omega)

/-- A sum of real numbers as a sum of extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A packed row times a column of which only the sample's own half is nonzero: the sample's half of the row times it. -/
theorem sum_blk {f w : Fin 128 → EReal} {g : Fin 2 → Fin 64 → ℝ} {v : Fin 64 → ℝ} {s' : Fin 2}
    (hf : ∀ s k, f (lane s k) = (g s k : ℝ)) (hw : ∀ s k, w (lane s k) = ((if s = s' then v k else 0 : ℝ) : EReal)) :
    ∑ c, f c * w c = ((∑ k, g s' k * v k : ℝ) : EReal) := by
  rw [sum_lane, Finset.sum_eq_single s']
  · rw [coe_sum]
    refine Finset.sum_congr rfl fun k _ => ?_
    rw [hf, hw, if_pos rfl, EReal.coe_mul]
  · intro s _ hs
    refine Finset.sum_eq_zero fun k _ => ?_
    rw [hf, hw, if_neg hs, EReal.coe_zero, mul_zero]
  · intro h; exact absurd (Finset.mem_univ _) h

/-- The same of a row of three coordinates per sample. -/
theorem sum_blk6 {f w : Fin 6 → EReal} {g : Fin 2 → Fin 3 → ℝ} {s' : Fin 2}
    (hf : ∀ s k, f (crd s k) = (g s k : ℝ)) (hw : ∀ s k, w (crd s k) = ((if s = s' then 1 else 0 : ℝ) : EReal)) :
    ∑ c, f c * w c = ((∑ k, g s' k : ℝ) : EReal) := by
  rw [sum_crd, Finset.sum_eq_single s']
  · rw [coe_sum]
    refine Finset.sum_congr rfl fun k _ => ?_
    rw [hf, hw, if_pos rfl, EReal.coe_one, mul_one]
  · intro s _ hs
    refine Finset.sum_eq_zero fun k _ => ?_
    rw [hf, hw, if_neg hs, EReal.coe_zero, mul_zero]
  · intro h; exact absurd (Finset.mem_univ _) h

/-- The same of a row of one number per sample. -/
theorem sum_blk2 {f w : Fin 2 → EReal} {g : Fin 2 → ℝ} {v : ℝ} {s' : Fin 2}
    (hf : ∀ s, f s = (g s : ℝ)) (hw : ∀ s, w s = ((if s = s' then v else 0 : ℝ) : EReal)) :
    ∑ c, f c * w c = ((g s' * v : ℝ) : EReal) := by
  rw [Finset.sum_eq_single s']
  · rw [hf, hw, if_pos rfl, EReal.coe_mul]
  · intro s _ hs
    rw [hf, hw, if_neg hs, EReal.coe_zero, mul_zero]
  · intro h; exact absurd (Finset.mem_univ _) h

/-! ## The activation -/

/-- At half a real number the activation is `silu` of the number. -/
theorem shE_coe (x : ℝ) : shE ((1 / 2 * x : ℝ) : EReal) = (silu x : ℝ) := by
  unfold shE
  rw [Ideal.tanh_coe, ← EReal.coe_one, ← EReal.coe_add, ← EReal.coe_mul, half_tanh_eq_silu]

/-- At minus infinity the activation is zero. -/
theorem shE_bot : shE ⊥ = 0 := by
  unfold shE
  rw [Ideal.tanh_bot]
  have : (-1 : EReal) + 1 = 0 := by
    rw [← EReal.coe_one, ← EReal.coe_neg, ← EReal.coe_add]; simp
  rw [this, mul_zero]

/-! ## What the values of a layer stand for -/

/-- The coordinates of a block. -/
def RepX (T : FVec Ideal S16x24x6 .f32) (X : Fin 16 → Fin 2 → Fin 24 → Fin 3 → ℝ) : Prop :=
  ∀ q s i d, T (ix3 q i (crd s d)) = (X q s i d : ℝ)
/-- The features of a block. -/
def RepH (T : FVec Ideal S384x128 .f32) (H : Fin 16 → Fin 2 → Fin 24 → Fin 64 → ℝ) : Prop :=
  ∀ q s i k, T (ix2 (row q i) (lane s k)) = (H q s i k : ℝ)
/-- The squared distances of a block. -/
def RepE (T : FVec Ideal S9216x2 .f32) (E : Fin 16 → Fin 2 → Fin 24 → Fin 24 → ℝ) : Prop :=
  ∀ q s i j, T (ix2 (edg q i j) s) = (E q s i j : ℝ)
/-- The messages of a block. -/
def RepM (T : FVec Ideal S9216x128 .f32) (M : Fin 16 → Fin 2 → Fin 24 → Fin 24 → Fin 64 → ℝ) : Prop :=
  ∀ q s i j k, T (ix2 (edg q i j) (lane s k)) = (M q s i j k : ℝ)
/-- A matrix repeated for the two samples, scaled. -/
def RepW (c : ℝ) (T : Vec Ideal S1x128x128 .f32) (w : Fin 64 → Fin 64 → ℝ) : Prop :=
  ∀ s k s' k', T (ix3 0 (lane s k) (lane s' k')) = ((if s = s' then c * w k k' else 0 : ℝ) : EReal)
/-- A row repeated for the two samples, scaled. -/
def RepB (c : ℝ) (T : Vec Ideal S1x1x128 .f32) (b : Fin 64 → ℝ) : Prop :=
  ∀ s k, T (ix3 0 0 (lane s k)) = ((c * b k : ℝ) : EReal)
/-- A row that each sample takes for its own number, halved. -/
def RepR (T : Vec Ideal S1x2x128 .f32) (b : Fin 64 → ℝ) : Prop :=
  ∀ s s' k, T (ix3 0 s (lane s' k)) = ((if s = s' then 1 / 2 * b k else 0 : ℝ) : EReal)
/-- A column that each coordinate of a sample takes. -/
def RepC (T : Vec Ideal S1x128x6 .f32) (b : Fin 64 → ℝ) : Prop :=
  ∀ s k s' d, T (ix3 0 (lane s k) (crd s' d)) = ((if s = s' then b k else 0 : ℝ) : EReal)
/-- The matrix that adds the three coordinates of each sample. -/
def RepP (T : Vec Ideal S6x2 .f32) : Prop :=
  ∀ s d s', T (ix2 (crd s d) s') = ((if s = s' then 1 else 0 : ℝ) : EReal)

/-- A packed row times a packed matrix: each sample's row times the matrix. -/
theorem sum_mv {f : Fin 128 → EReal} {g : Fin 2 → Fin 64 → ℝ} {c : ℝ} {T : Vec Ideal S1x128x128 .f32} {w : Fin 64 → Fin 64 → ℝ}
    (hT : RepW c T w) (hf : ∀ s k, f (lane s k) = (g s k : ℝ)) (s : Fin 2) (k : Fin 64) :
    ∑ x, f x * T (ix3 0 x (lane s k)) = ((c * mv (g s) w k : ℝ) : EReal) := by
  rw [sum_blk (g := g) (v := fun r => c * w r k) (s' := s) hf (fun s' k' => hT s' k' s k)]
  congr 1
  unfold mv
  rw [Finset.mul_sum]
  exact Finset.sum_congr rfl fun r _ => by ring

/-- A halved linear layer and its activation. -/
theorem sh_dense {f : Fin 128 → EReal} {g : Fin 2 → Fin 64 → ℝ} {T : Vec Ideal S1x128x128 .f32} {w : Fin 64 → Fin 64 → ℝ}
    {B : Vec Ideal S1x1x128 .f32} {b : Fin 64 → ℝ}
    (hT : RepW (1 / 2) T w) (hB : RepB (1 / 2) B b) (hf : ∀ s k, f (lane s k) = (g s k : ℝ)) (s : Fin 2) (k : Fin 64) :
    shE ((∑ x, f x * T (ix3 0 x (lane s k))) + B (ix3 0 0 (lane s k))) = (silu (mv (g s) w k + b k) : ℝ) := by
  rw [sum_mv hT hf, hB, ← EReal.coe_add, ← mul_add, shE_coe]

/-- The weights of a layer as the block reads them. -/
structure KW where
  wr : Vec Ideal S1x128x128 .f32
  wc : Vec Ideal S1x128x128 .f32
  Wr : Vec Ideal S1x2x128 .f32
  We : Vec Ideal S1x2x128 .f32
  b1 : Vec Ideal S1x1x128 .f32
  e2 : Vec Ideal S1x128x128 .f32
  b2 : Vec Ideal S1x1x128 .f32
  c1 : Vec Ideal S1x128x128 .f32
  cb : Vec Ideal S1x1x128 .f32
  c6 : Vec Ideal S1x128x6 .f32
  nH : Vec Ideal S1x128x128 .f32
  nA : Vec Ideal S1x128x128 .f32
  nb : Vec Ideal S1x1x128 .f32
  n2 : Vec Ideal S1x128x128 .f32
  n3 : Vec Ideal S1x1x128 .f32

/-- The edge weights that they stand for. -/
structure RepEdge (K : KW) (W : Wt) : Prop where
  wr : RepW (1 / 2) K.wr W.eR
  wc : RepW (1 / 2) K.wc W.eC
  Wr : RepR K.Wr W.eRad
  We : RepR K.We W.eEa
  b1 : RepB (1 / 2) K.b1 W.eb1
  e2 : RepW (1 / 2) K.e2 W.e2
  b2 : RepB (1 / 2) K.b2 W.eb2
  c1 : RepW (1 / 2) K.c1 W.c1
  cb : RepB (1 / 2) K.cb W.cb1
  c6 : RepC K.c6 W.c2

/-- The node weights that they stand for. -/
structure RepNode (K : KW) (W : Wt) : Prop where
  nH : RepW (1 / 2) K.nH W.nH
  nA : RepW (1 / 2) K.nA W.nA
  nb : RepB (1 / 2) K.nb W.nb1
  n2 : RepW 1 K.n2 W.n2
  n3 : RepB 1 K.n3 W.nb2

/-- The mask of the particles' rows. -/
abbrev nmask : FVec Ideal S1x24x1 .f32 := k0_pay4
/-- What the padding rows' sending half is lowered by. -/
abbrev nkill : FVec Ideal S1x24x1 .f32 := k0_pay6 k0_pay5 ⊥

/-- The mask row is minus infinity at the padding and zero elsewhere. -/
theorem nkill_apply (i : Fin 24) : nkill (ix3 0 i 0) = if i.val < 22 then 0 else ⊥ := by
  unfold nkill
  rw [pay6_apply, pay4_apply]
  split
  · have : (1 : EReal) - 1 = 0 := by rw [← EReal.coe_one, ← EReal.coe_sub]; simp
    rw [this, zero_mul]
  · rw [sub_zero, one_mul]

/-- The messages of the block. -/
def gM (h : FVec Ideal S384x128 .f32) (ea rad : FVec Ideal S9216x2 .f32) (K : KW) : FVec Ideal S9216x128 .f32 :=
  k0_pay31 ea rad (k0_pay30 nkill (k0_pay9 h K.wr K.b1) (k0_pay10 h K.wc)) K.Wr K.We K.e2 K.b2
/-- The coordinates that a layer leaves. -/
def gX (X : FVec Ideal S16x24x6 .f32) (h : FVec Ideal S384x128 .f32) (ea rad : FVec Ideal S9216x2 .f32) (K : KW) : FVec Ideal S16x24x6 .f32 :=
  k0_pay33 nmask X (k0_pay23 X) (k0_pay28 (k0_pay27 K.b2) K.c1 K.cb K.c6)
    (k0_pay32 ea rad (k0_pay30 nkill (k0_pay9 h K.wr K.b1) (k0_pay10 h K.wc)) K.Wr K.We K.e2 K.b2 K.c1 K.cb) K.c6
/-- The features that a layer leaves. -/
def gH (h : FVec Ideal S384x128 .f32) (ea rad : FVec Ideal S9216x2 .f32) (K : KW) : FVec Ideal S384x128 .f32 :=
  k0_pay35 h (k0_pay34 h (k0_pay27 K.b2) (k0_pay29 (k0_pay9 h K.wr K.b1) (k0_pay10 h K.wc) K.e2 K.b2) (gM h ea rad K) K.nH K.nA K.nb) K.n2 K.n3

section
variable {X : FVec Ideal S16x24x6 .f32} {x : Fin 16 → Fin 2 → Fin 24 → Fin 3 → ℝ}
  {T : FVec Ideal S384x128 .f32} {H : Fin 16 → Fin 2 → Fin 24 → Fin 64 → ℝ}
  {ea rad : FVec Ideal S9216x2 .f32} {E : Fin 16 → Fin 2 → Fin 24 → Fin 24 → ℝ}
  {K : KW} {W : Wt}

/-- The receiving part of an edge, halved. -/
theorem rep_A (hT : RepH T H) (hK : RepEdge K W) :
    RepH (k0_pay9 T K.wr K.b1) fun q s i k => 1 / 2 * (mv (H q s i) W.eR k + W.eb1 k) := fun q s i k => by
  rw [pay9_apply, sum_mv hK.wr (fun s k => hT q s i k), hK.b1, ← EReal.coe_add, ← mul_add]

/-- The sending part of an edge, halved. -/
theorem rep_C (hT : RepH T H) (hK : RepEdge K W) :
    RepH (k0_pay10 T K.wc) fun q s i k => 1 / 2 * mv (H q s i) W.eC k := fun q s i k => by
  rw [pay10_apply, sum_mv hK.wc (fun s k => hT q s i k)]

/-- The message from a padding particle. -/
theorem rep_me (hK : RepEdge K W) (s : Fin 2) (k : Fin 64) : k0_pay27 K.b2 (ix2 0 (lane s k)) = (silu (W.eb2 k) : ℝ) := by
  rw [pay27_apply, hK.b2, shE_coe]

/-- The coefficient of a message from a padding particle. -/
theorem rep_cs (hK : RepEdge K W) (s : Fin 2) (d : Fin 3) :
    k0_pay28 (k0_pay27 K.b2) K.c1 K.cb K.c6 (ix2 0 (crd s d)) = (coef W (fun k => silu (W.eb2 k)) : ℝ) := by
  rw [pay28_apply, sum_blk (g := fun _ k => silu (mv (fun k => silu (W.eb2 k)) W.c1 k + W.cb1 k)) (v := W.c2) (s' := s)
    (fun s k => sh_dense hK.c1 hK.cb (g := fun _ k => silu (W.eb2 k)) (rep_me hK) s k) (fun s' k => hK.c6 s' k s d)]
  rfl

/-- The message from a particle to itself. -/
theorem rep_md (hT : RepH T H) (hK : RepEdge K W) :
    RepH (k0_pay29 (k0_pay9 T K.wr K.b1) (k0_pay10 T K.wc) K.e2 K.b2) fun q s i k => msg W (H q s i) (H q s i) 0 0 k := fun q s i k => by
  rw [pay29_apply]
  refine sh_dense hK.e2 hK.b2 (g := fun s k => silu (pre1 W (H q s i) (H q s i) 0 0 k)) (fun s k => ?_) s k
  rw [rep_A hT hK, rep_C hT hK, ← EReal.coe_add, ← mul_add, shE_coe]
  unfold pre1
  congr 2
  ring

/-- The receiving row of a pair. -/
theorem rcv_edg (q : Fin 16) (i j : Fin 24) : rcv (edg q i j) = row q i := Fin.ext (by simp only [rcv, edg, row]; omega)
/-- The sending row of a pair. -/
theorem snd_edg (q : Fin 16) (i j : Fin 24) : snd (edg q i j) = row q j := Fin.ext (by simp only [snd, edg, row]; omega)

/-- The messages of every pair, the padding included. -/
theorem rep_M (hT : RepH T H) (hK : RepEdge K W) (hE : RepE ea E) (hR : RepE rad fun q s i j => sqd (x q s) i j) :
    RepM (gM T ea rad K) fun q s i j k => kM W (x q s) (H q s) (E q s) i j k := fun q s i j k => by
  unfold gM
  rw [pay31_apply]
  have hz : ∀ s k, k0_pay30 nkill (k0_pay9 T K.wr K.b1) (k0_pay10 T K.wc) (ix2 (edg q i j) (lane s k))
      = ((1 / 2 * (mv (H q s i) W.eR k + W.eb1 k) : ℝ) : EReal) + (((1 / 2 * mv (H q s j) W.eC k : ℝ) : EReal) + if j.val < 22 then 0 else ⊥) := by
    intro s k
    have hj : (⟨(edg q i j).val % 24, by omega⟩ : Fin 24) = j := Fin.ext (by simp only [edg]; omega)
    rw [pay30_apply, rcv_edg, snd_edg, rep_A hT hK, rep_C hT hK, hj, nkill_apply]
  have hr : ∀ s k, (∑ s', rad (ix2 (edg q i j) s') * K.Wr (ix3 0 s' (lane s k))) = ((sqd (x q s) i j * (1 / 2 * W.eRad k) : ℝ) : EReal) :=
    fun s k => sum_blk2 (g := fun s => sqd (x q s) i j) (fun s => hR q s i j) (fun s' => hK.Wr s' s k)
  have he : ∀ s k, (∑ s', ea (ix2 (edg q i j) s') * K.We (ix3 0 s' (lane s k))) = ((E q s i j * (1 / 2 * W.eEa k) : ℝ) : EReal) :=
    fun s k => sum_blk2 (g := fun s => E q s i j) (fun s => hE q s i j) (fun s' => hK.We s' s k)
  unfold kM
  beta_reduce
  by_cases hj : j.val < 22
  · rw [if_pos hj]
    refine sh_dense hK.e2 hK.b2 (g := fun s k => silu (pre1 W (H q s i) (H q s j) (sqd (x q s) i j) (E q s i j) k)) (fun s k => ?_) s k
    rw [hz, hr, he, if_pos hj, add_zero, ← EReal.coe_add, ← EReal.coe_add, ← EReal.coe_add, ← shE_coe]
    unfold pre1
    congr 2
    ring
  · rw [if_neg hj]
    have := sh_dense hK.e2 hK.b2 (g := fun _ _ => 0)
      (f := fun c => shE (k0_pay30 nkill (k0_pay9 T K.wr K.b1) (k0_pay10 T K.wc) (ix2 (edg q i j) c)
        + (∑ s', rad (ix2 (edg q i j) s') * K.Wr (ix3 0 s' c)) + ∑ s', ea (ix2 (edg q i j) s') * K.We (ix3 0 s' c))) (fun s k => by
        rw [hz, hr, he, if_neg hj, EReal.add_bot, EReal.add_bot, EReal.bot_add, EReal.bot_add, shE_bot, EReal.coe_zero]) s k
    rw [this]
    congr 2
    unfold mv
    simp

/-- The squared distances of every pair. -/
theorem rep_rad {p p' : Vec Ideal S6x2 .f32} (hX : RepX X x) (hp : RepP p) (hp' : RepP p') :
    RepE (k0_pay24 X p p') fun q s i j => sqd (x q s) i j := fun q s i j => by
  have h1 : (⟨(edg q i j).val / 576, by omega⟩ : Fin 16) = q := Fin.ext (by simp only [edg]; omega)
  have h2 : (⟨(edg q i j).val / 24 % 24, by omega⟩ : Fin 24) = i := Fin.ext (by simp only [edg]; omega)
  have h3 : (⟨(edg q i j).val % 24, by omega⟩ : Fin 24) = j := Fin.ext (by simp only [edg]; omega)
  rw [pay24_apply, h1, h2, h3]
  have hd : ∀ s d, k0_pay23 X (ix4 q i j (crd s d)) * k0_pay23 X (ix4 q i j (crd s d))
      = (((x q s i d - x q s j d) * (x q s i d - x q s j d) : ℝ) : EReal) := fun s d => by
    rw [pay23_apply, hX, hX, ← EReal.coe_sub, ← EReal.coe_mul]
  rw [sum_blk6 (g := fun s d => (x q s i d - x q s j d) * (x q s i d - x q s j d)) hd (fun s' d => hp s' d s),
    sum_blk6 (g := fun _ _ => 0) (s' := s) (fun s d => by rw [hd, ← EReal.coe_sub, sub_self]) (fun s' d => hp' s' d s),
    ← EReal.coe_add]
  simp [sqd]

/-- A layer's new coordinates. -/
theorem rep_X (hX : RepX X x) (hT : RepH T H) (hK : RepEdge K W) (hE : RepE ea E) (hR : RepE rad fun q s i j => sqd (x q s) i j) :
    RepX (gX X T ea rad K) fun q s => kX W (x q s) (H q s) (E q s) := fun q s i d => by
  unfold gX
  rw [pay33_apply, rep_cs hK, show nmask (ix3 0 i 0) = _ from pay4_apply i, hX]
  have hs : ∀ j : Fin 24, k0_pay23 X (ix4 q i j (crd s d))
      * (∑ y, k0_pay32 ea rad (k0_pay30 nkill (k0_pay9 T K.wr K.b1) (k0_pay10 T K.wc)) K.Wr K.We K.e2 K.b2 K.c1 K.cb
        (ix2 (⟨q.val * 576 + i.val * 24 + j.val, by omega⟩ : Fin 9216) y) * K.c6 (ix3 0 y (crd s d)))
      = (((x q s i d - x q s j d) * coef W (kM W (x q s) (H q s) (E q s) i j) : ℝ) : EReal) := fun j => by
    have hr : (⟨q.val * 576 + i.val * 24 + j.val, by omega⟩ : Fin 9216) = edg q i j := Fin.ext (by simp only [edg]; omega)
    rw [hr, pay23_apply, hX, hX, ← EReal.coe_sub,
      sum_blk (g := fun s k => silu (mv (kM W (x q s) (H q s) (E q s) i j) W.c1 k + W.cb1 k)) (v := W.c2) (s' := s)
      (fun s k => by
        rw [pay32_eq]
        exact sh_dense hK.c1 hK.cb (f := fun c => gM T ea rad K (ix2 (edg q i j) c)) (g := fun s => kM W (x q s) (H q s) (E q s) i j)
          (fun s k => rep_M (x := x) hT hK hE hR q s i j k) s k) (fun s' k => hK.c6 s' k s d), ← EReal.coe_mul]
    rfl
  rw [Finset.sum_congr rfl fun j _ => hs j, ← coe_sum]
  have h2 : (2 : EReal) = ((2 : ℝ) : EReal) := rfl
  have hm : (if i.val < 22 then (1 : EReal) else 0) = ((if i.val < 22 then 1 else 0 : ℝ) : EReal) := by split <;> rfl
  rw [h2, hm, ← EReal.coe_add, ← EReal.coe_mul, ← EReal.coe_mul, ← EReal.coe_sub, ← EReal.coe_mul]
  rfl

/-- A layer's new features. -/
theorem rep_H (hT : RepH T H) (hK : RepEdge K W) (hN : RepNode K W) (hE : RepE ea E) (hR : RepE rad fun q s i j => sqd (x q s) i j) :
    RepH (gH T ea rad K) fun q s => kH W (x q s) (H q s) (E q s) := fun q s i k => by
  unfold gH
  have h2 : (2 : EReal) = ((2 : ℝ) : EReal) := rfl
  have hagg : ∀ s k, ((∑ j : Fin 24, gM T ea rad K (ix2 (⟨(row q i).val / 24 * 576 + (row q i).val % 24 * 24 + j.val, by omega⟩ : Fin 9216) (lane s k)))
        - k0_pay29 (k0_pay9 T K.wr K.b1) (k0_pay10 T K.wc) K.e2 K.b2 (ix2 (row q i) (lane s k))) - 2 * k0_pay27 K.b2 (ix2 0 (lane s k))
      = ((((∑ j, kM W (x q s) (H q s) (E q s) i j k) - msg W (H q s i) (H q s i) 0 0 k) - 2 * silu (W.eb2 k) : ℝ) : EReal) := fun s k => by
    have hs : ∀ j : Fin 24, gM T ea rad K (ix2 (⟨(row q i).val / 24 * 576 + (row q i).val % 24 * 24 + j.val, by omega⟩ : Fin 9216) (lane s k))
        = (kM W (x q s) (H q s) (E q s) i j k : ℝ) := fun j => by
      have hr : (⟨(row q i).val / 24 * 576 + (row q i).val % 24 * 24 + j.val, by omega⟩ : Fin 9216) = edg q i j :=
        Fin.ext (by simp only [edg, row]; omega)
      rw [hr]
      exact rep_M hT hK hE hR q s i j k
    rw [Finset.sum_congr rfl fun j _ => hs j, ← coe_sum, rep_md hT hK, rep_me hK, h2, ← EReal.coe_mul, ← EReal.coe_sub, ← EReal.coe_sub]
  have hz : ∀ s k, k0_pay34 T (k0_pay27 K.b2) (k0_pay29 (k0_pay9 T K.wr K.b1) (k0_pay10 T K.wc) K.e2 K.b2) (gM T ea rad K) K.nH K.nA K.nb
        (ix2 (row q i) (lane s k))
      = (silu (mv (H q s i) W.nH k
          + mv (fun c => ((∑ j, kM W (x q s) (H q s) (E q s) i j c) - msg W (H q s i) (H q s i) 0 0 c) - 2 * silu (W.eb2 c)) W.nA k + W.nb1 k) : ℝ) := fun s k => by
    rw [pay34_apply, sum_mv hN.nH (fun s k => hT q s i k), sum_mv (g := fun s c => _) hN.nA hagg, hN.nb, ← EReal.coe_add, ← EReal.coe_add, ← mul_add, ← mul_add, shE_coe]
  rw [pay35_apply, hT, sum_mv hN.n2 hz, hN.n3, ← EReal.coe_add, ← EReal.coe_add, one_mul, one_mul]
  rfl

end

end Cert.Proof

end
-- ==== Proof.KBlock.lean ====
/- The kernel's block: what it stores, in terms of the blocks it loads, is the network over the reals of each of its samples. -/
module

public import proofs.«01_k».proof.Proof.KLayer
public import proofs.«01_k».proof.Proof.Gen.KernelIdeal.Frame
public import Idealize.ShloMosaic.Lib.Pipeline.ValueKit.Tiles
public import Idealize.ShloMosaic.Lib.Pipeline.Value

@[expose] public section

noncomputable section

namespace Cert.Proof

open Idealize.ShloMosaic Cert.KernelIdeal Cert.KernelIdeal.Gen
open scoped BigOperators

/-- The blocks that a grid point loads. -/
structure Blk where
  x0 : Vec Ideal S16x2 .f32
  x1 : Vec Ideal S16x24x6 .f32
  x2 : Vec Ideal S24x4 .f32
  x3 : Vec Ideal S4x64 .f32
  x4 : Vec Ideal S1x64 .f32
  x5 : Vec Ideal S1x64 .f32
  x6 : Vec Ideal S6x2 .f32
  x7 : Vec Ideal S2x128 .f32
  x8 : Vec Ideal S4x128x128 .f32
  x9 : Vec Ideal S4x128x128 .f32
  x10 : Vec Ideal S4x2x128 .f32
  x11 : Vec Ideal S4x2x128 .f32
  x12 : Vec Ideal S4x1x128 .f32
  x13 : Vec Ideal S4x128x128 .f32
  x14 : Vec Ideal S4x1x128 .f32
  x15 : Vec Ideal S4x128x128 .f32
  x16 : Vec Ideal S4x1x128 .f32
  x17 : Vec Ideal S4x128x6 .f32
  x18 : Vec Ideal S4x128x128 .f32
  x19 : Vec Ideal S4x128x128 .f32
  x20 : Vec Ideal S4x1x128 .f32
  x21 : Vec Ideal S4x128x128 .f32
  x22 : Vec Ideal S4x1x128 .f32

namespace Blk
variable (b : Blk)

/-- What the block stores. -/
def out : Vec Ideal S16x24x6 .f32 :=
  out0_23 b.x0 b.x1 b.x2 b.x3 b.x4 b.x5 b.x6 b.x7 b.x8 b.x9 b.x10 b.x11 b.x12 b.x13 b.x14 b.x15 b.x16 b.x17 b.x18 b.x19 b.x20 b.x21 b.x22

/-- The weights of the layers. -/
def k0 : KW := ⟨View.ld b.x8 r0_7, View.ld b.x9 r0_7, View.ld b.x10 r0_10, View.ld b.x11 r0_10, View.ld b.x12 r0_8, View.ld b.x13 r0_7,
  View.ld b.x14 r0_8, View.ld b.x15 r0_7, View.ld b.x16 r0_8, View.ld b.x17 r0_9, View.ld b.x18 r0_7, View.ld b.x19 r0_7, View.ld b.x20 r0_8,
  View.ld b.x21 r0_7, View.ld b.x22 r0_8⟩
@[inherit_doc k0] def k1 : KW := ⟨View.ld b.x8 r0_11, View.ld b.x9 r0_11, View.ld b.x10 r0_14, View.ld b.x11 r0_14, View.ld b.x12 r0_12, View.ld b.x13 r0_11,
  View.ld b.x14 r0_12, View.ld b.x15 r0_11, View.ld b.x16 r0_12, View.ld b.x17 r0_13, View.ld b.x18 r0_11, View.ld b.x19 r0_11, View.ld b.x20 r0_12,
  View.ld b.x21 r0_11, View.ld b.x22 r0_12⟩
@[inherit_doc k0] def k2 : KW := ⟨View.ld b.x8 r0_15, View.ld b.x9 r0_15, View.ld b.x10 r0_18, View.ld b.x11 r0_18, View.ld b.x12 r0_16, View.ld b.x13 r0_15,
  View.ld b.x14 r0_16, View.ld b.x15 r0_15, View.ld b.x16 r0_16, View.ld b.x17 r0_17, View.ld b.x18 r0_15, View.ld b.x19 r0_15, View.ld b.x20 r0_16,
  View.ld b.x21 r0_15, View.ld b.x22 r0_16⟩
@[inherit_doc k0] def k3 : KW := ⟨View.ld b.x8 r0_19, View.ld b.x9 r0_19, View.ld b.x10 r0_22, View.ld b.x11 r0_22, View.ld b.x12 r0_20, View.ld b.x13 r0_19,
  View.ld b.x14 r0_20, View.ld b.x15 r0_19, View.ld b.x16 r0_20, View.ld b.x17 r0_21, View.ld b.x18 r0_19, View.ld b.x19 r0_19, View.ld b.x20 r0_20,
  View.ld b.x21 r0_19, View.ld b.x22 r0_20⟩

/-- The coordinates that the block loads, and its features before the first layer. -/
def X0 : FVec Ideal S16x24x6 .f32 := k0_pay2 (View.ld b.x1 r0_0)
@[inherit_doc X0] def H0 : FVec Ideal S384x128 .f32 :=
  k0_pay3 (View.ld b.x2 r0_1) (View.ld b.x3 r0_2) (View.ld b.x5 r0_3) (View.ld b.x0 r0_4) (View.ld b.x7 r0_5) (View.ld b.x4 r0_3) (View.ld b.x4 r0_3)
/-- The squared distances of some coordinates of the block. -/
def rad (X : FVec Ideal S16x24x6 .f32) : FVec Ideal S9216x2 .f32 := k0_pay24 X (View.ld b.x6 r0_6) (View.ld b.x6 r0_6)
/-- The coordinates after the first layer. -/
def X1 := gX b.X0 b.H0 (b.rad b.X0) (b.rad b.X0) b.k0
/-- The features after the first layer. -/
def H1 := gH b.H0 (b.rad b.X0) (b.rad b.X0) b.k0
/-- The coordinates after the second layer. -/
def X2 := gX b.X1 b.H1 (b.rad b.X0) (b.rad b.X1) b.k1
/-- The features after the second layer. -/
def H2 := gH b.H1 (b.rad b.X0) (b.rad b.X1) b.k1
/-- The coordinates after the third layer. -/
def X3 := gX b.X2 b.H2 (b.rad b.X0) (b.rad b.X2) b.k2
/-- The features after the third layer. -/
def H3 := gH b.H2 (b.rad b.X0) (b.rad b.X2) b.k2
/-- The coordinates after the last layer. -/
def X4 := gX b.X3 b.H3 (b.rad b.X0) (b.rad b.X3) b.k3

/-- The named mask is minus infinity. -/
theorem mask_eq : Named.named (F := Ideal) (φ := .f32) κ "mask" 0xF149F2CA#32 = ⊥ := IdealRules.named_const.ideal_named_scalar _ _ _ _ rfl

/-- The printed mask row is the one with minus infinity at the padding. -/
theorem p67 : k0_pay67 b.x0 b.x1 b.x2 b.x3 b.x4 b.x5 b.x6 b.x7 b.x8 b.x9 b.x10 b.x11 b.x12 b.x13 b.x14 b.x15 b.x16 b.x17 b.x18 b.x19 b.x20 b.x21 b.x22 = nkill := by
  unfold k0_pay67; rw [mask_eq]
/-- The printed value of the coordinates after the first layer. -/
theorem p74 : k0_pay74 b.x0 b.x1 b.x2 b.x3 b.x4 b.x5 b.x6 b.x7 b.x8 b.x9 b.x10 b.x11 b.x12 b.x13 b.x14 b.x15 b.x16 b.x17 b.x18 b.x19 b.x20 b.x21 b.x22 = b.X1 := by
  unfold k0_pay74 k0_pay72; rw [p67]; rfl
/-- The printed value of the features after the first layer. -/
theorem p76 : k0_pay76 b.x0 b.x1 b.x2 b.x3 b.x4 b.x5 b.x6 b.x7 b.x8 b.x9 b.x10 b.x11 b.x12 b.x13 b.x14 b.x15 b.x16 b.x17 b.x18 b.x19 b.x20 b.x21 b.x22 = b.H1 := by
  unfold k0_pay76 k0_pay75 k0_pay72; rw [p67]; rfl
/-- The printed receiving part of the second layer. -/
theorem p78 : k0_pay78 b.x0 b.x1 b.x2 b.x3 b.x4 b.x5 b.x6 b.x7 b.x8 b.x9 b.x10 b.x11 b.x12 b.x13 b.x14 b.x15 b.x16 b.x17 b.x18 b.x19 b.x20 b.x21 b.x22 = k0_pay9 b.H1 b.k1.wr b.k1.b1 := by
  rw [← p76]; rfl
/-- The printed sending part of the second layer. -/
theorem p79 : k0_pay79 b.x0 b.x1 b.x2 b.x3 b.x4 b.x5 b.x6 b.x7 b.x8 b.x9 b.x10 b.x11 b.x12 b.x13 b.x14 b.x15 b.x16 b.x17 b.x18 b.x19 b.x20 b.x21 b.x22 = k0_pay10 b.H1 b.k1.wc := by
  rw [← p76]; rfl
/-- The printed squared distances of the second layer. -/
theorem p77 : k0_pay77 b.x0 b.x1 b.x2 b.x3 b.x4 b.x5 b.x6 b.x7 b.x8 b.x9 b.x10 b.x11 b.x12 b.x13 b.x14 b.x15 b.x16 b.x17 b.x18 b.x19 b.x20 b.x21 b.x22 = b.rad b.X1 := by
  rw [← p74]; rfl
/-- The printed value of the coordinates after the second layer. -/
theorem p82 : k0_pay82 b.x0 b.x1 b.x2 b.x3 b.x4 b.x5 b.x6 b.x7 b.x8 b.x9 b.x10 b.x11 b.x12 b.x13 b.x14 b.x15 b.x16 b.x17 b.x18 b.x19 b.x20 b.x21 b.x22 = b.X2 := by
  unfold k0_pay82 k0_pay81; rw [p67, p74, p77, p78, p79]; rfl
/-- The printed value of the features after the second layer. -/
theorem p84 : k0_pay84 b.x0 b.x1 b.x2 b.x3 b.x4 b.x5 b.x6 b.x7 b.x8 b.x9 b.x10 b.x11 b.x12 b.x13 b.x14 b.x15 b.x16 b.x17 b.x18 b.x19 b.x20 b.x21 b.x22 = b.H2 := by
  unfold k0_pay84 k0_pay83 k0_pay81; rw [p67, p76, p77, p78, p79]; rfl
/-- The printed squared distances of the third layer. -/
theorem p85 : k0_pay85 b.x0 b.x1 b.x2 b.x3 b.x4 b.x5 b.x6 b.x7 b.x8 b.x9 b.x10 b.x11 b.x12 b.x13 b.x14 b.x15 b.x16 b.x17 b.x18 b.x19 b.x20 b.x21 b.x22 = b.rad b.X2 := by
  rw [← p82]; rfl
/-- The printed receiving part of the third layer. -/
theorem p86 : k0_pay86 b.x0 b.x1 b.x2 b.x3 b.x4 b.x5 b.x6 b.x7 b.x8 b.x9 b.x10 b.x11 b.x12 b.x13 b.x14 b.x15 b.x16 b.x17 b.x18 b.x19 b.x20 b.x21 b.x22 = k0_pay9 b.H2 b.k2.wr b.k2.b1 := by
  rw [← p84]; rfl
/-- The printed sending part of the third layer. -/
theorem p87 : k0_pay87 b.x0 b.x1 b.x2 b.x3 b.x4 b.x5 b.x6 b.x7 b.x8 b.x9 b.x10 b.x11 b.x12 b.x13 b.x14 b.x15 b.x16 b.x17 b.x18 b.x19 b.x20 b.x21 b.x22 = k0_pay10 b.H2 b.k2.wc := by
  rw [← p84]; rfl
/-- The printed messages of the third layer. -/
theorem p94 : k0_pay94 b.x0 b.x1 b.x2 b.x3 b.x4 b.x5 b.x6 b.x7 b.x8 b.x9 b.x10 b.x11 b.x12 b.x13 b.x14 b.x15 b.x16 b.x17 b.x18 b.x19 b.x20 b.x21 b.x22 = gM b.H2 (b.rad b.X0) (b.rad b.X2) b.k2 := by
  unfold k0_pay94 k0_pay92 k0_pay93; rw [p67, p85, p86, p87]; rfl
/-- The printed value of the coordinates after the third layer. -/
theorem p95 : k0_pay95 b.x0 b.x1 b.x2 b.x3 b.x4 b.x5 b.x6 b.x7 b.x8 b.x9 b.x10 b.x11 b.x12 b.x13 b.x14 b.x15 b.x16 b.x17 b.x18 b.x19 b.x20 b.x21 b.x22 = b.X3 := by
  unfold k0_pay95 k0_pay92 k0_pay93; rw [p67, p82, p85, p86, p87]; rfl
/-- The features before the last layer, which the block names in pieces. -/
theorem h3 : k0_pay54 (k0_pay84 b.x0 b.x1 b.x2 b.x3 b.x4 b.x5 b.x6 b.x7 b.x8 b.x9 b.x10 b.x11 b.x12 b.x13 b.x14 b.x15 b.x16 b.x17 b.x18 b.x19 b.x20 b.x21 b.x22)
      (k0_pay96 b.x0 b.x1 b.x2 b.x3 b.x4 b.x5 b.x6 b.x7 b.x8 b.x9 b.x10 b.x11 b.x12 b.x13 b.x14 b.x15 b.x16 b.x17 b.x18 b.x19 b.x20 b.x21 b.x22)
      (k0_pay97 b.x0 b.x1 b.x2 b.x3 b.x4 b.x5 b.x6 b.x7 b.x8 b.x9 b.x10 b.x11 b.x12 b.x13 b.x14 b.x15 b.x16 b.x17 b.x18 b.x19 b.x20 b.x21 b.x22)
      (k0_pay98 b.x0 b.x1 b.x2 b.x3 b.x4 b.x5 b.x6 b.x7 b.x8 b.x9 b.x10 b.x11 b.x12 b.x13 b.x14 b.x15 b.x16 b.x17 b.x18 b.x19 b.x20 b.x21 b.x22)
      (View.ld b.x21 r0_15) (View.ld b.x22 r0_16) = b.H3 := by
  unfold k0_pay96 k0_pay97 k0_pay91; rw [p84, p86, p87, p94]; rfl

/-- Coordinates and what the edges add to them. -/
def upd (v : FVec Ideal S16x24x6 .f32) (cd : FVec Ideal S16x24x24x6 .f32) (c1 : FVec Ideal S9216x128 .f32) (w6 : Vec Ideal S1x128x6 .f32) : FVec Ideal S16x24x6 .f32 :=
  addf v (multiReduction .add [2] S16x24x6 (mulf cd (shapeCast S16x24x24x6
    (matmul dot_S9216x128_S128x6_S9216x6_1_0_0_1_n_n none c1 (show FVec Ideal S128x6 .f32 from shapeCast S128x6 w6 shapeCasts_S1x128x6_S128x6) (constant S9216x6 .f32 0x00000000#32))
    shapeCasts_S9216x6_S16x24x24x6)) 0x00000000#32 reduces_S16x24x24x6_S16x24x6 (.inl rfl) rfl)

/-- An entry of the coordinates with what the edges add. -/
theorem upd_apply (v : FVec Ideal S16x24x6 .f32) (cd : FVec Ideal S16x24x24x6 .f32) (c1 : FVec Ideal S9216x128 .f32) (w6 : Vec Ideal S1x128x6 .f32)
    (q : Fin 16) (i : Fin 24) (c : Fin 6) :
    upd v cd c1 w6 (ix3 q i c)
      = v (ix3 q i c) + ∑ j : Fin 24, cd (ix4 q i j c) * ∑ x, c1 (ix2 (⟨q.val * 576 + i.val * 24 + j.val, by omega⟩ : Fin 9216) x) * w6 (ix3 0 x c) := by
  pointwise [upd]

/-- The surplus coefficient is taken twice, once for each padding particle. -/
theorem pay63_apply (cs : FVec Ideal S1x6 .f32) (c : Fin 6) : k0_pay63 cs (ix3 0 0 c) = 2 * cs (ix2 0 c) := by
  pointwise [k0_pay63]
  rw [ofBits_two]

/-- The velocity that the block stores, of the coordinates of the last layer. -/
def fin (v1 v : FVec Ideal S16x24x6 .f32) (q : Fin 16) (i : Fin 24) (c : Fin 6) : EReal :=
  (v (ix3 q i c) - v1 (ix3 q i c))
    - (∑ j : Fin 24, (v (ix3 q j c) - v1 (ix3 q j c)) * nmask (ix3 0 j 0)) * Named.named (F := Ideal) (φ := .f32) κ "inv_p" 0x3D3A2E8C#32

/-- The block's result in terms of the layers. -/
theorem out_eq : b.out = k0_pay1 b.X0 nmask b.X3
    (upd b.X3 (k0_pay23 b.X3) (k0_pay32 (b.rad b.X0) (b.rad b.X3) (k0_pay30 nkill (k0_pay9 b.H3 b.k3.wr b.k3.b1) (k0_pay10 b.H3 b.k3.wc))
      b.k3.Wr b.k3.We b.k3.e2 b.k3.b2 b.k3.c1 b.k3.cb) b.k3.c6)
    (k0_pay63 (k0_pay28 (k0_pay27 b.k3.b2) b.k3.c1 b.k3.cb b.k3.c6)) := by
  unfold out out0_23
  rw [View.canon_unit_zero (by funext a; fin_cases a <;> rfl), p67, p95]
  unfold k0_pay57 k0_pay58
  rw [h3]
  rfl

/-- An entry of the block's result: the mean-free velocity of the last layer's coordinates. -/
theorem out_apply (q : Fin 16) (i : Fin 24) (c : Fin 6) : b.out (ix3 q i c) = fin b.X0 b.X4 q i c := by
  rw [out_eq, pay1_apply]
  unfold fin X4 gX
  simp only [pay33_apply, upd_apply, pay63_apply]

/-! ## The block over the reals -/

/-- A stack of four matrices, each repeated for the two samples, scaled. -/
def RepW4 (c : ℝ) (T : Vec Ideal S4x128x128 .f32) (l : Fin 4) (w : Fin 64 → Fin 64 → ℝ) : Prop :=
  ∀ s k s' k', T (ix3 l (lane s k) (lane s' k')) = ((if s = s' then c * w k k' else 0 : ℝ) : EReal)
/-- A stack of four rows, each repeated for the two samples, scaled. -/
def RepB4 (c : ℝ) (T : Vec Ideal S4x1x128 .f32) (l : Fin 4) (b : Fin 64 → ℝ) : Prop :=
  ∀ s k, T (ix3 l 0 (lane s k)) = ((c * b k : ℝ) : EReal)
/-- A stack of four rows that each sample takes for its own number, halved. -/
def RepR4 (T : Vec Ideal S4x2x128 .f32) (l : Fin 4) (b : Fin 64 → ℝ) : Prop :=
  ∀ s s' k, T (ix3 l s (lane s' k)) = ((if s = s' then 1 / 2 * b k else 0 : ℝ) : EReal)
/-- A stack of four columns that each coordinate of a sample takes. -/
def RepC4 (T : Vec Ideal S4x128x6 .f32) (l : Fin 4) (b : Fin 64 → ℝ) : Prop :=
  ∀ s k s' d, T (ix3 l (lane s k) (crd s' d)) = ((if s = s' then b k else 0 : ℝ) : EReal)

/-- The edge weights of a layer, in the stacks. -/
structure Edge4 (l : Fin 4) (W : Wt) : Prop where
  wr : RepW4 (1 / 2) b.x8 l W.eR
  wc : RepW4 (1 / 2) b.x9 l W.eC
  Wr : RepR4 b.x10 l W.eRad
  We : RepR4 b.x11 l W.eEa
  b1 : RepB4 (1 / 2) b.x12 l W.eb1
  e2 : RepW4 (1 / 2) b.x13 l W.e2
  b2 : RepB4 (1 / 2) b.x14 l W.eb2
  c1 : RepW4 (1 / 2) b.x15 l W.c1
  cb : RepB4 (1 / 2) b.x16 l W.cb1
  c6 : RepC4 b.x17 l W.c2
/-- The node weights of a layer, in the stacks. -/
structure Node4 (l : Fin 4) (W : Wt) : Prop where
  nH : RepW4 (1 / 2) b.x18 l W.nH
  nA : RepW4 (1 / 2) b.x19 l W.nA
  nb : RepB4 (1 / 2) b.x20 l W.nb1
  n2 : RepW4 1 b.x21 l W.n2
  n3 : RepB4 1 b.x22 l W.nb2

/-- A load of matrix `l` of a stack reads it. -/
theorem ld_W {m n : ℕ} (T : Vec Ideal ⟨3, ![4, m, n]⟩ .f32) (o : Nat) (l : Fin 4) (h : o = l.val) (inb) (x : Fin 1) (i : Fin m) (j : Fin n) :
    View.ld T (Rect.unit (s := ⟨3, ![4, m, n]⟩) ![o, 0, 0] ![1, m, n] inb) (ix3 x i j) = T (ix3 l i j) := by
  refine View.ld_unit_apply_of T _ _ inb _ _ fun a => ?_
  fin_cases a
  · show l.val = o + x.val; omega
  · show i.val = 0 + i.val; omega
  · show j.val = 0 + j.val; omega

variable {b} {W : Wt}

/-- The edge weights that the first layer loads stand for those of the layer. -/
theorem edge0 (h : b.Edge4 0 W) : RepEdge b.k0 W where
  wr s k s' k' := (ld_W _ _ 0 rfl _ _ _ _).trans (h.wr s k s' k')
  wc s k s' k' := (ld_W _ _ 0 rfl _ _ _ _).trans (h.wc s k s' k')
  Wr s s' k := (ld_W _ _ 0 rfl _ _ _ _).trans (h.Wr s s' k)
  We s s' k := (ld_W _ _ 0 rfl _ _ _ _).trans (h.We s s' k)
  b1 s k := (ld_W _ _ 0 rfl _ _ _ _).trans (h.b1 s k)
  e2 s k s' k' := (ld_W _ _ 0 rfl _ _ _ _).trans (h.e2 s k s' k')
  b2 s k := (ld_W _ _ 0 rfl _ _ _ _).trans (h.b2 s k)
  c1 s k s' k' := (ld_W _ _ 0 rfl _ _ _ _).trans (h.c1 s k s' k')
  cb s k := (ld_W _ _ 0 rfl _ _ _ _).trans (h.cb s k)
  c6 s k s' d := (ld_W _ _ 0 rfl _ _ _ _).trans (h.c6 s k s' d)
/-- The node weights that the first layer loads stand for those of the layer. -/
theorem node0 (h : b.Node4 0 W) : RepNode b.k0 W where
  nH s k s' k' := (ld_W _ _ 0 rfl _ _ _ _).trans (h.nH s k s' k')
  nA s k s' k' := (ld_W _ _ 0 rfl _ _ _ _).trans (h.nA s k s' k')
  nb s k := (ld_W _ _ 0 rfl _ _ _ _).trans (h.nb s k)
  n2 s k s' k' := (ld_W _ _ 0 rfl _ _ _ _).trans (h.n2 s k s' k')
  n3 s k := (ld_W _ _ 0 rfl _ _ _ _).trans (h.n3 s k)
/-- The edge weights that the second layer loads stand for those of the layer. -/
theorem edge1 (h : b.Edge4 1 W) : RepEdge b.k1 W where
  wr s k s' k' := (ld_W _ _ 1 rfl _ _ _ _).trans (h.wr s k s' k')
  wc s k s' k' := (ld_W _ _ 1 rfl _ _ _ _).trans (h.wc s k s' k')
  Wr s s' k := (ld_W _ _ 1 rfl _ _ _ _).trans (h.Wr s s' k)
  We s s' k := (ld_W _ _ 1 rfl _ _ _ _).trans (h.We s s' k)
  b1 s k := (ld_W _ _ 1 rfl _ _ _ _).trans (h.b1 s k)
  e2 s k s' k' := (ld_W _ _ 1 rfl _ _ _ _).trans (h.e2 s k s' k')
  b2 s k := (ld_W _ _ 1 rfl _ _ _ _).trans (h.b2 s k)
  c1 s k s' k' := (ld_W _ _ 1 rfl _ _ _ _).trans (h.c1 s k s' k')
  cb s k := (ld_W _ _ 1 rfl _ _ _ _).trans (h.cb s k)
  c6 s k s' d := (ld_W _ _ 1 rfl _ _ _ _).trans (h.c6 s k s' d)
/-- The node weights that the second layer loads stand for those of the layer. -/
theorem node1 (h : b.Node4 1 W) : RepNode b.k1 W where
  nH s k s' k' := (ld_W _ _ 1 rfl _ _ _ _).trans (h.nH s k s' k')
  nA s k s' k' := (ld_W _ _ 1 rfl _ _ _ _).trans (h.nA s k s' k')
  nb s k := (ld_W _ _ 1 rfl _ _ _ _).trans (h.nb s k)
  n2 s k s' k' := (ld_W _ _ 1 rfl _ _ _ _).trans (h.n2 s k s' k')
  n3 s k := (ld_W _ _ 1 rfl _ _ _ _).trans (h.n3 s k)
/-- The edge weights that the third layer loads stand for those of the layer. -/
theorem edge2 (h : b.Edge4 2 W) : RepEdge b.k2 W where
  wr s k s' k' := (ld_W _ _ 2 rfl _ _ _ _).trans (h.wr s k s' k')
  wc s k s' k' := (ld_W _ _ 2 rfl _ _ _ _).trans (h.wc s k s' k')
  Wr s s' k := (ld_W _ _ 2 rfl _ _ _ _).trans (h.Wr s s' k)
  We s s' k := (ld_W _ _ 2 rfl _ _ _ _).trans (h.We s s' k)
  b1 s k := (ld_W _ _ 2 rfl _ _ _ _).trans (h.b1 s k)
  e2 s k s' k' := (ld_W _ _ 2 rfl _ _ _ _).trans (h.e2 s k s' k')
  b2 s k := (ld_W _ _ 2 rfl _ _ _ _).trans (h.b2 s k)
  c1 s k s' k' := (ld_W _ _ 2 rfl _ _ _ _).trans (h.c1 s k s' k')
  cb s k := (ld_W _ _ 2 rfl _ _ _ _).trans (h.cb s k)
  c6 s k s' d := (ld_W _ _ 2 rfl _ _ _ _).trans (h.c6 s k s' d)
/-- The node weights that the third layer loads stand for those of the layer. -/
theorem node2 (h : b.Node4 2 W) : RepNode b.k2 W where
  nH s k s' k' := (ld_W _ _ 2 rfl _ _ _ _).trans (h.nH s k s' k')
  nA s k s' k' := (ld_W _ _ 2 rfl _ _ _ _).trans (h.nA s k s' k')
  nb s k := (ld_W _ _ 2 rfl _ _ _ _).trans (h.nb s k)
  n2 s k s' k' := (ld_W _ _ 2 rfl _ _ _ _).trans (h.n2 s k s' k')
  n3 s k := (ld_W _ _ 2 rfl _ _ _ _).trans (h.n3 s k)
/-- The edge weights that the last layer loads stand for those of the layer. -/
theorem edge3 (h : b.Edge4 3 W) : RepEdge b.k3 W where
  wr s k s' k' := (ld_W _ _ 3 rfl _ _ _ _).trans (h.wr s k s' k')
  wc s k s' k' := (ld_W _ _ 3 rfl _ _ _ _).trans (h.wc s k s' k')
  Wr s s' k := (ld_W _ _ 3 rfl _ _ _ _).trans (h.Wr s s' k)
  We s s' k := (ld_W _ _ 3 rfl _ _ _ _).trans (h.We s s' k)
  b1 s k := (ld_W _ _ 3 rfl _ _ _ _).trans (h.b1 s k)
  e2 s k s' k' := (ld_W _ _ 3 rfl _ _ _ _).trans (h.e2 s k s' k')
  b2 s k := (ld_W _ _ 3 rfl _ _ _ _).trans (h.b2 s k)
  c1 s k s' k' := (ld_W _ _ 3 rfl _ _ _ _).trans (h.c1 s k s' k')
  cb s k := (ld_W _ _ 3 rfl _ _ _ _).trans (h.cb s k)
  c6 s k s' d := (ld_W _ _ 3 rfl _ _ _ _).trans (h.c6 s k s' d)
/-- What the blocks of a grid point stand for. -/
structure Stands (b : Blk) (W : Fin 4 → Wt) (x : Fin 16 → Fin 2 → Fin 24 → Fin 3 → ℝ) (t : Fin 16 → Fin 2 → ℝ) (hi : Fin 24 → Fin 4 → ℝ)
    (em : Fin 4 → Fin 64 → ℝ) (et eb : Fin 64 → ℝ) : Prop where
  x0 : ∀ q s, b.x0 (ix2 q s) = (t q s : ℝ)
  x1 : RepX b.x1 x
  x2 : ∀ i r, b.x2 (ix2 i r) = (hi i r : ℝ)
  x3 : ∀ r k, b.x3 (ix2 r k) = (em r k : ℝ)
  x4 : ∀ k, b.x4 (ix2 0 k) = (et k : ℝ)
  x5 : ∀ k, b.x5 (ix2 0 k) = (eb k : ℝ)
  x6 : RepP b.x6
  x7 : ∀ s s' k, b.x7 (ix2 s (lane s' k)) = ((if s = s' then 1 else 0 : ℝ) : EReal)
  edge : ∀ l, b.Edge4 l (W l)
  node : ∀ l : Fin 4, l.val < 3 → b.Node4 l (W l)

section
variable {W : Fin 4 → Wt} {x : Fin 16 → Fin 2 → Fin 24 → Fin 3 → ℝ} {t : Fin 16 → Fin 2 → ℝ} {hi : Fin 24 → Fin 4 → ℝ}
    {em : Fin 4 → Fin 64 → ℝ} {et eb : Fin 64 → ℝ}

/-- The coordinates that the block loads stand for those of its samples. -/
theorem rep_X0 (h : b.Stands W x t hi em et eb) : RepX b.X0 x := fun q s i d => by
  unfold X0
  rw [pay2_eq, View.ld_unit_zero (by funext a; fin_cases a <;> rfl)]
  exact h.x1 q s i d

/-- The features before the first layer stand for the embedding. -/
theorem rep_H0 (h : b.Stands W x t hi em et eb) : RepH b.H0 fun q s => feat hi (t q s) em et eb := fun q s i k => by
  unfold H0
  have e1 : (⟨(row q i).val % 24, by omega⟩ : Fin 24) = i := Fin.ext (by simp only [row]; omega)
  have e2 : (⟨(row q i).val / 24, by omega⟩ : Fin 16) = q := Fin.ext (by simp only [row]; omega)
  have e3 : (⟨(lane s k).val % 64, by omega⟩ : Fin 64) = k := Fin.ext (by simp only [lane]; omega)
  rw [pay3_apply, e1, e2, e3]
  iterate 6 rw [View.ld_unit_zero (by funext a; fin_cases a <;> rfl)]
  rw [sum_blk2 (g := fun s => t q s) (fun s => h.x0 q s) (fun s' => h.x7 s' s k), h.x4, h.x5,
    Finset.sum_congr rfl fun r _ => by rw [h.x2, h.x3, ← EReal.coe_mul], ← coe_sum, ← EReal.coe_mul, ← EReal.coe_add, ← EReal.coe_add]
  unfold feat
  congr 1
  ring

/-- The pattern matrix adds the coordinates of each sample. -/
theorem rep_P (h : b.Stands W x t hi em et eb) : RepP (View.ld b.x6 r0_6) := by
  rw [View.ld_unit_zero (by funext a; fin_cases a <;> rfl)]
  exact h.x6

/-- The coordinates that the last layer leaves. -/
theorem rep_X4 (h : b.Stands W x t hi em et eb) : RepX b.X4 fun q s => klast W (x q s) (feat hi (t q s) em et eb) := by
  have hP := rep_P h
  have hE := rep_rad (rep_X0 h) hP hP
  have e0 := edge0 (h.edge 0)
  have e1 := edge1 (h.edge 1)
  have e2 := edge2 (h.edge 2)
  have e3 := edge3 (h.edge 3)
  have hX1 := rep_X (rep_X0 h) (rep_H0 h) e0 hE hE
  have hH1 := rep_H (rep_H0 h) e0 (node0 (h.node 0 (by decide))) hE hE
  have hR1 := rep_rad hX1 hP hP
  have hX2 := rep_X hX1 hH1 e1 hE hR1
  have hH2 := rep_H hH1 e1 (node1 (h.node 1 (by decide))) hE hR1
  have hR2 := rep_rad hX2 hP hP
  have hX3 := rep_X hX2 hH2 e2 hE hR2
  have hH3 := rep_H hH2 e2 (node2 (h.node 2 (by decide))) hE hR2
  have hR3 := rep_rad hX3 hP hP
  exact rep_X hX3 hH3 e3 hE hR3

/-- What the block stores for a particle of a sample is its velocity by the network. -/
theorem out_net (h : b.Stands W x t hi em et eb) (x' : Fin 16 → Fin 2 → Fin 22 → Fin 3 → ℝ) (hx : ∀ q s, Pads (x q s) (x' q s))
    (q : Fin 16) (s : Fin 2) (i : Fin 22) (d : Fin 3) :
    b.out (ix3 q (up i) (crd s d)) = (net W (x' q s) (feat (fun i => hi (up i)) (t q s) em et eb) i d : ℝ) := by
  have hk : Pads (klast W (x q s) (feat hi (t q s) em et eb)) (lastX W (x' q s) (feat (fun i => hi (up i)) (t q s) em et eb)) :=
    klast_pads (hx q s) fun i => rfl
  rw [out_apply]
  unfold fin
  have hs : ∀ j : Fin 24, (b.X4 (ix3 q j (crd s d)) - b.X0 (ix3 q j (crd s d))) * nmask (ix3 0 j 0)
      = (((klast W (x q s) (feat hi (t q s) em et eb) j d - x q s j d) * (if j.val < 22 then 1 else 0) : ℝ) : EReal) := fun j => by
    have hm : nmask (ix3 0 j 0) = ((if j.val < 22 then 1 else 0 : ℝ) : EReal) := by
      rw [show nmask (ix3 0 j 0) = _ from pay4_apply j]
      split <;> rfl
    rw [rep_X4 h, rep_X0 h, hm, ← EReal.coe_sub, ← EReal.coe_mul]
  rw [Finset.sum_congr rfl fun j _ => hs j, ← coe_sum, rep_X4 h, rep_X0 h,
    show Named.named (F := Ideal) (φ := .f32) κ "inv_p" 0x3D3A2E8C#32 = ((1 / 22 : ℝ) : EReal) from IdealRules.named_const.ideal_named_scalar _ _ _ _ rfl,
    ← EReal.coe_sub, ← EReal.coe_mul, ← EReal.coe_sub, sum24, (hx q s).row]
  beta_reduce
  rw [hk.row]
  unfold net
  congr 2
  simp [hk.row, (hx q s).row]

end

end Blk

end Cert.Proof

end
-- ==== Proof.KHost.lean ====
/-
  What the kernel's program puts into the arrays of its region: the weights of the two samples of a row block by block, the padded coordinates and inputs.
-/
module
public import proofs.«01_k».proof.Proof.Gen.KernelIdeal.Frame
public import proofs.«01_k».proof.Proof.KBlock
public import Idealize.ShloMosaic.Lib.StableHlo.RunRead
@[expose] public section
noncomputable section
namespace Cert.Proof
open Idealize.ShloMosaic Idealize.ShloMosaic.TcCoe Cert.KernelIdeal Cert.KernelIdeal.Gen

variable (m : (ℓ : Loc nD τ sig) → Buf (Elt Ideal) ℓ) (c : Dev nD)

/-- A matrix twice on the diagonal. -/
def bd {p n P N : ℕ} (hP : P = p + p) (hN : N = n + n) (w : Fin p → Fin n → EReal) (a : Fin P) (b : Fin N) : EReal :=
  if h : a.val < p then (if h' : b.val < n then w ⟨a.val, h⟩ ⟨b.val, h'⟩ else 0)
  else if h' : b.val < n then 0 else w ⟨a.val - p, by omega⟩ ⟨b.val - n, by omega⟩

/-- The constant that halves a weight. -/
def half : EReal := Ideal.ofBits .f32 0x3F000000#32

/-! ## The arguments as arrays -/

/-- Argument 0 as an array. -/
def a0 : Vec Ideal S1024x1 .f32 := m ((c : Thread nD τ).loc main_arg0)
/-- Argument 1 as an array. -/
def a1 : Vec Ideal S1024x66 .f32 := m ((c : Thread nD τ).loc main_arg1)
/-- Argument 2 as an array. -/
def a2 : Vec Ideal S22x4 .f32 := m ((c : Thread nD τ).loc main_arg2)
/-- Argument 4 as an array. -/
def a4 : Vec Ideal S5x64 .f32 := m ((c : Thread nD τ).loc main_arg4)
/-- Argument 5 as an array. -/
def a5 : Vec Ideal S64 .f32 := m ((c : Thread nD τ).loc main_arg5)
/-- Argument 8 as an array. -/
def a8 : Vec Ideal S4x130x64 .f32 := m ((c : Thread nD τ).loc main_arg8)
/-- Argument 9 as an array. -/
def a9 : Vec Ideal S4x64 .f32 := m ((c : Thread nD τ).loc main_arg9)
/-- Argument 10 as an array. -/
def a10 : Vec Ideal S4x64x64 .f32 := m ((c : Thread nD τ).loc main_arg10)
/-- Argument 11 as an array. -/
def a11 : Vec Ideal S4x64 .f32 := m ((c : Thread nD τ).loc main_arg11)
/-- Argument 12 as an array. -/
def a12 : Vec Ideal S4x128x64 .f32 := m ((c : Thread nD τ).loc main_arg12)
/-- Argument 13 as an array. -/
def a13 : Vec Ideal S4x64 .f32 := m ((c : Thread nD τ).loc main_arg13)
/-- Argument 14 as an array. -/
def a14 : Vec Ideal S4x64x64 .f32 := m ((c : Thread nD τ).loc main_arg14)
/-- Argument 15 as an array. -/
def a15 : Vec Ideal S4x64 .f32 := m ((c : Thread nD τ).loc main_arg15)
/-- Argument 16 as an array. -/
def a16 : Vec Ideal S4x64x64 .f32 := m ((c : Thread nD τ).loc main_arg16)
/-- Argument 17 as an array. -/
def a17 : Vec Ideal S4x64 .f32 := m ((c : Thread nD τ).loc main_arg17)
/-- Argument 18 as an array. -/
def a18 : Vec Ideal S4x64x1 .f32 := m ((c : Thread nD τ).loc main_arg18)

/-! ## The arrays of the region -/

/-- The receiver rows of the first edge layer. -/
theorem V_v18 (l : Fin 4) (a b : Fin 128) : (V m c main_v18 : Vec Ideal S4x128x128 .f32) (ix3 l a b)
    = bd (p := 64) (n := 64) rfl rfl (fun k k' => half * a8 m c (ix3 l ⟨k.val, by omega⟩ k')) a b := by
  show StableHlo.after (List.flatten [hostOps0, hostOps0_1, hostOps0_2, hostOps0_3, hostOps0_4]) (fun b => m (c, b)) (Proc.devRef .tc main_v18) _ = _
  after_reads_simp
  pointwise []
  try after_reads_simp
  try pointwise []
  rfl

/-- The sender rows of the first edge layer. -/
theorem V_v25 (l : Fin 4) (a b : Fin 128) : (V m c main_v25 : Vec Ideal S4x128x128 .f32) (ix3 l a b)
    = bd (p := 64) (n := 64) rfl rfl (fun k k' => half * a8 m c (ix3 l ⟨64 + k.val, by omega⟩ k')) a b := by
  show StableHlo.after (List.flatten [hostOps0, hostOps0_1, hostOps0_2, hostOps0_3, hostOps0_4]) (fun b => m (c, b)) (Proc.devRef .tc main_v25) _ = _
  after_reads_simp
  pointwise []
  try after_reads_simp
  try pointwise []
  rfl

/-- The row of the squared distance. -/
theorem V_v32 (l : Fin 4) (a : Fin 2) (b : Fin 128) : (V m c main_v32 : Vec Ideal S4x2x128 .f32) (ix3 l a b)
    = bd (p := 1) (n := 64) rfl rfl (fun k k' => half * a8 m c (ix3 l ⟨128 + k.val, by omega⟩ k')) a b := by
  show StableHlo.after (List.flatten [hostOps0, hostOps0_1, hostOps0_2, hostOps0_3, hostOps0_4]) (fun b => m (c, b)) (Proc.devRef .tc main_v32) _ = _
  after_reads_simp
  pointwise []
  try after_reads_simp
  try pointwise []
  fin_cases a <;> rfl

/-- The row of the first squared distance. -/
theorem V_v39 (l : Fin 4) (a : Fin 2) (b : Fin 128) : (V m c main_v39 : Vec Ideal S4x2x128 .f32) (ix3 l a b)
    = bd (p := 1) (n := 64) rfl rfl (fun k k' => half * a8 m c (ix3 l ⟨129 + k.val, by omega⟩ k')) a b := by
  show StableHlo.after (List.flatten [hostOps0, hostOps0_1, hostOps0_2, hostOps0_3, hostOps0_4]) (fun b => m (c, b)) (Proc.devRef .tc main_v39) _ = _
  after_reads_simp
  pointwise []
  try after_reads_simp
  try pointwise []
  fin_cases a <;> rfl

/-- The first edge bias. -/
theorem V_v43 (l : Fin 4) (b : Fin 128) : (V m c main_v43 : Vec Ideal S4x1x128 .f32) (ix3 l 0 b)
    = half * a9 m c (ix2 l (if h : b.val < 64 then ⟨b.val, h⟩ else ⟨b.val - 64, by omega⟩)) := by
  show StableHlo.after (List.flatten [hostOps0, hostOps0_1, hostOps0_2, hostOps0_3, hostOps0_4]) (fun b => m (c, b)) (Proc.devRef .tc main_v43) _ = _
  after_reads_simp
  pointwise []
  try after_reads_simp
  try pointwise []
  split <;> rfl

/-- The second edge layer. -/
theorem V_v49 (l : Fin 4) (a b : Fin 128) : (V m c main_v49 : Vec Ideal S4x128x128 .f32) (ix3 l a b)
    = bd (p := 64) (n := 64) rfl rfl (fun k k' => half * a10 m c (ix3 l k k')) a b := by
  show StableHlo.after (List.flatten [hostOps0, hostOps0_1, hostOps0_2, hostOps0_3, hostOps0_4]) (fun b => m (c, b)) (Proc.devRef .tc main_v49) _ = _
  after_reads_simp
  pointwise []
  try after_reads_simp
  try pointwise []
  rfl

/-- The second edge bias. -/
theorem V_v53 (l : Fin 4) (b : Fin 128) : (V m c main_v53 : Vec Ideal S4x1x128 .f32) (ix3 l 0 b)
    = half * a11 m c (ix2 l (if h : b.val < 64 then ⟨b.val, h⟩ else ⟨b.val - 64, by omega⟩)) := by
  show StableHlo.after (List.flatten [hostOps0, hostOps0_1, hostOps0_2, hostOps0_3, hostOps0_4]) (fun b => m (c, b)) (Proc.devRef .tc main_v53) _ = _
  after_reads_simp
  pointwise []
  try after_reads_simp
  try pointwise []
  split <;> rfl

/-- The first coordinate layer. -/
theorem V_v59 (l : Fin 4) (a b : Fin 128) : (V m c main_v59 : Vec Ideal S4x128x128 .f32) (ix3 l a b)
    = bd (p := 64) (n := 64) rfl rfl (fun k k' => half * a16 m c (ix3 l k k')) a b := by
  show StableHlo.after (List.flatten [hostOps0, hostOps0_1, hostOps0_2, hostOps0_3, hostOps0_4]) (fun b => m (c, b)) (Proc.devRef .tc main_v59) _ = _
  after_reads_simp
  pointwise []
  try after_reads_simp
  try pointwise []
  rfl

/-- The coordinate bias. -/
theorem V_v63 (l : Fin 4) (b : Fin 128) : (V m c main_v63 : Vec Ideal S4x1x128 .f32) (ix3 l 0 b)
    = half * a17 m c (ix2 l (if h : b.val < 64 then ⟨b.val, h⟩ else ⟨b.val - 64, by omega⟩)) := by
  show StableHlo.after (List.flatten [hostOps0, hostOps0_1, hostOps0_2, hostOps0_3, hostOps0_4]) (fun b => m (c, b)) (Proc.devRef .tc main_v63) _ = _
  after_reads_simp
  pointwise []
  try after_reads_simp
  try pointwise []
  split <;> rfl

/-- The second coordinate layer. -/
theorem V_v70 (l : Fin 4) (a : Fin 128) (b : Fin 6) : (V m c main_v70 : Vec Ideal S4x128x6 .f32) (ix3 l a b)
    = bd (p := 64) (n := 3) rfl rfl (fun k _ => a18 m c (ix3 l k 0)) a b := by
  show StableHlo.after (List.flatten [hostOps0, hostOps0_1, hostOps0_2, hostOps0_3, hostOps0_4]) (fun b => m (c, b)) (Proc.devRef .tc main_v70) _ = _
  after_reads_simp
  pointwise []
  try after_reads_simp
  try pointwise []
  rfl

/-- The feature rows of the first node layer. -/
theorem V_v77 (l : Fin 4) (a b : Fin 128) : (V m c main_v77 : Vec Ideal S4x128x128 .f32) (ix3 l a b)
    = bd (p := 64) (n := 64) rfl rfl (fun k k' => half * a12 m c (ix3 l ⟨k.val, by omega⟩ k')) a b := by
  show StableHlo.after (List.flatten [hostOps0, hostOps0_1, hostOps0_2, hostOps0_3, hostOps0_4]) (fun b => m (c, b)) (Proc.devRef .tc main_v77) _ = _
  after_reads_simp
  pointwise []
  try after_reads_simp
  try pointwise []
  rfl

/-- The message rows of the first node layer. -/
theorem V_v84 (l : Fin 4) (a b : Fin 128) : (V m c main_v84 : Vec Ideal S4x128x128 .f32) (ix3 l a b)
    = bd (p := 64) (n := 64) rfl rfl (fun k k' => half * a12 m c (ix3 l ⟨64 + k.val, by omega⟩ k')) a b := by
  show StableHlo.after (List.flatten [hostOps0, hostOps0_1, hostOps0_2, hostOps0_3, hostOps0_4]) (fun b => m (c, b)) (Proc.devRef .tc main_v84) _ = _
  after_reads_simp
  pointwise []
  try after_reads_simp
  try pointwise []
  rfl

/-- The first node bias. -/
theorem V_v88 (l : Fin 4) (b : Fin 128) : (V m c main_v88 : Vec Ideal S4x1x128 .f32) (ix3 l 0 b)
    = half * a13 m c (ix2 l (if h : b.val < 64 then ⟨b.val, h⟩ else ⟨b.val - 64, by omega⟩)) := by
  show StableHlo.after (List.flatten [hostOps0, hostOps0_1, hostOps0_2, hostOps0_3, hostOps0_4]) (fun b => m (c, b)) (Proc.devRef .tc main_v88) _ = _
  after_reads_simp
  pointwise []
  try after_reads_simp
  try pointwise []
  split <;> rfl

/-- The second node layer. -/
theorem V_v92 (l : Fin 4) (a b : Fin 128) : (V m c main_v92 : Vec Ideal S4x128x128 .f32) (ix3 l a b)
    = bd (p := 64) (n := 64) rfl rfl (fun k k' => a14 m c (ix3 l k k')) a b := by
  show StableHlo.after (List.flatten [hostOps0, hostOps0_1, hostOps0_2, hostOps0_3, hostOps0_4]) (fun b => m (c, b)) (Proc.devRef .tc main_v92) _ = _
  after_reads_simp
  pointwise []
  try after_reads_simp
  try pointwise []
  rfl

/-- The second node bias. -/
theorem V_v94 (l : Fin 4) (b : Fin 128) : (V m c main_v94 : Vec Ideal S4x1x128 .f32) (ix3 l 0 b)
    = a15 m c (ix2 l (if h : b.val < 64 then ⟨b.val, h⟩ else ⟨b.val - 64, by omega⟩)) := by
  show StableHlo.after (List.flatten [hostOps0, hostOps0_1, hostOps0_2, hostOps0_3, hostOps0_4]) (fun b => m (c, b)) (Proc.devRef .tc main_v94) _ = _
  after_reads_simp
  pointwise []
  try after_reads_simp
  try pointwise []
  split <;> rfl

/-- The embedding of the inputs of a particle. -/
theorem V_v7 (r : Fin 4) (k : Fin 64) : (V m c main_v7 : Vec Ideal S4x64 .f32) (ix2 r k)
    = a4 m c (ix2 ⟨r.val, by omega⟩ k) := by
  show StableHlo.after (List.flatten [hostOps0, hostOps0_1, hostOps0_2, hostOps0_3, hostOps0_4]) (fun b => m (c, b)) (Proc.devRef .tc main_v7) _ = _
  after_reads_simp
  pointwise []
  try after_reads_simp
  try pointwise []
  rfl

/-- The embedding of the time. -/
theorem V_v10 (k : Fin 64) : (V m c main_v10 : Vec Ideal S1x64 .f32) (ix2 0 k)
    = a4 m c (ix2 4 k) := by
  show StableHlo.after (List.flatten [hostOps0, hostOps0_1, hostOps0_2, hostOps0_3, hostOps0_4]) (fun b => m (c, b)) (Proc.devRef .tc main_v10) _ = _
  after_reads_simp
  pointwise []
  try after_reads_simp
  try pointwise []
  rfl

/-- The bias of the embedding. -/
theorem V_v11 (k : Fin 64) : (V m c main_v11 : Vec Ideal S1x64 .f32) (ix2 0 k)
    = a5 m c (ix1 k) := by
  show StableHlo.after (List.flatten [hostOps0, hostOps0_1, hostOps0_2, hostOps0_3, hostOps0_4]) (fun b => m (c, b)) (Proc.devRef .tc main_v11) _ = _
  after_reads_simp
  pointwise []
  try after_reads_simp
  try pointwise []
  rfl

/-- The times of the two samples of a row. -/
theorem V_v5 (q : Fin 512) (s : Fin 2) : (V m c main_v5 : Vec Ideal S512x2 .f32) (ix2 q s)
    = a0 m c (ix2 ⟨q.val * 2 + s.val, by omega⟩ 0) := by
  show StableHlo.after (List.flatten [hostOps0, hostOps0_1, hostOps0_2, hostOps0_3, hostOps0_4]) (fun b => m (c, b)) (Proc.devRef .tc main_v5) _ = _
  after_reads_simp
  pointwise []
  try after_reads_simp
  try pointwise []
  rfl

/-- The padding value. -/
theorem sit0 : FloatOps.sitofp (F := Ideal) FTy.f32 0#32 = (0 : EReal) := by
  show ((((0#32 : BitVec 32).toInt : ℝ)) : EReal) = 0
  simp

/-- The padded coordinates, each sample's own. -/
def xpad : Vec Ideal S1024x24x3 .f32 :=
  pad S1024x24x3 ![0, 0, 0] ![0, 2, 0] ![0, 0, 0] (shapeCast S1024x22x3 (a1 m c) shapeCasts_S1024x66_S1024x22x3) (sitofp (F := Ideal) .f32 (constantI S_ 32 0#32))
    pads_S1024x22x3_S1024x24x3_000_020_000 h_S_

/-- An entry of the padded coordinates: zero at the padding particles. -/
theorem xpad_apply (b : Fin 1024) (i : Fin 24) (d : Fin 3) :
    xpad m c (ix3 b i d) = if h : i.val < 22 then a1 m c (ix2 b ⟨i.val * 3 + d.val, by omega⟩) else 0 := by
  pointwise [xpad]
  split
  · rfl
  · exact sit0

/-- An entry of the packed coordinates. -/
theorem V_v4 (q : Fin 512) (i : Fin 24) (b : Fin 6) : (V m c main_v4 : Vec Ideal S512x24x6 .f32) (ix3 q i b)
    = xpad m c (ix3 ⟨q.val * 2 + b.val / 3, by omega⟩ i ⟨b.val % 3, by omega⟩) := by
  have e : (V m c main_v4 : Vec Ideal S512x24x6 .f32) = shapeCast S512x24x6 (transpose S512x24x2x3 [0, 2, 1, 3]
      (shapeCast S512x2x24x3 (xpad m c) shapeCasts_S1024x24x3_S512x2x24x3) transposes_S512x2x24x3_S512x24x2x3_0_2_1_3) shapeCasts_S512x24x2x3_S512x24x6 := by
    show StableHlo.after (List.flatten [hostOps0, hostOps0_1, hostOps0_2, hostOps0_3, hostOps0_4]) (fun b => m (c, b)) (Proc.devRef .tc main_v4) = _
    after_reads_simp
    rfl
  rw [e]
  pointwise []

/-- An entry of the padded initial features. -/
theorem V_v6 (i : Fin 24) (r : Fin 4) : (V m c main_v6 : Vec Ideal S24x4 .f32) (ix2 i r)
    = if h : i.val < 22 then a2 m c (ix2 ⟨i.val, h⟩ r) else 0 := by
  have e : (V m c main_v6 : Vec Ideal S24x4 .f32) = pad S24x4 ![0, 0] ![2, 0] ![0, 0] (a2 m c) (sitofp (F := Ideal) .f32 (constantI S_ 32 0#32)) pads_S22x4_S24x4_020_000 h_S_ := by
    show StableHlo.after (List.flatten [hostOps0, hostOps0_1, hostOps0_2, hostOps0_3, hostOps0_4]) (fun b => m (c, b)) (Proc.devRef .tc main_v6) = _
    after_reads_simp
    rfl
  rw [e]
  pointwise []
  split
  · rfl
  · exact sit0

/-- An entry of the matrix that adds the coordinates of each sample. -/
theorem V_cst (b : Fin 6) (s : Fin 2) : (V m c main_cst : Vec Ideal S6x2 .f32) (ix2 b s) = if b.val / 3 = s.val then (1 : EReal) else (0 : EReal) := by
  have e : (V m c main_cst : Vec Ideal S6x2 .f32) = fun i => Ideal.ofBits .f32 (lit0 (S6x2.rowMajor i)) := by
    show StableHlo.after (List.flatten [hostOps0, hostOps0_1, hostOps0_2, hostOps0_3, hostOps0_4]) (fun b => m (c, b)) (Proc.devRef .tc main_cst) = _
    after_reads_simp
    rfl
  rw [e]
  have h : ∀ (b : Fin 6) (s : Fin 2), lit0 (S6x2.rowMajor (ix2 b s)) = if b.val / 3 = s.val then 0x3F800000#32 else 0x00000000#32 := by decide +kernel
  refine (congrArg (Ideal.ofBits .f32) (h b s)).trans ?_
  split
  · exact Ideal.ofBits_one_f32
  · exact Ideal.ofBits_zero_f32

/-- An entry of the matrix that gives each half of a row its own sample's time. -/
theorem V_cst_0 (s : Fin 2) (k : Fin 128) : (V m c main_cst_0 : Vec Ideal S2x128 .f32) (ix2 s k) = if k.val / 64 = s.val then (1 : EReal) else (0 : EReal) := by
  have e : (V m c main_cst_0 : Vec Ideal S2x128 .f32) = fun i => Ideal.ofBits .f32 (lit1 (S2x128.rowMajor i)) := by
    show StableHlo.after (List.flatten [hostOps0, hostOps0_1, hostOps0_2, hostOps0_3, hostOps0_4]) (fun b => m (c, b)) (Proc.devRef .tc main_cst_0) = _
    after_reads_simp
    rfl
  rw [e]
  have h : ∀ (s : Fin 2) (k : Fin 128), lit1 (S2x128.rowMajor (ix2 s k)) = if k.val / 64 = s.val then 0x3F800000#32 else 0x00000000#32 := by decide +kernel
  refine (congrArg (Ideal.ofBits .f32) (h s k)).trans ?_
  split
  · exact Ideal.ofBits_one_f32
  · exact Ideal.ofBits_zero_f32

end Cert.Proof
-- ==== Proof.KWin.lean ====
/-
  The blocks that a grid point of the kernel loads, of the arrays that its region finds.
-/
module
public import proofs.«01_k».proof.Proof.KHost
public import Idealize.ShloMosaic.Lib.Pipeline.Value
@[expose] public section
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ) (c : Dev nD)

/-! ## The blocks of a grid point -/

/-- Window 2 takes its whole array at every point. -/
theorem blk_2 (t : Fin cfg0.N) : (iblk m c 2 t : Vec Ideal S24x4 .f32) = (V m c main_v6 : Vec Ideal S24x4 .f32) := by
  obtain ⟨e0, e1⟩ := (by decide +kernel : ∀ t : Fin grid0.N, win0_2.index t (0 : Fin 2) = 0 ∧ win0_2.index t (1 : Fin 2) = 0) t
  funext j
  show V m c main_v6 (((cfg0.win 2).blk t).view.emb j) = V m c main_v6 j
  congr 1
  funext a; apply Fin.ext
  match a with
  | ⟨0, _⟩ => show win0_2.index t (0 : Fin 2) * 24 + 1 * (j 0).val = (j 0).val; omega
  | ⟨1, _⟩ => show win0_2.index t (1 : Fin 2) * 4 + 1 * (j 1).val = (j 1).val; omega

/-- Window 3 takes its whole array at every point. -/
theorem blk_3 (t : Fin cfg0.N) : (iblk m c 3 t : Vec Ideal S4x64 .f32) = (V m c main_v7 : Vec Ideal S4x64 .f32) := by
  obtain ⟨e0, e1⟩ := (by decide +kernel : ∀ t : Fin grid0.N, win0_3.index t (0 : Fin 2) = 0 ∧ win0_3.index t (1 : Fin 2) = 0) t
  funext j
  show V m c main_v7 (((cfg0.win 3).blk t).view.emb j) = V m c main_v7 j
  congr 1
  funext a; apply Fin.ext
  match a with
  | ⟨0, _⟩ => show win0_3.index t (0 : Fin 2) * 4 + 1 * (j 0).val = (j 0).val; omega
  | ⟨1, _⟩ => show win0_3.index t (1 : Fin 2) * 64 + 1 * (j 1).val = (j 1).val; omega

/-- Window 4 takes its whole array at every point. -/
theorem blk_4 (t : Fin cfg0.N) : (iblk m c 4 t : Vec Ideal S1x64 .f32) = (V m c main_v10 : Vec Ideal S1x64 .f32) := by
  obtain ⟨e0, e1⟩ := (by decide +kernel : ∀ t : Fin grid0.N, win0_4.index t (0 : Fin 2) = 0 ∧ win0_4.index t (1 : Fin 2) = 0) t
  funext j
  show V m c main_v10 (((cfg0.win 4).blk t).view.emb j) = V m c main_v10 j
  congr 1
  funext a; apply Fin.ext
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- Window 5 takes its whole array at every point. -/
theorem blk_5 (t : Fin cfg0.N) : (iblk m c 5 t : Vec Ideal S1x64 .f32) = (V m c main_v11 : Vec Ideal S1x64 .f32) := by
  obtain ⟨e0, e1⟩ := (by decide +kernel : ∀ t : Fin grid0.N, win0_5.index t (0 : Fin 2) = 0 ∧ win0_5.index t (1 : Fin 2) = 0) t
  funext j
  show V m c main_v11 (((cfg0.win 5).blk t).view.emb j) = V m c main_v11 j
  congr 1
  funext a; apply Fin.ext
  match a with
  | ⟨0, _⟩ => show win0_5.index t (0 : Fin 2) * 1 + 1 * (j 0).val = (j 0).val; omega
  | ⟨1, _⟩ => show win0_5.index t (1 : Fin 2) * 64 + 1 * (j 1).val = (j 1).val; omega

/-- Window 6 takes its whole array at every point. -/
theorem blk_6 (t : Fin cfg0.N) : (iblk m c 6 t : Vec Ideal S6x2 .f32) = (V m c main_cst : Vec Ideal S6x2 .f32) := by
  obtain ⟨e0, e1⟩ := (by decide +kernel : ∀ t : Fin grid0.N, win0_6.index t (0 : Fin 2) = 0 ∧ win0_6.index t (1 : Fin 2) = 0) t
  funext j
  show V m c main_cst (((cfg0.win 6).blk t).view.emb j) = V m c main_cst j
  congr 1
  funext a; apply Fin.ext
  match a with
  | ⟨0, _⟩ => show win0_6.index t (0 : Fin 2) * 6 + 1 * (j 0).val = (j 0).val; omega
  | ⟨1, _⟩ => show win0_6.index t (1 : Fin 2) * 2 + 1 * (j 1).val = (j 1).val; omega

/-- Window 7 takes its whole array at every point. -/
theorem blk_7 (t : Fin cfg0.N) : (iblk m c 7 t : Vec Ideal S2x128 .f32) = (V m c main_cst_0 : Vec Ideal S2x128 .f32) := by
  obtain ⟨e0, e1⟩ := (by decide +kernel : ∀ t : Fin grid0.N, win0_7.index t (0 : Fin 2) = 0 ∧ win0_7.index t (1 : Fin 2) = 0) t
  funext j
  show V m c main_cst_0 (((cfg0.win 7).blk t).view.emb j) = V m c main_cst_0 j
  congr 1
  funext a; apply Fin.ext
  match a with
  | ⟨0, _⟩ => show win0_7.index t (0 : Fin 2) * 2 + 1 * (j 0).val = (j 0).val; omega
  | ⟨1, _⟩ => show win0_7.index t (1 : Fin 2) * 128 + 1 * (j 1).val = (j 1).val; omega

/-- Window 8 takes its whole array at every point. -/
theorem blk_8 (t : Fin cfg0.N) : (iblk m c 8 t : Vec Ideal S4x128x128 .f32) = (V m c main_v18 : Vec Ideal S4x128x128 .f32) := by
  obtain ⟨e0, e1, e2⟩ := (by decide +kernel : ∀ t : Fin grid0.N, win0_8.index t (0 : Fin 3) = 0 ∧ win0_8.index t (1 : Fin 3) = 0 ∧ win0_8.index t (2 : Fin 3) = 0) t
  funext j
  show V m c main_v18 (((cfg0.win 8).blk t).view.emb j) = V m c main_v18 j
  congr 1
  funext a; apply Fin.ext
  match a with
  | ⟨0, _⟩ => show win0_8.index t (0 : Fin 3) * 4 + 1 * (j 0).val = (j 0).val; omega
  | ⟨1, _⟩ => show win0_8.index t (1 : Fin 3) * 128 + 1 * (j 1).val = (j 1).val; omega
  | ⟨2, _⟩ => show win0_8.index t (2 : Fin 3) * 128 + 1 * (j 2).val = (j 2).val; omega

/-- Window 9 takes its whole array at every point. -/
theorem blk_9 (t : Fin cfg0.N) : (iblk m c 9 t : Vec Ideal S4x128x128 .f32) = (V m c main_v25 : Vec Ideal S4x128x128 .f32) := by
  obtain ⟨e0, e1, e2⟩ := (by decide +kernel : ∀ t : Fin grid0.N, win0_9.index t (0 : Fin 3) = 0 ∧ win0_9.index t (1 : Fin 3) = 0 ∧ win0_9.index t (2 : Fin 3) = 0) t
  funext j
  show V m c main_v25 (((cfg0.win 9).blk t).view.emb j) = V m c main_v25 j
  congr 1
  funext a; apply Fin.ext
  match a with
  | ⟨0, _⟩ => show win0_9.index t (0 : Fin 3) * 4 + 1 * (j 0).val = (j 0).val; omega
  | ⟨1, _⟩ => show win0_9.index t (1 : Fin 3) * 128 + 1 * (j 1).val = (j 1).val; omega
  | ⟨2, _⟩ => show win0_9.index t (2 : Fin 3) * 128 + 1 * (j 2).val = (j 2).val; omega

/-- Window 10 takes its whole array at every point. -/
theorem blk_10 (t : Fin cfg0.N) : (iblk m c 10 t : Vec Ideal S4x2x128 .f32) = (V m c main_v32 : Vec Ideal S4x2x128 .f32) := by
  obtain ⟨e0, e1, e2⟩ := (by decide +kernel : ∀ t : Fin grid0.N, win0_10.index t (0 : Fin 3) = 0 ∧ win0_10.index t (1 : Fin 3) = 0 ∧ win0_10.index t (2 : Fin 3) = 0) t
  funext j
  show V m c main_v32 (((cfg0.win 10).blk t).view.emb j) = V m c main_v32 j
  congr 1
  funext a; apply Fin.ext
  match a with
  | ⟨0, _⟩ => show win0_10.index t (0 : Fin 3) * 4 + 1 * (j 0).val = (j 0).val; omega
  | ⟨1, _⟩ => show win0_10.index t (1 : Fin 3) * 2 + 1 * (j 1).val = (j 1).val; omega
  | ⟨2, _⟩ => show win0_10.index t (2 : Fin 3) * 128 + 1 * (j 2).val = (j 2).val; omega

/-- Window 11 takes its whole array at every point. -/
theorem blk_11 (t : Fin cfg0.N) : (iblk m c 11 t : Vec Ideal S4x2x128 .f32) = (V m c main_v39 : Vec Ideal S4x2x128 .f32) := by
  obtain ⟨e0, e1, e2⟩ := (by decide +kernel : ∀ t : Fin grid0.N, win0_11.index t (0 : Fin 3) = 0 ∧ win0_11.index t (1 : Fin 3) = 0 ∧ win0_11.index t (2 : Fin 3) = 0) t
  funext j
  show V m c main_v39 (((cfg0.win 11).blk t).view.emb j) = V m c main_v39 j
  congr 1
  funext a; apply Fin.ext
  match a with
  | ⟨0, _⟩ => show win0_11.index t (0 : Fin 3) * 4 + 1 * (j 0).val = (j 0).val; omega
  | ⟨1, _⟩ => show win0_11.index t (1 : Fin 3) * 2 + 1 * (j 1).val = (j 1).val; omega
  | ⟨2, _⟩ => show win0_11.index t (2 : Fin 3) * 128 + 1 * (j 2).val = (j 2).val; omega

/-- Window 12 takes its whole array at every point. -/
theorem blk_12 (t : Fin cfg0.N) : (iblk m c 12 t : Vec Ideal S4x1x128 .f32) = (V m c main_v43 : Vec Ideal S4x1x128 .f32) := by
  obtain ⟨e0, e1, e2⟩ := (by decide +kernel : ∀ t : Fin grid0.N, win0_12.index t (0 : Fin 3) = 0 ∧ win0_12.index t (1 : Fin 3) = 0 ∧ win0_12.index t (2 : Fin 3) = 0) t
  funext j
  show V m c main_v43 (((cfg0.win 12).blk t).view.emb j) = V m c main_v43 j
  congr 1
  funext a; apply Fin.ext
  match a with
  | ⟨0, _⟩ => show win0_12.index t (0 : Fin 3) * 4 + 1 * (j 0).val = (j 0).val; omega
  | ⟨1, _⟩ => show win0_12.index t (1 : Fin 3) * 1 + 1 * (j 1).val = (j 1).val; omega
  | ⟨2, _⟩ => show win0_12.index t (2 : Fin 3) * 128 + 1 * (j 2).val = (j 2).val; omega

/-- Window 13 takes its whole array at every point. -/
theorem blk_13 (t : Fin cfg0.N) : (iblk m c 13 t : Vec Ideal S4x128x128 .f32) = (V m c main_v49 : Vec Ideal S4x128x128 .f32) := by
  obtain ⟨e0, e1, e2⟩ := (by decide +kernel : ∀ t : Fin grid0.N, win0_13.index t (0 : Fin 3) = 0 ∧ win0_13.index t (1 : Fin 3) = 0 ∧ win0_13.index t (2 : Fin 3) = 0) t
  funext j
  show V m c main_v49 (((cfg0.win 13).blk t).view.emb j) = V m c main_v49 j
  congr 1
  funext a; apply Fin.ext
  match a with
  | ⟨0, _⟩ => show win0_13.index t (0 : Fin 3) * 4 + 1 * (j 0).val = (j 0).val; omega
  | ⟨1, _⟩ => show win0_13.index t (1 : Fin 3) * 128 + 1 * (j 1).val = (j 1).val; omega
  | ⟨2, _⟩ => show win0_13.index t (2 : Fin 3) * 128 + 1 * (j 2).val = (j 2).val; omega

/-- Window 14 takes its whole array at every point. -/
theorem blk_14 (t : Fin cfg0.N) : (iblk m c 14 t : Vec Ideal S4x1x128 .f32) = (V m c main_v53 : Vec Ideal S4x1x128 .f32) := by
  obtain ⟨e0, e1, e2⟩ := (by decide +kernel : ∀ t : Fin grid0.N, win0_14.index t (0 : Fin 3) = 0 ∧ win0_14.index t (1 : Fin 3) = 0 ∧ win0_14.index t (2 : Fin 3) = 0) t
  funext j
  show V m c main_v53 (((cfg0.win 14).blk t).view.emb j) = V m c main_v53 j
  congr 1
  funext a; apply Fin.ext
  match a with
  | ⟨0, _⟩ => show win0_14.index t (0 : Fin 3) * 4 + 1 * (j 0).val = (j 0).val; omega
  | ⟨1, _⟩ => show win0_14.index t (1 : Fin 3) * 1 + 1 * (j 1).val = (j 1).val; omega
  | ⟨2, _⟩ => show win0_14.index t (2 : Fin 3) * 128 + 1 * (j 2).val = (j 2).val; omega

/-- Window 15 takes its whole array at every point. -/
theorem blk_15 (t : Fin cfg0.N) : (iblk m c 15 t : Vec Ideal S4x128x128 .f32) = (V m c main_v59 : Vec Ideal S4x128x128 .f32) := by
  obtain ⟨e0, e1, e2⟩ := (by decide +kernel : ∀ t : Fin grid0.N, win0_15.index t (0 : Fin 3) = 0 ∧ win0_15.index t (1 : Fin 3) = 0 ∧ win0_15.index t (2 : Fin 3) = 0) t
  funext j
  show V m c main_v59 (((cfg0.win 15).blk t).view.emb j) = V m c main_v59 j
  congr 1
  funext a; apply Fin.ext
  match a with
  | ⟨0, _⟩ => show win0_15.index t (0 : Fin 3) * 4 + 1 * (j 0).val = (j 0).val; omega
  | ⟨1, _⟩ => show win0_15.index t (1 : Fin 3) * 128 + 1 * (j 1).val = (j 1).val; omega
  | ⟨2, _⟩ => show win0_15.index t (2 : Fin 3) * 128 + 1 * (j 2).val = (j 2).val; omega

/-- Window 16 takes its whole array at every point. -/
theorem blk_16 (t : Fin cfg0.N) : (iblk m c 16 t : Vec Ideal S4x1x128 .f32) = (V m c main_v63 : Vec Ideal S4x1x128 .f32) := by
  obtain ⟨e0, e1, e2⟩ := (by decide +kernel : ∀ t : Fin grid0.N, win0_16.index t (0 : Fin 3) = 0 ∧ win0_16.index t (1 : Fin 3) = 0 ∧ win0_16.index t (2 : Fin 3) = 0) t
  funext j
  show V m c main_v63 (((cfg0.win 16).blk t).view.emb j) = V m c main_v63 j
  congr 1
  funext a; apply Fin.ext
  match a with
  | ⟨0, _⟩ => show win0_16.index t (0 : Fin 3) * 4 + 1 * (j 0).val = (j 0).val; omega
  | ⟨1, _⟩ => show win0_16.index t (1 : Fin 3) * 1 + 1 * (j 1).val = (j 1).val; omega
  | ⟨2, _⟩ => show win0_16.index t (2 : Fin 3) * 128 + 1 * (j 2).val = (j 2).val; omega

/-- Window 17 takes its whole array at every point. -/
theorem blk_17 (t : Fin cfg0.N) : (iblk m c 17 t : Vec Ideal S4x128x6 .f32) = (V m c main_v70 : Vec Ideal S4x128x6 .f32) := by
  obtain ⟨e0, e1, e2⟩ := (by decide +kernel : ∀ t : Fin grid0.N, win0_17.index t (0 : Fin 3) = 0 ∧ win0_17.index t (1 : Fin 3) = 0 ∧ win0_17.index t (2 : Fin 3) = 0) t
  funext j
  show V m c main_v70 (((cfg0.win 17).blk t).view.emb j) = V m c main_v70 j
  congr 1
  funext a; apply Fin.ext
  match a with
  | ⟨0, _⟩ => show win0_17.index t (0 : Fin 3) * 4 + 1 * (j 0).val = (j 0).val; omega
  | ⟨1, _⟩ => show win0_17.index t (1 : Fin 3) * 128 + 1 * (j 1).val = (j 1).val; omega
  | ⟨2, _⟩ => show win0_17.index t (2 : Fin 3) * 6 + 1 * (j 2).val = (j 2).val; omega

/-- Window 18 takes its whole array at every point. -/
theorem blk_18 (t : Fin cfg0.N) : (iblk m c 18 t : Vec Ideal S4x128x128 .f32) = (V m c main_v77 : Vec Ideal S4x128x128 .f32) := by
  obtain ⟨e0, e1, e2⟩ := (by decide +kernel : ∀ t : Fin grid0.N, win0_18.index t (0 : Fin 3) = 0 ∧ win0_18.index t (1 : Fin 3) = 0 ∧ win0_18.index t (2 : Fin 3) = 0) t
  funext j
  show V m c main_v77 (((cfg0.win 18).blk t).view.emb j) = V m c main_v77 j
  congr 1
  funext a; apply Fin.ext
  match a with
  | ⟨0, _⟩ => show win0_18.index t (0 : Fin 3) * 4 + 1 * (j 0).val = (j 0).val; omega
  | ⟨1, _⟩ => show win0_18.index t (1 : Fin 3) * 128 + 1 * (j 1).val = (j 1).val; omega
  | ⟨2, _⟩ => show win0_18.index t (2 : Fin 3) * 128 + 1 * (j 2).val = (j 2).val; omega

/-- Window 19 takes its whole array at every point. -/
theorem blk_19 (t : Fin cfg0.N) : (iblk m c 19 t : Vec Ideal S4x128x128 .f32) = (V m c main_v84 : Vec Ideal S4x128x128 .f32) := by
  obtain ⟨e0, e1, e2⟩ := (by decide +kernel : ∀ t : Fin grid0.N, win0_19.index t (0 : Fin 3) = 0 ∧ win0_19.index t (1 : Fin 3) = 0 ∧ win0_19.index t (2 : Fin 3) = 0) t
  funext j
  show V m c main_v84 (((cfg0.win 19).blk t).view.emb j) = V m c main_v84 j
  congr 1
  funext a; apply Fin.ext
  match a with
  | ⟨0, _⟩ => show win0_19.index t (0 : Fin 3) * 4 + 1 * (j 0).val = (j 0).val; omega
  | ⟨1, _⟩ => show win0_19.index t (1 : Fin 3) * 128 + 1 * (j 1).val = (j 1).val; omega
  | ⟨2, _⟩ => show win0_19.index t (2 : Fin 3) * 128 + 1 * (j 2).val = (j 2).val; omega

/-- Window 20 takes its whole array at every point. -/
theorem blk_20 (t : Fin cfg0.N) : (iblk m c 20 t : Vec Ideal S4x1x128 .f32) = (V m c main_v88 : Vec Ideal S4x1x128 .f32) := by
  obtain ⟨e0, e1, e2⟩ := (by decide +kernel : ∀ t : Fin grid0.N, win0_20.index t (0 : Fin 3) = 0 ∧ win0_20.index t (1 : Fin 3) = 0 ∧ win0_20.index t (2 : Fin 3) = 0) t
  funext j
  show V m c main_v88 (((cfg0.win 20).blk t).view.emb j) = V m c main_v88 j
  congr 1
  funext a; apply Fin.ext
  match a with
  | ⟨0, _⟩ => show win0_20.index t (0 : Fin 3) * 4 + 1 * (j 0).val = (j 0).val; omega
  | ⟨1, _⟩ => show win0_20.index t (1 : Fin 3) * 1 + 1 * (j 1).val = (j 1).val; omega
  | ⟨2, _⟩ => show win0_20.index t (2 : Fin 3) * 128 + 1 * (j 2).val = (j 2).val; omega

/-- Window 21 takes its whole array at every point. -/
theorem blk_21 (t : Fin cfg0.N) : (iblk m c 21 t : Vec Ideal S4x128x128 .f32) = (V m c main_v92 : Vec Ideal S4x128x128 .f32) := by
  obtain ⟨e0, e1, e2⟩ := (by decide +kernel : ∀ t : Fin grid0.N, win0_21.index t (0 : Fin 3) = 0 ∧ win0_21.index t (1 : Fin 3) = 0 ∧ win0_21.index t (2 : Fin 3) = 0) t
  funext j
  show V m c main_v92 (((cfg0.win 21).blk t).view.emb j) = V m c main_v92 j
  congr 1
  funext a; apply Fin.ext
  match a with
  | ⟨0, _⟩ => show win0_21.index t (0 : Fin 3) * 4 + 1 * (j 0).val = (j 0).val; omega
  | ⟨1, _⟩ => show win0_21.index t (1 : Fin 3) * 128 + 1 * (j 1).val = (j 1).val; omega
  | ⟨2, _⟩ => show win0_21.index t (2 : Fin 3) * 128 + 1 * (j 2).val = (j 2).val; omega

/-- Window 22 takes its whole array at every point. -/
theorem blk_22 (t : Fin cfg0.N) : (iblk m c 22 t : Vec Ideal S4x1x128 .f32) = (V m c main_v94 : Vec Ideal S4x1x128 .f32) := by
  obtain ⟨e0, e1, e2⟩ := (by decide +kernel : ∀ t : Fin grid0.N, win0_22.index t (0 : Fin 3) = 0 ∧ win0_22.index t (1 : Fin 3) = 0 ∧ win0_22.index t (2 : Fin 3) = 0) t
  funext j
  show V m c main_v94 (((cfg0.win 22).blk t).view.emb j) = V m c main_v94 j
  congr 1
  funext a; apply Fin.ext
  match a with
  | ⟨0, _⟩ => show win0_22.index t (0 : Fin 3) * 4 + 1 * (j 0).val = (j 0).val; omega
  | ⟨1, _⟩ => show win0_22.index t (1 : Fin 3) * 1 + 1 * (j 1).val = (j 1).val; omega
  | ⟨2, _⟩ => show win0_22.index t (2 : Fin 3) * 128 + 1 * (j 2).val = (j 2).val; omega

/-- The row of samples that pair `q` of point `t` is. -/
def pairOf (t : Fin 32) (q : Fin 16) : Fin 512 := ⟨t.val * 16 + q.val, by omega⟩

/-- Window 0 takes sixteen rows. -/
theorem blk_0 (t : Fin 32) (q : Fin 16) (s : Fin 2) :
    (iblk m c 0 t : Vec Ideal S16x2 .f32) (ix2 q s) = (V m c main_v5 : Vec Ideal S512x2 .f32) (ix2 (pairOf t q) s) := by
  obtain ⟨e0, e1⟩ := (by decide +kernel : ∀ t : Fin grid0.N, win0_0.index t (0 : Fin 2) = t.val ∧ win0_0.index t (1 : Fin 2) = 0) t
  show V m c main_v5 (((cfg0.win 0).blk t).view.emb (ix2 q s)) = V m c main_v5 (ix2 (pairOf t q) s)
  congr 1
  funext a; apply Fin.ext
  match a with
  | ⟨0, _⟩ => show win0_0.index t (0 : Fin 2) * 16 + 1 * q.val = t.val * 16 + q.val; omega
  | ⟨1, _⟩ => show win0_0.index t (1 : Fin 2) * 2 + 1 * s.val = s.val; omega

/-- Window 1 takes sixteen rows. -/
theorem blk_1 (t : Fin 32) (q : Fin 16) (i : Fin 24) (b : Fin 6) :
    (iblk m c 1 t : Vec Ideal S16x24x6 .f32) (ix3 q i b) = (V m c main_v4 : Vec Ideal S512x24x6 .f32) (ix3 (pairOf t q) i b) := by
  obtain ⟨e0, e1, e2⟩ := (by decide +kernel : ∀ t : Fin grid0.N, win0_1.index t (0 : Fin 3) = t.val ∧ win0_1.index t (1 : Fin 3) = 0 ∧ win0_1.index t (2 : Fin 3) = 0) t
  show V m c main_v4 (((cfg0.win 1).blk t).view.emb (ix3 q i b)) = V m c main_v4 (ix3 (pairOf t q) i b)
  congr 1
  funext a; apply Fin.ext
  match a with
  | ⟨0, _⟩ => show win0_1.index t (0 : Fin 3) * 16 + 1 * q.val = t.val * 16 + q.val; omega
  | ⟨1, _⟩ => show win0_1.index t (1 : Fin 3) * 24 + 1 * i.val = i.val; omega
  | ⟨2, _⟩ => show win0_1.index t (2 : Fin 3) * 6 + 1 * b.val = b.val; omega

/-- The block of the result array at a point is sixteen rows of it. -/
theorem emb_23 (t : Fin 32) (q : Fin 16) (i : Fin 24) (b : Fin 6) :
    ((cfg0.win 23).blk t).view.emb (ix3 q i b) = (ix3 (pairOf t q) i b : S512x24x6.Idx) := by
  obtain ⟨e0, e1, e2⟩ := (by decide +kernel : ∀ t : Fin grid0.N, win0_23.index t (0 : Fin 3) = t.val ∧ win0_23.index t (1 : Fin 3) = 0 ∧ win0_23.index t (2 : Fin 3) = 0) t
  funext a; apply Fin.ext
  match a with
  | ⟨0, _⟩ => show win0_23.index t (0 : Fin 3) * 16 + 1 * q.val = t.val * 16 + q.val; omega
  | ⟨1, _⟩ => show win0_23.index t (1 : Fin 3) * 24 + 1 * i.val = i.val; omega
  | ⟨2, _⟩ => show win0_23.index t (2 : Fin 3) * 6 + 1 * b.val = b.val; omega

/-- The blocks that point `t` loads. -/
def blkAt (t : Fin 32) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

end Cert.Proof
-- ==== Proof.Args.lean ====
/-
  The real numbers that the arguments hold, and the velocities that the network gives of them.
-/
module
public import proofs.«01_k».proof.Proof.Spec
public import Idealize.ShloMosaic.Lib.Pointwise
@[expose] public section
noncomputable section
namespace Cert.Proof
open Idealize.ShloMosaic

/-- The arguments as real numbers. -/
structure Args where
  t : Fin 1024 → ℝ
  xs : Fin 1024 → Fin 66 → ℝ
  hi : Fin 22 → Fin 4 → ℝ
  em : Fin 5 → Fin 64 → ℝ
  eb : Fin 64 → ℝ
  e1 : Fin 4 → Fin 130 → Fin 64 → ℝ
  b1 : Fin 4 → Fin 64 → ℝ
  e2 : Fin 4 → Fin 64 → Fin 64 → ℝ
  b2 : Fin 4 → Fin 64 → ℝ
  n1 : Fin 4 → Fin 128 → Fin 64 → ℝ
  nb1 : Fin 4 → Fin 64 → ℝ
  n2 : Fin 4 → Fin 64 → Fin 64 → ℝ
  nb2 : Fin 4 → Fin 64 → ℝ
  c1 : Fin 4 → Fin 64 → Fin 64 → ℝ
  cb1 : Fin 4 → Fin 64 → ℝ
  c2 : Fin 4 → Fin 64 → ℝ

namespace Args
variable (A : Args)

/-- The weights of a layer. -/
def W (l : Fin 4) : Wt where
  eR k k' := A.e1 l ⟨k.val, by omega⟩ k'
  eC k k' := A.e1 l ⟨64 + k.val, by omega⟩ k'
  e2 := A.e2 l
  nH k k' := A.n1 l ⟨k.val, by omega⟩ k'
  nA k k' := A.n1 l ⟨64 + k.val, by omega⟩ k'
  n2 := A.n2 l
  c1 := A.c1 l
  eRad := A.e1 l 128
  eEa := A.e1 l 129
  eb1 := A.b1 l
  eb2 := A.b2 l
  nb1 := A.nb1 l
  nb2 := A.nb2 l
  cb1 := A.cb1 l
  c2 := A.c2 l

/-- The coordinates of a sample. -/
def x (b : Fin 1024) (i : Fin 22) (d : Fin 3) : ℝ := A.xs b ⟨i.val * 3 + d.val, by omega⟩
/-- The features of a sample before the first layer. -/
def h (b : Fin 1024) : Fin 22 → Fin 64 → ℝ := feat A.hi (A.t b) (fun r => A.em ⟨r.val, by omega⟩) (A.em 4) A.eb
/-- The velocities of a sample. -/
def vel (b : Fin 1024) (i : Fin 22) (d : Fin 3) : ℝ := net A.W (A.x b) (A.h b) i d

end Args

/-- The float arguments that the velocities read, as arrays. -/
structure Arrs where
  a0 : Vec Ideal ⟨2, ![1024, 1]⟩ .f32
  a1 : Vec Ideal ⟨2, ![1024, 66]⟩ .f32
  a2 : Vec Ideal ⟨2, ![22, 4]⟩ .f32
  a4 : Vec Ideal ⟨2, ![5, 64]⟩ .f32
  a5 : Vec Ideal ⟨1, ![64]⟩ .f32
  a8 : Vec Ideal ⟨3, ![4, 130, 64]⟩ .f32
  a9 : Vec Ideal ⟨2, ![4, 64]⟩ .f32
  a10 : Vec Ideal ⟨3, ![4, 64, 64]⟩ .f32
  a11 : Vec Ideal ⟨2, ![4, 64]⟩ .f32
  a12 : Vec Ideal ⟨3, ![4, 128, 64]⟩ .f32
  a13 : Vec Ideal ⟨2, ![4, 64]⟩ .f32
  a14 : Vec Ideal ⟨3, ![4, 64, 64]⟩ .f32
  a15 : Vec Ideal ⟨2, ![4, 64]⟩ .f32
  a16 : Vec Ideal ⟨3, ![4, 64, 64]⟩ .f32
  a17 : Vec Ideal ⟨2, ![4, 64]⟩ .f32
  a18 : Vec Ideal ⟨3, ![4, 64, 1]⟩ .f32

/-- The arrays hold the real numbers; the node weights of the last layer are not read. -/
structure Of (A : Args) (R : Arrs) : Prop where
  t : ∀ b, R.a0 (ix2 b 0) = (A.t b : ℝ)
  xs : ∀ b n, R.a1 (ix2 b n) = (A.xs b n : ℝ)
  hi : ∀ i r, R.a2 (ix2 i r) = (A.hi i r : ℝ)
  em : ∀ r k, R.a4 (ix2 r k) = (A.em r k : ℝ)
  eb : ∀ k, R.a5 (ix1 k) = (A.eb k : ℝ)
  e1 : ∀ l r k, R.a8 (ix3 l r k) = (A.e1 l r k : ℝ)
  b1 : ∀ l k, R.a9 (ix2 l k) = (A.b1 l k : ℝ)
  e2 : ∀ l r k, R.a10 (ix3 l r k) = (A.e2 l r k : ℝ)
  b2 : ∀ l k, R.a11 (ix2 l k) = (A.b2 l k : ℝ)
  n1 : ∀ (l : Fin 4) r k, l.val < 3 → R.a12 (ix3 l r k) = (A.n1 l r k : ℝ)
  nb1 : ∀ (l : Fin 4) k, l.val < 3 → R.a13 (ix2 l k) = (A.nb1 l k : ℝ)
  n2 : ∀ (l : Fin 4) r k, l.val < 3 → R.a14 (ix3 l r k) = (A.n2 l r k : ℝ)
  nb2 : ∀ (l : Fin 4) k, l.val < 3 → R.a15 (ix2 l k) = (A.nb2 l k : ℝ)
  c1 : ∀ l r k, R.a16 (ix3 l r k) = (A.c1 l r k : ℝ)
  cb1 : ∀ l k, R.a17 (ix2 l k) = (A.cb1 l k : ℝ)
  c2 : ∀ l k, R.a18 (ix3 l k 0) = (A.c2 l k : ℝ)

end Cert.Proof
-- ==== Proof.KArr.lean ====
/-
  The array that the region of the kernel leaves, and the result that the program makes of it.
-/
module
public import proofs.«01_k».proof.Proof.KWin
public import proofs.«01_k».proof.Proof.Args
public import Idealize.ShloMosaic.Lib.Pipeline.Value
@[expose] public section
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ) (c : Dev nD)

/-! ## The array after the region -/

/-- Two points write different blocks. -/
theorem idx_inj : ∀ t t' : Fin cfg0.N, win0_23.index t = win0_23.index t' → t = t' :=
  (by decide +kernel : ∀ t t' : Fin grid0.N, win0_23.index t = win0_23.index t' → t = t')

/-- The blocks of two points share nothing. -/
theorem disj : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj t t' h)

/-- A block of the array that the region leaves is what its point writes. -/
theorem blocks (t : Fin cfg0.N) :
    ((cfg0.win 23).blk t).view.read (Elt Ideal) ((dats m 0 c).arrAt 23 cfg0.N) = (dats m 0 c).flushed 23 t :=
  (dats m 0 c).read_blk_arrAt_eq_flushed 23 disj cfg0.N t t.isLt (flush0_23 t)

/-- What a point writes is what it stores. -/
theorem flushed (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 23).cut (grid0.coords t) ((dats m 0 c).after 23 t) = _
  rw [after0_23]

/-- If the block of a point reads `Y` of `X`, then `X` at the rows of the point is `Y`. -/
theorem read_rows (t : Fin 32) (X : Vec Ideal S512x24x6 .f32) (Y : Vec Ideal S16x24x6 .f32)
    (h : ((cfg0.win 23).blk t).view.read (Elt Ideal) X = (cfg0.win 23).cut (grid0.coords t) Y) (q : Fin 16) (i : Fin 24) (b : Fin 6) :
    X (ix3 (pairOf t q) i b) = Y (ix3 q i b) := by
  have h2 : X (((cfg0.win 23).blk t).view.emb (ix3 q i b)) = Y (ix3 q i b) := congrFun h (ix3 q i b)
  rw [← h2]
  exact congrArg X (emb_23 t q i b).symm

/-- The array that the region leaves. -/
def arrK : Vec Ideal S512x24x6 .f32 := (dats m 0 c).arrAt 23 cfg0.N

/-- What a point stores, of its blocks. -/
theorem out_blk (t : Fin 32) : (blkAt m c t).out = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by
  unfold Blk.out blkAt
  with_reducible rfl

/-- A point writes what it stores. -/
theorem read_arrK (t : Fin cfg0.N) :
    ((cfg0.win 23).blk t).view.read (Elt Ideal) (arrK m c) = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  unfold arrK
  rw [blocks, flushed]

/-- The array that the region leaves, at the rows of a point, is what the point stores. -/
theorem arr_apply (t : Fin 32) (q : Fin 16) (i : Fin 24) (b : Fin 6) :
    arrK m c (ix3 (pairOf t q) i b) = (blkAt m c t).out (ix3 q i b) := by
  rw [out_blk]
  exact read_rows t (arrK m c) _ (read_arrK m c t) q i b

/-- Each window has its own array. -/
theorem arr_inj : Function.Injective (Pipeline.arrRef spec0) :=
  fun w w' => (by decide +kernel : ∀ w w' : Fin 24, Pipeline.arrRef spec0 w = Pipeline.arrRef spec0 w' → w = w') w w'

/-- The result that the program makes of the array. -/
theorem tail_apply (b : Fin 1024) (n : Fin 66) :
    (Pipeline.afterTail₀ cfgs (dats m) 0 (V0 m) [hostOps1] c main_v100 : Vec Ideal S1024x66 .f32) (ix2 b n)
      = arrK m c
          (ix3 ⟨b.val / 2, by omega⟩ ⟨n.val / 3, by omega⟩ ⟨b.val % 2 * 3 + n.val % 3, by omega⟩) := by
  have e : (Pipeline.afterTail₀ cfgs (dats m) 0 (V0 m) [hostOps1] c main_v100 : Vec Ideal S1024x66 .f32)
      = shapeCast S1024x66 (extractStridedSlice S1024x22x3 ![0, 0, 0] (shapeCast S1024x24x3 (transpose S512x2x24x3 [0, 2, 1, 3]
          (shapeCast S512x24x2x3 (arrK m c) shapeCasts_S512x24x6_S512x24x2x3)
          transposes_S512x24x2x3_S512x2x24x3_0_2_1_3) shapeCasts_S512x2x24x3_S1024x24x3) slices_S1024x24x3_S1024x22x3_0_0_0) shapeCasts_S1024x22x3_S1024x66 := by
    unfold Pipeline.afterTail₀
    after_reads_simp
    rw [Pipeline.withArrays_arr spec0 arr_inj c (V0 m c) _ 23]
    rfl
  rw [e]
  pointwise []

end Cert.Proof
-- ==== Proof.KReg.lean ====
/-
  The arrays that the kernel's region finds, by name, and its blocks of them.
-/
module
public import proofs.«01_k».proof.Proof.KWin
@[expose] public section
noncomputable section
namespace Cert.Proof
open Idealize.ShloMosaic Idealize.ShloMosaic.TcCoe Cert.KernelIdeal Cert.KernelIdeal.Gen

variable (m : (ℓ : Loc nD τ sig) → Buf (Elt Ideal) ℓ) (c : Dev nD)

/-- The array of window 0. -/
def r0 : Vec Ideal S512x2 .f32 := V m c main_v5
/-- An entry of the array of window 0. -/
theorem r0_apply (q : Fin 512) (s : Fin 2) : r0 m c (ix2 q s) = a0 m c (ix2 ⟨q.val * 2 + s.val, by omega⟩ 0) := V_v5 m c q s
/-- The array of window 1. -/
def r1 : Vec Ideal S512x24x6 .f32 := V m c main_v4
/-- An entry of the array of window 1. -/
theorem r1_apply (q : Fin 512) (i : Fin 24) (b : Fin 6) : r1 m c (ix3 q i b) = xpad m c (ix3 ⟨q.val * 2 + b.val / 3, by omega⟩ i ⟨b.val % 3, by omega⟩) := V_v4 m c q i b
/-- The array of window 2. -/
def r2 : Vec Ideal S24x4 .f32 := V m c main_v6
/-- An entry of the array of window 2. -/
theorem r2_apply (i : Fin 24) (r : Fin 4) : r2 m c (ix2 i r) = if h : i.val < 22 then a2 m c (ix2 ⟨i.val, h⟩ r) else 0 := V_v6 m c i r
/-- Every grid point loads the whole array of window 2. -/
theorem b2_eq (t : Fin 32) : (blkAt m c t).x2 = r2 m c := blk_2 m c t
/-- The array of window 3. -/
def r3 : Vec Ideal S4x64 .f32 := V m c main_v7
/-- An entry of the array of window 3. -/
theorem r3_apply (r : Fin 4) (k : Fin 64) : r3 m c (ix2 r k) = a4 m c (ix2 ⟨r.val, by omega⟩ k) := V_v7 m c r k
/-- Every grid point loads the whole array of window 3. -/
theorem b3_eq (t : Fin 32) : (blkAt m c t).x3 = r3 m c := blk_3 m c t
/-- The array of window 4. -/
def r4 : Vec Ideal S1x64 .f32 := V m c main_v10
/-- An entry of the array of window 4. -/
theorem r4_apply (k : Fin 64) : r4 m c (ix2 0 k) = a4 m c (ix2 4 k) := V_v10 m c k
/-- Every grid point loads the whole array of window 4. -/
theorem b4_eq (t : Fin 32) : (blkAt m c t).x4 = r4 m c := blk_4 m c t
/-- The array of window 5. -/
def r5 : Vec Ideal S1x64 .f32 := V m c main_v11
/-- An entry of the array of window 5. -/
theorem r5_apply (k : Fin 64) : r5 m c (ix2 0 k) = a5 m c (ix1 k) := V_v11 m c k
/-- Every grid point loads the whole array of window 5. -/
theorem b5_eq (t : Fin 32) : (blkAt m c t).x5 = r5 m c := blk_5 m c t
/-- The array of window 6. -/
def r6 : Vec Ideal S6x2 .f32 := V m c main_cst
/-- An entry of the array of window 6. -/
theorem r6_apply (b : Fin 6) (s : Fin 2) : r6 m c (ix2 b s) = if b.val / 3 = s.val then (1 : EReal) else (0 : EReal) := V_cst m c b s
/-- Every grid point loads the whole array of window 6. -/
theorem b6_eq (t : Fin 32) : (blkAt m c t).x6 = r6 m c := blk_6 m c t
/-- The array of window 7. -/
def r7 : Vec Ideal S2x128 .f32 := V m c main_cst_0
/-- An entry of the array of window 7. -/
theorem r7_apply (s : Fin 2) (k : Fin 128) : r7 m c (ix2 s k) = if k.val / 64 = s.val then (1 : EReal) else (0 : EReal) := V_cst_0 m c s k
/-- Every grid point loads the whole array of window 7. -/
theorem b7_eq (t : Fin 32) : (blkAt m c t).x7 = r7 m c := blk_7 m c t
/-- The array of window 8. -/
def r8 : Vec Ideal S4x128x128 .f32 := V m c main_v18
/-- An entry of the array of window 8. -/
theorem r8_apply (l : Fin 4) (a b : Fin 128) : r8 m c (ix3 l a b) = bd (p := 64) (n := 64) rfl rfl (fun k k' => half * a8 m c (ix3 l ⟨k.val, by omega⟩ k')) a b := V_v18 m c l a b
/-- Every grid point loads the whole array of window 8. -/
theorem b8_eq (t : Fin 32) : (blkAt m c t).x8 = r8 m c := blk_8 m c t
/-- The array of window 9. -/
def r9 : Vec Ideal S4x128x128 .f32 := V m c main_v25
/-- An entry of the array of window 9. -/
theorem r9_apply (l : Fin 4) (a b : Fin 128) : r9 m c (ix3 l a b) = bd (p := 64) (n := 64) rfl rfl (fun k k' => half * a8 m c (ix3 l ⟨64 + k.val, by omega⟩ k')) a b := V_v25 m c l a b
/-- Every grid point loads the whole array of window 9. -/
theorem b9_eq (t : Fin 32) : (blkAt m c t).x9 = r9 m c := blk_9 m c t
/-- The array of window 10. -/
def r10 : Vec Ideal S4x2x128 .f32 := V m c main_v32
/-- An entry of the array of window 10. -/
theorem r10_apply (l : Fin 4) (a : Fin 2) (b : Fin 128) : r10 m c (ix3 l a b) = bd (p := 1) (n := 64) rfl rfl (fun k k' => half * a8 m c (ix3 l ⟨128 + k.val, by omega⟩ k')) a b := V_v32 m c l a b
/-- Every grid point loads the whole array of window 10. -/
theorem b10_eq (t : Fin 32) : (blkAt m c t).x10 = r10 m c := blk_10 m c t
/-- The array of window 11. -/
def r11 : Vec Ideal S4x2x128 .f32 := V m c main_v39
/-- An entry of the array of window 11. -/
theorem r11_apply (l : Fin 4) (a : Fin 2) (b : Fin 128) : r11 m c (ix3 l a b) = bd (p := 1) (n := 64) rfl rfl (fun k k' => half * a8 m c (ix3 l ⟨129 + k.val, by omega⟩ k')) a b := V_v39 m c l a b
/-- Every grid point loads the whole array of window 11. -/
theorem b11_eq (t : Fin 32) : (blkAt m c t).x11 = r11 m c := blk_11 m c t
/-- The array of window 12. -/
def r12 : Vec Ideal S4x1x128 .f32 := V m c main_v43
/-- An entry of the array of window 12. -/
theorem r12_apply (l : Fin 4) (b : Fin 128) : r12 m c (ix3 l 0 b) = half * a9 m c (ix2 l (if h : b.val < 64 then ⟨b.val, h⟩ else ⟨b.val - 64, by omega⟩)) := V_v43 m c l b
/-- Every grid point loads the whole array of window 12. -/
theorem b12_eq (t : Fin 32) : (blkAt m c t).x12 = r12 m c := blk_12 m c t
/-- The array of window 13. -/
def r13 : Vec Ideal S4x128x128 .f32 := V m c main_v49
/-- An entry of the array of window 13. -/
theorem r13_apply (l : Fin 4) (a b : Fin 128) : r13 m c (ix3 l a b) = bd (p := 64) (n := 64) rfl rfl (fun k k' => half * a10 m c (ix3 l k k')) a b := V_v49 m c l a b
/-- Every grid point loads the whole array of window 13. -/
theorem b13_eq (t : Fin 32) : (blkAt m c t).x13 = r13 m c := blk_13 m c t
/-- The array of window 14. -/
def r14 : Vec Ideal S4x1x128 .f32 := V m c main_v53
/-- An entry of the array of window 14. -/
theorem r14_apply (l : Fin 4) (b : Fin 128) : r14 m c (ix3 l 0 b) = half * a11 m c (ix2 l (if h : b.val < 64 then ⟨b.val, h⟩ else ⟨b.val - 64, by omega⟩)) := V_v53 m c l b
/-- Every grid point loads the whole array of window 14. -/
theorem b14_eq (t : Fin 32) : (blkAt m c t).x14 = r14 m c := blk_14 m c t
/-- The array of window 15. -/
def r15 : Vec Ideal S4x128x128 .f32 := V m c main_v59
/-- An entry of the array of window 15. -/
theorem r15_apply (l : Fin 4) (a b : Fin 128) : r15 m c (ix3 l a b) = bd (p := 64) (n := 64) rfl rfl (fun k k' => half * a16 m c (ix3 l k k')) a b := V_v59 m c l a b
/-- Every grid point loads the whole array of window 15. -/
theorem b15_eq (t : Fin 32) : (blkAt m c t).x15 = r15 m c := blk_15 m c t
/-- The array of window 16. -/
def r16 : Vec Ideal S4x1x128 .f32 := V m c main_v63
/-- An entry of the array of window 16. -/
theorem r16_apply (l : Fin 4) (b : Fin 128) : r16 m c (ix3 l 0 b) = half * a17 m c (ix2 l (if h : b.val < 64 then ⟨b.val, h⟩ else ⟨b.val - 64, by omega⟩)) := V_v63 m c l b
/-- Every grid point loads the whole array of window 16. -/
theorem b16_eq (t : Fin 32) : (blkAt m c t).x16 = r16 m c := blk_16 m c t
/-- The array of window 17. -/
def r17 : Vec Ideal S4x128x6 .f32 := V m c main_v70
/-- An entry of the array of window 17. -/
theorem r17_apply (l : Fin 4) (a : Fin 128) (b : Fin 6) : r17 m c (ix3 l a b) = bd (p := 64) (n := 3) rfl rfl (fun k _ => a18 m c (ix3 l k 0)) a b := V_v70 m c l a b
/-- Every grid point loads the whole array of window 17. -/
theorem b17_eq (t : Fin 32) : (blkAt m c t).x17 = r17 m c := blk_17 m c t
/-- The array of window 18. -/
def r18 : Vec Ideal S4x128x128 .f32 := V m c main_v77
/-- An entry of the array of window 18. -/
theorem r18_apply (l : Fin 4) (a b : Fin 128) : r18 m c (ix3 l a b) = bd (p := 64) (n := 64) rfl rfl (fun k k' => half * a12 m c (ix3 l ⟨k.val, by omega⟩ k')) a b := V_v77 m c l a b
/-- Every grid point loads the whole array of window 18. -/
theorem b18_eq (t : Fin 32) : (blkAt m c t).x18 = r18 m c := blk_18 m c t
/-- The array of window 19. -/
def r19 : Vec Ideal S4x128x128 .f32 := V m c main_v84
/-- An entry of the array of window 19. -/
theorem r19_apply (l : Fin 4) (a b : Fin 128) : r19 m c (ix3 l a b) = bd (p := 64) (n := 64) rfl rfl (fun k k' => half * a12 m c (ix3 l ⟨64 + k.val, by omega⟩ k')) a b := V_v84 m c l a b
/-- Every grid point loads the whole array of window 19. -/
theorem b19_eq (t : Fin 32) : (blkAt m c t).x19 = r19 m c := blk_19 m c t
/-- The array of window 20. -/
def r20 : Vec Ideal S4x1x128 .f32 := V m c main_v88
/-- An entry of the array of window 20. -/
theorem r20_apply (l : Fin 4) (b : Fin 128) : r20 m c (ix3 l 0 b) = half * a13 m c (ix2 l (if h : b.val < 64 then ⟨b.val, h⟩ else ⟨b.val - 64, by omega⟩)) := V_v88 m c l b
/-- Every grid point loads the whole array of window 20. -/
theorem b20_eq (t : Fin 32) : (blkAt m c t).x20 = r20 m c := blk_20 m c t
/-- The array of window 21. -/
def r21 : Vec Ideal S4x128x128 .f32 := V m c main_v92
/-- An entry of the array of window 21. -/
theorem r21_apply (l : Fin 4) (a b : Fin 128) : r21 m c (ix3 l a b) = bd (p := 64) (n := 64) rfl rfl (fun k k' => a14 m c (ix3 l k k')) a b := V_v92 m c l a b
/-- Every grid point loads the whole array of window 21. -/
theorem b21_eq (t : Fin 32) : (blkAt m c t).x21 = r21 m c := blk_21 m c t
/-- The array of window 22. -/
def r22 : Vec Ideal S4x1x128 .f32 := V m c main_v94
/-- An entry of the array of window 22. -/
theorem r22_apply (l : Fin 4) (b : Fin 128) : r22 m c (ix3 l 0 b) = a15 m c (ix2 l (if h : b.val < 64 then ⟨b.val, h⟩ else ⟨b.val - 64, by omega⟩)) := V_v94 m c l b
/-- Every grid point loads the whole array of window 22. -/
theorem b22_eq (t : Fin 32) : (blkAt m c t).x22 = r22 m c := blk_22 m c t
/-- A grid point loads its own sixteen rows of the array of window 0. -/
theorem b0_apply (t : Fin 32) (q : Fin 16) (s : Fin 2) : (blkAt m c t).x0 (ix2 q s) = r0 m c (ix2 (pairOf t q) s) := blk_0 m c t q s
/-- A grid point loads its own sixteen rows of the array of window 1. -/
theorem b1_apply (t : Fin 32) (q : Fin 16) (i : Fin 24) (b : Fin 6) : (blkAt m c t).x1 (ix3 q i b) = r1 m c (ix3 (pairOf t q) i b) := blk_1 m c t q i b

end Cert.Proof
-- ==== Proof.KNet.lean ====
/-
  The kernel's result over the reals: each sample's velocities by the network.
-/
module
public import proofs.«01_k».proof.Proof.KArr
public import proofs.«01_k».proof.Proof.KReg
@[expose] public section
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ) (c : Dev nD)

/-- The float arguments of the kernel. -/
def arrsK : Arrs where
  a0 := a0 m c
  a1 := a1 m c
  a2 := a2 m c
  a4 := a4 m c
  a5 := a5 m c
  a8 := a8 m c
  a9 := a9 m c
  a10 := a10 m c
  a11 := a11 m c
  a12 := a12 m c
  a13 := a13 m c
  a14 := a14 m c
  a15 := a15 m c
  a16 := a16 m c
  a17 := a17 m c
  a18 := a18 m c

/-- The halving constant is one half. -/
theorem half_eq : half = ((1 / 2 : ℝ) : EReal) := by
  unfold half
  simp [Ideal.ofBits, Ideal.ieee, -EReal.coe_mul]
  norm_num

/-- Half a real number. -/
theorem half_mul {x : EReal} {r : ℝ} (h : x = r) : half * x = ((1 / 2 * r : ℝ) : EReal) := by
  rw [half_eq, h, ← EReal.coe_mul]

/-- A doubled matrix read at a sample's row and a sample's column. -/
theorem bd_at {p n P N : ℕ} (hP : P = p + p) (hN : N = n + n) (w : Fin p → Fin n → EReal) (s s' : Fin 2) (k : Fin p) (k' : Fin n)
    (a : Fin P) (b : Fin N) (ha : a.val = p * s.val + k.val) (hb : b.val = n * s'.val + k'.val) {r : ℝ} (h : w k k' = r) :
    bd hP hN w a b = ((if s = s' then r else 0 : ℝ) : EReal) := by
  unfold bd
  have hk := k.isLt
  have hk' := k'.isLt
  match s, s' with
  | 0, 0 =>
    simp only [Fin.val_zero, Nat.mul_zero, Nat.zero_add] at ha hb
    rw [dif_pos (by omega), dif_pos (by omega), if_pos rfl, ← h]
    exact congrArg₂ w (Fin.ext ha) (Fin.ext hb)
  | 0, 1 =>
    simp only [Fin.val_zero, Fin.val_one, Nat.mul_zero, Nat.mul_one, Nat.zero_add] at ha hb
    rw [dif_pos (by omega), dif_neg (by omega), if_neg (by decide)]
    rfl
  | 1, 0 =>
    simp only [Fin.val_zero, Fin.val_one, Nat.mul_zero, Nat.mul_one, Nat.zero_add] at ha hb
    rw [dif_neg (by omega), dif_pos (by omega), if_neg (by decide)]
    rfl
  | 1, 1 =>
    simp only [Fin.val_one, Nat.mul_one] at ha hb
    rw [dif_neg (by omega), dif_neg (by omega), if_pos rfl, ← h]
    exact congrArg₂ w (Fin.ext (show a.val - p = k.val by omega)) (Fin.ext (show b.val - n = k'.val by omega))

/-- The lane of a sample in a doubled row. -/
theorem dup_lane (s : Fin 2) (k : Fin 64) (h₂ : ¬ (lane s k).val < 64 → (lane s k).val - 64 < 64) :
    (if h : (lane s k).val < 64 then (⟨(lane s k).val, h⟩ : Fin 64) else ⟨(lane s k).val - 64, h₂ h⟩) = k := by
  match s with
  | 0 =>
    have e : (lane 0 k).val = k.val := by simp [lane]
    rw [dif_pos (by omega)]
    exact Fin.ext e
  | 1 =>
    have e : (lane 1 k).val = 64 + k.val := by simp [lane]
    rw [dif_neg (by omega)]
    exact Fin.ext (show (lane 1 k).val - 64 = k.val by omega)

variable {m c} {A : Args}

/-- The edge weights of a layer, in the arrays of the region. -/
theorem edge_at (hA : Of A (arrsK m c)) (t : Fin 32) (l : Fin 4) : (blkAt m c t).Edge4 l (A.W l) where
  wr s k s' k' := by
    refine (congrFun (b8_eq m c t) _).trans ((r8_apply m c l _ _).trans (bd_at _ _ _ s s' k k' _ _ ?_ ?_ (half_mul (hA.e1 _ _ _)))) <;> rfl
  wc s k s' k' := by
    refine (congrFun (b9_eq m c t) _).trans ((r9_apply m c l _ _).trans (bd_at _ _ _ s s' k k' _ _ ?_ ?_ (half_mul (hA.e1 _ _ _)))) <;> rfl
  Wr s s' k := by
    refine (congrFun (b10_eq m c t) _).trans ((r10_apply m c l _ _).trans (bd_at _ _ _ s s' 0 k _ _ ?_ ?_ (half_mul (hA.e1 _ _ _))))
    · simp
    · rfl
  We s s' k := by
    refine (congrFun (b11_eq m c t) _).trans ((r11_apply m c l _ _).trans (bd_at _ _ _ s s' 0 k _ _ ?_ ?_ (half_mul (hA.e1 _ _ _))))
    · simp
    · rfl
  b1 s k := (congrFun (b12_eq m c t) _).trans ((r12_apply m c l _).trans (half_mul ((hA.b1 _ _).trans (congrArg (fun n => ((A.b1 l n : ℝ) : EReal)) (dup_lane s k _)))))
  e2 s k s' k' := by
    refine (congrFun (b13_eq m c t) _).trans ((r13_apply m c l _ _).trans (bd_at _ _ _ s s' k k' _ _ ?_ ?_ (half_mul (hA.e2 _ _ _)))) <;> rfl
  b2 s k := (congrFun (b14_eq m c t) _).trans ((r14_apply m c l _).trans (half_mul ((hA.b2 _ _).trans (congrArg (fun n => ((A.b2 l n : ℝ) : EReal)) (dup_lane s k _)))))
  c1 s k s' k' := by
    refine (congrFun (b15_eq m c t) _).trans ((r15_apply m c l _ _).trans (bd_at _ _ _ s s' k k' _ _ ?_ ?_ (half_mul (hA.c1 _ _ _)))) <;> rfl
  cb s k := (congrFun (b16_eq m c t) _).trans ((r16_apply m c l _).trans (half_mul ((hA.cb1 _ _).trans (congrArg (fun n => ((A.cb1 l n : ℝ) : EReal)) (dup_lane s k _)))))
  c6 s k s' d := by
    refine (congrFun (b17_eq m c t) _).trans ((r17_apply m c l _ _).trans (bd_at _ _ _ s s' k d _ _ ?_ ?_ (hA.c2 _ _))) <;> rfl

/-- The node weights of a layer before the last, in the arrays of the region. -/
theorem node_at (hA : Of A (arrsK m c)) (t : Fin 32) (l : Fin 4) (hl : l.val < 3) : (blkAt m c t).Node4 l (A.W l) where
  nH s k s' k' := by
    refine (congrFun (b18_eq m c t) _).trans ((r18_apply m c l _ _).trans (bd_at _ _ _ s s' k k' _ _ ?_ ?_ (half_mul (hA.n1 _ _ _ hl)))) <;> rfl
  nA s k s' k' := by
    refine (congrFun (b19_eq m c t) _).trans ((r19_apply m c l _ _).trans (bd_at _ _ _ s s' k k' _ _ ?_ ?_ (half_mul (hA.n1 _ _ _ hl)))) <;> rfl
  nb s k := (congrFun (b20_eq m c t) _).trans ((r20_apply m c l _).trans (half_mul ((hA.nb1 _ _ hl).trans (congrArg (fun n => ((A.nb1 l n : ℝ) : EReal)) (dup_lane s k _)))))
  n2 s k s' k' := by
    refine (congrFun (b21_eq m c t) _).trans ((r21_apply m c l _ _).trans (bd_at _ _ _ s s' k k' _ _ ?_ ?_ ((hA.n2 _ _ _ hl).trans ?_)))
    · rfl
    · rfl
    · rw [one_mul]; rfl
  n3 s k := (congrFun (b22_eq m c t) _).trans ((r22_apply m c l _).trans ((hA.nb2 _ _ hl).trans ((congrArg (fun n => ((A.nb2 l n : ℝ) : EReal)) (dup_lane s k _)).trans (by rw [one_mul]; rfl))))

/-- The sample that is number `s` in pair `q` of point `t`. -/
def smp (t : Fin 32) (q : Fin 16) (s : Fin 2) : Fin 1024 := ⟨(t.val * 16 + q.val) * 2 + s.val, by omega⟩

/-- What the blocks of a point stand for. -/
theorem stands (hA : Of A (arrsK m c)) (t : Fin 32) :
    (blkAt m c t).Stands A.W (fun q s i d => if h : i.val < 22 then A.x (smp t q s) ⟨i.val, h⟩ d else 0) (fun q s => A.t (smp t q s))
      (fun i r => if h : i.val < 22 then A.hi ⟨i.val, h⟩ r else 0) (fun r => A.em ⟨r.val, by omega⟩) (A.em 4) A.eb where
  x0 q s := (b0_apply m c t q s).trans ((r0_apply m c _ _).trans (hA.t _))
  x1 q s i d := by
    refine (b1_apply m c t q i _).trans ((r1_apply m c _ _ _).trans ((xpad_apply m c _ _ _).trans ?_))
    beta_reduce
    by_cases h : i.val < 22
    · rw [dif_pos h, dif_pos h]
      refine (hA.xs _ _).trans ?_
      have e1 : (crd s d).val / 3 = s.val := by simp only [crd]; omega
      have e2 : (crd s d).val % 3 = d.val := by simp only [crd]; omega
      have e3 : (⟨(pairOf t q).val * 2 + (crd s d).val / 3, by simp only [pairOf]; omega⟩ : Fin 1024) = smp t q s :=
        Fin.ext (by simp only [pairOf, smp, e1])
      unfold Args.x
      rw [e3]
      exact congrArg (fun n => ((A.xs (smp t q s) n : ℝ) : EReal)) (Fin.ext (by simp only [e2]))
    · rw [dif_neg h, dif_neg h]
      rfl
  x2 i r := by
    refine (congrFun (b2_eq m c t) _).trans ((r2_apply m c _ _).trans ?_)
    by_cases h : i.val < 22
    · rw [dif_pos h, dif_pos h]
      exact hA.hi _ _
    · rw [dif_neg h, dif_neg h]
      rfl
  x3 r k := (congrFun (b3_eq m c t) _).trans ((r3_apply m c _ _).trans (hA.em _ _))
  x4 k := (congrFun (b4_eq m c t) _).trans ((r4_apply m c _).trans (hA.em _ _))
  x5 k := (congrFun (b5_eq m c t) _).trans ((r5_apply m c _).trans (hA.eb _))
  x6 s d s' := by
    refine (congrFun (b6_eq m c t) _).trans ((r6_apply m c _ _).trans ?_)
    have e1 : (crd s d).val / 3 = s.val := by simp only [crd]; omega
    rw [e1]
    by_cases h : s = s'
    · rw [if_pos h, if_pos (congrArg Fin.val h)]; rfl
    · rw [if_neg h, if_neg fun e => h (Fin.ext e)]; rfl
  x7 s s' k := by
    refine (congrFun (b7_eq m c t) _).trans ((r7_apply m c _ _).trans ?_)
    have e1 : (lane s' k).val / 64 = s'.val := by simp only [lane]; omega
    rw [e1]
    by_cases h : s = s'
    · rw [if_pos h, if_pos (congrArg Fin.val h.symm)]; rfl
    · rw [if_neg h, if_neg fun e => h (Fin.ext e.symm)]; rfl
  edge l := edge_at hA t l
  node l hl := node_at hA t l hl

/-- The array that the region leaves, at a sample's particle. -/
theorem arrK_vel (hA : Of A (arrsK m c)) (t : Fin 32) (q : Fin 16) (s : Fin 2) (i : Fin 22) (d : Fin 3) :
    arrK m c (ix3 (pairOf t q) (up i) (crd s d)) = (A.vel (smp t q s) i d : ℝ) := by
  rw [arr_apply, Blk.out_net (stands hA t) (fun q s => A.x (smp t q s))]
  · have e : (fun (i : Fin 22) r => (if h : (up i).val < 22 then A.hi ⟨(up i).val, h⟩ r else 0)) = A.hi := by
      funext i r
      rw [dif_pos (show (up i).val < 22 from i.isLt)]
    beta_reduce
    rw [e]
    rfl
  · intro q s
    constructor
    · intro i d h
      exact dif_neg h
    · intro i d
      exact dif_pos (show (up i).val < 22 from i.isLt)

/-- The kernel's result. -/
def resK (m : (ℓ : Loc nD τ sig) → Buf (Elt Ideal) ℓ) (c : Dev nD) : Vec Ideal S1024x66 .f32 :=
  Pipeline.afterTail₀ cfgs (dats m) 0 (V0 m) [hostOps1] c main_v100

/-- An entry of the kernel's result: the host code reads it from the region's array. -/
theorem resK_apply (m : (ℓ : Loc nD τ sig) → Buf (Elt Ideal) ℓ) (c : Dev nD) (b : Fin 1024) (n : Fin 66) :
    resK m c (ix2 b n) = arrK m c (ix3 ⟨b.val / 2, by omega⟩ ⟨n.val / 3, by omega⟩ ⟨b.val % 2 * 3 + n.val % 3, by omega⟩) :=
  tail_apply m c b n

/-- The kernel's result: the velocities of each sample. -/
theorem kernel_vel (hA : Of A (arrsK m c)) (b : Fin 1024) (n : Fin 66) :
    resK m c (ix2 b n)
      = (A.vel b ⟨n.val / 3, by omega⟩ ⟨n.val % 3, by omega⟩ : ℝ) := by
  rw [resK_apply]
  have h := arrK_vel hA ⟨b.val / 32, by omega⟩ ⟨b.val / 2 % 16, by omega⟩ ⟨b.val % 2, by omega⟩ ⟨n.val / 3, by omega⟩ ⟨n.val % 3, by omega⟩
  have e1 : smp ⟨b.val / 32, by omega⟩ ⟨b.val / 2 % 16, by omega⟩ ⟨b.val % 2, by omega⟩ = b := Fin.ext (by simp only [smp]; omega)
  rw [e1] at h
  rw [← h]
  congr 1
  have e2 : pairOf ⟨b.val / 32, by omega⟩ ⟨b.val / 2 % 16, by omega⟩ = ⟨b.val / 2, by omega⟩ := Fin.ext (by simp only [pairOf]; omega)
  have e3 : crd ⟨b.val % 2, by omega⟩ ⟨n.val % 3, by omega⟩ = ⟨b.val % 2 * 3 + n.val % 3, by omega⟩ := Fin.ext (by simp only [crd]; omega)
  rw [e2, e3]

end Cert.Proof
-- ==== Proof.RRead.lean ====
/- The operations of the reference read at an index: the accumulating scatter of rows, the products, the activation. -/
module

public import proofs.«01_k».proof.Proof.Args
public import proofs.«01_k».proof.Proof.Gen.ReferenceIdeal.Read
public import Idealize.ShloMosaic.Lib.Routing.Ops
public import Idealize.ShloMosaic.Lib.StackMember
public import Idealize.ShloMosaic.Lib.Pointwise

@[expose] public section

noncomputable section

namespace Cert.Proof

open Idealize.ShloMosaic Idealize.ShloMosaic.TcCoe Idealize.SL.Sem
open scoped BigOperators

/-- Where an update row of a scatter of rows lands: in the row its index names, at its own column. -/
theorem scatter_row_lands {N C n : ℕ} (d : ScatterDims ⟨2, ![N, C]⟩ ⟨2, ![n, 1]⟩ ⟨2, ![n, C]⟩) (huw : d.updateWindowDims = [1])
    (hiw : d.insertedWindowDims = [0]) (hsd : d.scatterDimsToOperandDims = [0]) (hivd : d.indexVectorDim = 1)
    (idx : IVec ⟨2, ![n, 1]⟩ 32) (e : Fin n) (y : Fin C) (a : Fin N) (ha : (idx (ix2 e (0 : Fin 1))).toInt = (a.val : ℤ)) :
    d.resultIdx? (ix2 e y) idx = some (ix2 a y) := by
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hk1 : ∀ k ∈ d.updateWindowDims, k = (1 : Fin 2) := fun k hk => by rw [huw] at hk; exact List.mem_singleton.1 hk
  have e0 : ∀ X : Fin 2, X = 0 → (ix2 e y X).val = e.val := fun X h => by subst h; rfl
  have e1 : ∀ X : Fin 2, X = 1 → (ix2 e y X).val = y.val := fun X h => by subst h; rfl
  have hm0 : (0 : Fin 2) ∈ d.scatterDimsToOperandDims := by rw [hsd]; exact List.mem_singleton.2 rfl
  have h10 : ∀ l : List (Fin 2), l = [0] → (1 : Fin 2) ∉ l := fun l hl h => by
    rw [hl] at h
    exact absurd (congrArg Fin.val (List.mem_singleton.1 h)) (by decide)
  have hm1 : (1 : Fin 2) ∉ d.scatterDimsToOperandDims := h10 _ hsd
  have hs1' : (1 : Fin 2) ∈ d.sKept := List.mem_filter.2 ⟨List.mem_finRange _, decide_eq_true (h10 _ hiw)⟩
  have hw0 : d.window (ix2 e y) 0 = 0 := by
    unfold ScatterDims.window
    rw [dif_neg fun h => (of_decide_eq_true (List.mem_filter.1 h).2) (by rw [hiw]; exact List.mem_singleton.2 rfl)]
  have hw1 : d.window (ix2 e y) 1 = y.val := by
    unfold ScatterDims.window
    rw [dif_pos hs1']
    exact e1 _ (hk1 _ (List.getElem_mem _))
  have hs1 : d.start (ix2 e y) idx 1 = 0 := by
    unfold ScatterDims.start
    rw [dif_neg hm1]
  have hs0 : d.start (ix2 e y) idx 0 = (a.val : ℤ) := by
    unfold ScatterDims.start
    rw [dif_pos hm0, ← ha]
    have hsi : d.siIdx (ix2 e y) ⟨d.scatterDimsToOperandDims.idxOf 0, List.idxOf_lt_length_iff.2 hm0⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hk0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  have ha' := a.isLt
  have hy' := y.isLt
  unfold ScatterDims.resultIdx?
  rw [dif_pos fun x => by
    match x with
    | ⟨0, _⟩ =>
      show 0 ≤ d.start (ix2 e y) idx 0 + (d.window (ix2 e y) 0 : ℤ) ∧ d.start (ix2 e y) idx 0 + (d.window (ix2 e y) 0 : ℤ) < (N : ℤ)
      rw [hs0, hw0]; omega
    | ⟨1, _⟩ =>
      show 0 ≤ d.start (ix2 e y) idx 1 + (d.window (ix2 e y) 1 : ℤ) ∧ d.start (ix2 e y) idx 1 + (d.window (ix2 e y) 1 : ℤ) < (C : ℤ)
      rw [hs1, hw1]; omega]
  refine congrArg some (funext fun x => Fin.ext ?_)
  match x with
  | ⟨0, _⟩ =>
    show (d.start (ix2 e y) idx 0 + (d.window (ix2 e y) 0 : ℤ)).toNat = a.val
    rw [hs0, hw0]; omega
  | ⟨1, _⟩ =>
    show (d.start (ix2 e y) idx 1 + (d.window (ix2 e y) 1 : ℤ)).toNat = y.val
    rw [hs1, hw1]; omega

/-- An accumulating scatter of rows read at an index: what was there, plus that column of every update whose index names the
    row. -/
theorem scatter_rows {N C n : ℕ} (d : ScatterDims ⟨2, ![N, C]⟩ ⟨2, ![n, 1]⟩ ⟨2, ![n, C]⟩) (huw : d.updateWindowDims = [1])
    (hiw : d.insertedWindowDims = [0]) (hsd : d.scatterDimsToOperandDims = [0]) (hivd : d.indexVectorDim = 1)
    (x : FVec Ideal ⟨2, ![N, C]⟩ .f32) (idx : IVec ⟨2, ![n, 1]⟩ 32) (upd : FVec Ideal ⟨2, ![n, C]⟩ .f32) (g : Fin n → Fin N)
    (hg : ∀ e, (idx (ix2 e (0 : Fin 1))).toInt = ((g e).val : ℤ)) (a : Fin N) (y : Fin C) :
    Host.scatterAdd d x idx upd (ix2 a y) = x (ix2 a y) + ∑ e : Fin n, if g e = a then upd (ix2 e y) else 0 := by
  unfold Host.scatterAdd
  rw [Ideal.hostScatterAdd_def]
  unfold Ideal.hostScatterAdd
  congr 1
  rw [Finset.sum_filter, sum_idx2]
  refine Finset.sum_congr rfl fun e _ => ?_
  have hl := fun z => scatter_row_lands d huw hiw hsd hivd idx e z (g e) (hg e)
  rw [Finset.sum_eq_single y]
  · rw [hl]
    by_cases h : g e = a
    · rw [if_pos h, if_pos (by rw [h])]
    · rw [if_neg h, if_neg fun h' => h (congrFun (Option.some.inj h') 0)]
  · intro z _ hz
    rw [hl, if_neg fun h' => hz (congrFun (Option.some.inj h') 1)]
  · intro h; exact absurd (Finset.mem_univ _) h

/-- The activation as the reference computes it, on a real. -/
theorem silu_op {s : Shape} (o p Z : FVec Ideal s .f32) (i : s.Idx) (ho : o i = 1) (hp : p i = 1) {r : ℝ} (h : Z i = r) :
    mulf Z (Host.divf p (addf o (Host.exp (Host.negf Z)))) i = (silu r : ℝ) := by
  show Z i * Ideal.div (p i) (o i + Ideal.exp (-(Z i))) = _
  rw [ho, hp, h, ← EReal.coe_neg, Ideal.exp_coe, ← EReal.coe_one, ← EReal.coe_add,
    Ideal.div_coe (by positivity), ← EReal.coe_mul, ← EReal.coe_mul]
  unfold silu
  rw [one_mul, one_div]

/-- A sum of reals is real. -/
theorem sum_real {n : ℕ} (f : Fin n → EReal) (g : Fin n → ℝ) (h : ∀ i, f i = g i) : ∑ i, f i = ((∑ i, g i : ℝ) : EReal) := by
  rw [Finset.sum_congr rfl fun i _ => h i]
  exact (map_sum (⟨⟨((↑) : ℝ → EReal), EReal.coe_zero⟩, EReal.coe_add⟩ : ℝ →+ EReal) g _).symm

/-- A product of real matrices is real. -/
theorem dot_real {n : ℕ} (f g : Fin n → EReal) (f' g' : Fin n → ℝ) (hf : ∀ i, f i = f' i) (hg : ∀ i, g i = g' i) :
    ∑ i, f i * g i = ((∑ i, f' i * g' i : ℝ) : EReal) :=
  sum_real _ _ fun i => by rw [hf, hg, EReal.coe_mul]

end Cert.Proof
-- ==== Proof.RLayer.lean ====
/- One layer of the reference on its tensors, in the operations the reference uses: the differences along the edges, the
   messages, and the sums over the edges that end in a row. -/
module

public import proofs.«01_k».proof.Proof.RRead

@[expose] public section

noncomputable section

namespace Cert.Proof

open Idealize.ShloMosaic Idealize.ShloMosaic.TcCoe Idealize.SL.Sem Cert.ReferenceIdeal Cert.ReferenceIdeal.Gen
open scoped BigOperators

/-- An edge list as a column of row numbers, as a gather takes it: a negative number counts from the end. -/
def wrap (v : IVec S473088 32) : IVec S473088x1 32 :=
  broadcastInDim S473088x1 ![0] bcast_S473088_S473088x1_0
    (select (cmpi .slt v (broadcastInDim S473088 ![] bcast_S_S473088 (constantI S_ 32 0#32)))
      (addi v (broadcastInDim S473088 ![] bcast_S_S473088 (constantI S_ 32 22528#32))) v)

/-- An edge list as a column. -/
def col (v : IVec S473088 32) : IVec S473088x1 32 := broadcastInDim S473088x1 ![0] bcast_S473088_S473088x1_0 v

/-- The difference of the coordinates at the two ends of each edge. -/
def dif (X : FVec Ideal S22528x3 .f32) (v u : IVec S473088 32) : FVec Ideal S473088x3 .f32 :=
  subf (Host.gather gather_S22528x3_S473088x1_S473088x3_1_0_n_n_0_1_13 X (wrap v))
    (Host.gather gather_S22528x3_S473088x1_S473088x3_1_0_n_n_0_1_13 X (wrap u))

/-- The squared length of each edge. -/
def rad (D : FVec Ideal S473088x3 .f32) : FVec Ideal S473088x1 .f32 :=
  broadcastInDim S473088x1 ![0] bcast_S473088_S473088x1_0
    (Host.reduceAdd (mulf D D) (constant S_ .f32 0x00000000#32) reducesTo_S473088x3_S473088_d1 h_S_)

/-- A bias over the edges. -/
def biasE (b : FVec Ideal S64 .f32) : FVec Ideal S473088x64 .f32 :=
  broadcastInDim S473088x64 ![0, 1] bcast_S1x64_S473088x64_0_1 (broadcastInDim S1x64 ![1] bcast_S64_S1x64_1 b)

/-- A bias over the particles. -/
def biasN (b : FVec Ideal S64 .f32) : FVec Ideal S22528x64 .f32 :=
  broadcastInDim S22528x64 ![0, 1] bcast_S1x64_S22528x64_0_1 (broadcastInDim S1x64 ![1] bcast_S64_S1x64_1 b)

/-- One over the edges. -/
def oneE : FVec Ideal S473088x64 .f32 := broadcastInDim S473088x64 ![] bcast_S_S473088x64 (constant S_ .f32 0x3F800000#32)

/-- One over the particles. -/
def oneN : FVec Ideal S22528x64 .f32 := broadcastInDim S22528x64 ![] bcast_S_S22528x64 (constant S_ .f32 0x3F800000#32)

/-- The activation over the edges. -/
def actE (Z : FVec Ideal S473088x64 .f32) : FVec Ideal S473088x64 .f32 :=
  mulf Z (Host.divf oneE (addf oneE (Host.exp (Host.negf Z))))

/-- The activation over the particles. -/
def actN (Z : FVec Ideal S22528x64 .f32) : FVec Ideal S22528x64 .f32 :=
  mulf Z (Host.divf oneN (addf oneN (Host.exp (Host.negf Z))))

/-- What an edge's first layer reads: the features at its two ends, its squared length now and at the start. -/
def edgeIn (H : FVec Ideal S22528x64 .f32) (v u : IVec S473088 32) (R E : FVec Ideal S473088x1 .f32) : FVec Ideal S473088x130 .f32 :=
  concatenate S473088x130 1
    [⟨S473088x64, Host.gather gather_S22528x64_S473088x1_S473088x64_1_0_n_n_0_1_164 H (wrap v)⟩,
     ⟨S473088x64, Host.gather gather_S22528x64_S473088x1_S473088x64_1_0_n_n_0_1_164 H (wrap u)⟩,
     ⟨S473088x1, R⟩, ⟨S473088x1, E⟩]
    concatenates_S473088x64_S473088x64_S473088x1_S473088x1_S473088x130_d1

/-- The first layer of the edges before its activation. -/
def lin1 (I : FVec Ideal S473088x130 .f32) (w : FVec Ideal S130x64 .f32) (b : FVec Ideal S64 .f32) : FVec Ideal S473088x64 .f32 :=
  addf (Host.dotGeneral dot_S473088x130_S130x64_S473088x64_1_0_0_1_n_n none I w) (biasE b)

/-- A further layer of the edges before its activation. -/
def linE (I : FVec Ideal S473088x64 .f32) (w : FVec Ideal S64x64 .f32) (b : FVec Ideal S64 .f32) : FVec Ideal S473088x64 .f32 :=
  addf (Host.dotGeneral dot_S473088x64_S64x64_S473088x64_1_0_0_1_n_n none I w) (biasE b)

/-- The messages. -/
def mess (I : FVec Ideal S473088x130 .f32) (w1 : FVec Ideal S130x64 .f32) (b1 : FVec Ideal S64 .f32) (w2 : FVec Ideal S64x64 .f32)
    (b2 : FVec Ideal S64 .f32) : FVec Ideal S473088x64 .f32 :=
  actE (linE (actE (lin1 I w1 b1)) w2 b2)

/-- The weight each message gives its edge's difference. -/
def coefs (M : FVec Ideal S473088x64 .f32) (c1 : FVec Ideal S64x64 .f32) (cb1 : FVec Ideal S64 .f32) (c2 : FVec Ideal S64x1 .f32) :
    FVec Ideal S473088x1 .f32 :=
  Host.dotGeneral dot_S473088x64_S64x1_S473088x1_1_0_0_1_n_n none (actE (linE M c1 cb1)) c2

/-- The new coordinates. -/
def newX (X : FVec Ideal S22528x3 .f32) (D : FVec Ideal S473088x3 .f32) (C : FVec Ideal S473088x1 .f32) (v : IVec S473088 32) :
    FVec Ideal S22528x3 .f32 :=
  addf X (Host.scatterAdd scatter_S22528x3_S473088x1_S473088x3_1_0_0_1
    (broadcastInDim S22528x3 ![] bcast_S_S22528x3 (constant S_ .f32 0x00000000#32)) (col v)
    (mulf D (broadcastInDim S473088x3 ![0, 1] bcast_S473088x1_S473088x3_0_1 C)))

/-- What a particle's first layer reads: its features and the sum of the messages into it. -/
def nodeIn (H : FVec Ideal S22528x64 .f32) (M : FVec Ideal S473088x64 .f32) (v : IVec S473088 32) : FVec Ideal S22528x128 .f32 :=
  concatenate S22528x128 1
    [⟨S22528x64, H⟩,
     ⟨S22528x64, Host.scatterAdd scatter_S22528x64_S473088x1_S473088x64_1_0_0_1
        (broadcastInDim S22528x64 ![] bcast_S_S22528x64 (constant S_ .f32 0x00000000#32)) (col v) M⟩]
    concatenates_S22528x64_S22528x64_S22528x128_d1

/-- The new features. -/
def newH (H : FVec Ideal S22528x64 .f32) (N : FVec Ideal S22528x128 .f32) (w1 : FVec Ideal S128x64 .f32) (b1 : FVec Ideal S64 .f32)
    (w2 : FVec Ideal S64x64 .f32) (b2 : FVec Ideal S64 .f32) : FVec Ideal S22528x64 .f32 :=
  addf H (addf (Host.dotGeneral dot_S22528x64_S64x64_S22528x64_1_0_0_1_n_n none
    (actN (addf (Host.dotGeneral dot_S22528x128_S128x64_S22528x64_1_0_0_1_n_n none N w1) (biasN b1))) w2) (biasN b2))

/-! ## Read over the reals -/

/-- An edge list holds the row numbers `r`. -/
def Ends (v : IVec S473088 32) (r : Fin 473088 → Fin 22528) : Prop := ∀ e, v (ix1 e) = BitVec.ofNat 32 (r e).val

/-- An index that is not negative is read as it is. -/
theorem wrap_apply {v : IVec S473088 32} {r : Fin 473088 → Fin 22528} (h : Ends v r) (e : Fin 473088) :
    wrap v (ix2 e (0 : Fin 1)) = BitVec.ofNat 32 (r e).val := by
  have hr := (r e).isLt
  have e1 : wrap v (ix2 e (0 : Fin 1)) = Scalar.select (IntOp.cmpi .slt (v (ix1 e)) 0#32) (IntOp.addi (v (ix1 e)) 22528#32) (v (ix1 e)) := by
    pointwise [wrap]
  have hz : ¬ (v (ix1 e)).toInt < (0#32 : BitVec 32).toInt := by
    rw [h, StableHlo.Predicate.toInt_ofNat_small _ (by omega)]
    show ¬ ((r e).val : ℤ) < 0
    omega
  rw [e1, h]
  rw [h] at hz
  have : IntOp.cmpi .slt (BitVec.ofNat 32 (r e).val) 0#32 = 0#1 := by
    unfold IntOp.cmpi
    simp only [BitVec.slt]
    rw [decide_eq_false hz]
    rfl
  rw [this]
  rfl

/-- An entry of an edge list as a column. -/
theorem col_apply {v : IVec S473088 32} {r : Fin 473088 → Fin 22528} (h : Ends v r) (e : Fin 473088) :
    (col v (ix2 e (0 : Fin 1))).toInt = ((r e).val : ℤ) := by
  have hr := (r e).isLt
  have e1 : col v (ix2 e (0 : Fin 1)) = v (ix1 e) := by
    pointwise [col]
  rw [e1, h, StableHlo.Predicate.toInt_ofNat_small _ (by omega)]

/-- The array of ones over the edges. -/
theorem oneE_apply (i : S473088x64.Idx) : oneE i = 1 := by
  show FloatOps.ofBits (F := Ideal) .f32 0x3F800000#32 = 1
  exact Ideal.ofBits_one_f32

/-- The array of ones over the particles. -/
theorem oneN_apply (i : S22528x64.Idx) : oneN i = 1 := by
  show FloatOps.ofBits (F := Ideal) .f32 0x3F800000#32 = 1
  exact Ideal.ofBits_one_f32

/-- An entry of a bias over the edges. -/
theorem biasE_apply (b : FVec Ideal S64 .f32) (e : Fin 473088) (k : Fin 64) : biasE b (ix2 e k) = b (ix1 k) := by
  pointwise [biasE]

/-- An entry of a bias over the particles. -/
theorem biasN_apply (b : FVec Ideal S64 .f32) (n : Fin 22528) (k : Fin 64) : biasN b (ix2 n k) = b (ix1 k) := by
  pointwise [biasN]

section Real

variable {v u : IVec S473088 32} {r c : Fin 473088 → Fin 22528} (hv : Ends v r) (hu : Ends u c)

include hv hu in
/-- The difference of the coordinates at an edge's two ends, over the reals. -/
theorem dif_real {X : FVec Ideal S22528x3 .f32} {x : Fin 22528 → Fin 3 → ℝ} (hX : ∀ n d, X (ix2 n d) = (x n d : ℝ))
    (e : Fin 473088) (d : Fin 3) : dif X v u (ix2 e d) = ((x (r e) d - x (c e) d : ℝ) : EReal) := by
  have g1 := Routing.gather_row gather_S22528x3_S473088x1_S473088x3_1_0_n_n_0_1_13 rfl rfl rfl rfl rfl X (wrap v) e d (r e) (wrap_apply hv e) (by decide)
  have g2 := Routing.gather_row gather_S22528x3_S473088x1_S473088x3_1_0_n_n_0_1_13 rfl rfl rfl rfl rfl X (wrap u) e d (c e) (wrap_apply hu e) (by decide)
  show Host.gather _ X (wrap v) (ix2 e d) - Host.gather _ X (wrap u) (ix2 e d) = _
  rw [show Host.gather gather_S22528x3_S473088x1_S473088x3_1_0_n_n_0_1_13 X (wrap v) (ix2 e d) = _ from g1,
    show Host.gather gather_S22528x3_S473088x1_S473088x3_1_0_n_n_0_1_13 X (wrap u) (ix2 e d) = _ from g2]
  rw [EReal.coe_sub]
  exact congrArg₂ (· - ·) (hX _ _) (hX _ _)

/-- The squared length of an edge, over the reals. -/
theorem rad_real {D : FVec Ideal S473088x3 .f32} {f : Fin 473088 → Fin 3 → ℝ} (hD : ∀ e d, D (ix2 e d) = (f e d : ℝ))
    (e : Fin 473088) : rad D (ix2 e (0 : Fin 1)) = ((∑ d, f e d * f e d : ℝ) : EReal) := by
  have e1 : rad D (ix2 e (0 : Fin 1)) = ∑ d : Fin 3, D (ix2 e d) * D (ix2 e d) := by
    pointwise [rad]
  rw [e1]
  exact dot_real _ _ _ _ (hD e) (hD e)

/-- The activation over the edges is `silu`. -/
theorem act_real {Z : FVec Ideal S473088x64 .f32} {z : Fin 473088 → Fin 64 → ℝ} (hZ : ∀ e k, Z (ix2 e k) = (z e k : ℝ))
    (e : Fin 473088) (k : Fin 64) : actE Z (ix2 e k) = (silu (z e k) : ℝ) :=
  silu_op oneE oneE Z _ (oneE_apply _) (oneE_apply _) (hZ e k)

/-- A dense layer over the edges, over the reals. -/
theorem linE_real {I : FVec Ideal S473088x64 .f32} {w : FVec Ideal S64x64 .f32} {b : FVec Ideal S64 .f32}
    {f : Fin 473088 → Fin 64 → ℝ} {w' : Fin 64 → Fin 64 → ℝ} {b' : Fin 64 → ℝ} (hI : ∀ e k, I (ix2 e k) = (f e k : ℝ))
    (hw : ∀ i k, w (ix2 i k) = (w' i k : ℝ)) (hb : ∀ k, b (ix1 k) = (b' k : ℝ)) (e : Fin 473088) (k : Fin 64) :
    linE I w b (ix2 e k) = ((mv (f e) w' k + b' k : ℝ) : EReal) := by
  show Host.dotGeneral dot_S473088x64_S64x64_S473088x64_1_0_0_1_n_n none I w (ix2 e k) + biasE b (ix2 e k) = _
  rw [biasE_apply, hb, show Host.dotGeneral dot_S473088x64_S64x64_S473088x64_1_0_0_1_n_n none I w (ix2 e k) = _ from
    StackMember.dotGeneral_plain_apply none I w e k]
  rw [EReal.coe_add]
  exact congrArg (· + _) (dot_real _ _ _ _ (hI e) fun i => hw i k)

end Real

/-- A sum over the 130 inputs of an edge's first layer: the two ends' features and the two squared lengths. -/
theorem sum130 (f : Fin 130 → ℝ) : ∑ i, f i = (∑ k : Fin 64, f ⟨k.val, by omega⟩) + (∑ k : Fin 64, f ⟨64 + k.val, by omega⟩)
    + f ⟨128, by omega⟩ + f ⟨129, by omega⟩ := by
  rw [Fin.sum_univ_castSucc, Fin.sum_univ_castSucc]
  refine congrArg₂ (· + ·) (congrArg₂ (· + ·) ?_ rfl) rfl
  exact Fin.sum_univ_add (a := 64) (b := 64) fun i : Fin (64 + 64) => f ⟨i.val, by omega⟩

/-- A sum over the 128 inputs of a particle's first layer: its features and the messages into it. -/
theorem sum128 (f : Fin 128 → ℝ) : ∑ i, f i = (∑ k : Fin 64, f ⟨k.val, by omega⟩) + (∑ k : Fin 64, f ⟨64 + k.val, by omega⟩) :=
  Fin.sum_univ_add (a := 64) (b := 64) fun i : Fin (64 + 64) => f ⟨i.val, by omega⟩

/-- The input of an edge's first layer over the reals. -/
def edgeR (hi hj : Fin 64 → ℝ) (a b : ℝ) (k : Fin 130) : ℝ :=
  if h : k.val < 64 then hi ⟨k.val, h⟩ else if h' : k.val < 128 then hj ⟨k.val - 64, by omega⟩ else if k.val < 129 then a else b

/-- The input of an edge's first layer times a column of its weights. -/
theorem edgeR_dot (hi hj : Fin 64 → ℝ) (a b : ℝ) (w : Fin 130 → ℝ) :
    ∑ k, edgeR hi hj a b k * w k = (∑ k : Fin 64, hi k * w ⟨k.val, by omega⟩) + (∑ k : Fin 64, hj k * w ⟨64 + k.val, by omega⟩)
      + a * w ⟨128, by omega⟩ + b * w ⟨129, by omega⟩ := by
  rw [sum130]
  refine congrArg₂ (· + ·) (congrArg₂ (· + ·) (congrArg₂ (· + ·) ?_ ?_) ?_) ?_
  · refine Finset.sum_congr rfl fun k _ => congrArg (· * _) ?_
    unfold edgeR
    rw [dif_pos k.isLt]
  · refine Finset.sum_congr rfl fun k _ => congrArg (· * _) ?_
    have := k.isLt
    unfold edgeR
    rw [dif_neg (by show ¬ 64 + k.val < 64; omega), dif_pos (by show 64 + k.val < 128; omega)]
    exact congrArg hj (Fin.ext (show 64 + k.val - 64 = k.val by omega))
  · rfl
  · rfl

section Real

variable {v u : IVec S473088 32} {r c : Fin 473088 → Fin 22528} (hv : Ends v r) (hu : Ends u c)

include hv in
/-- A gather reads the row that an edge names. -/
theorem gath_real {H : FVec Ideal S22528x64 .f32} {h : Fin 22528 → Fin 64 → ℝ} (hH : ∀ n k, H (ix2 n k) = (h n k : ℝ))
    (e : Fin 473088) (k : Fin 64) :
    Host.gather gather_S22528x64_S473088x1_S473088x64_1_0_n_n_0_1_164 H (wrap v) (ix2 e k) = (h (r e) k : ℝ) :=
  (Routing.gather_row gather_S22528x64_S473088x1_S473088x64_1_0_n_n_0_1_164 rfl rfl rfl rfl rfl H (wrap v) e k (r e) (wrap_apply hv e)
    (by decide)).trans (hH _ _)

include hv hu in
/-- The input of an edge's first layer, over the reals. -/
theorem edgeIn_real {H : FVec Ideal S22528x64 .f32} {h : Fin 22528 → Fin 64 → ℝ} (hH : ∀ n k, H (ix2 n k) = (h n k : ℝ))
    {R E : FVec Ideal S473088x1 .f32} {a b : Fin 473088 → ℝ} (hR : ∀ e, R (ix2 e (0 : Fin 1)) = (a e : ℝ))
    (hE : ∀ e, E (ix2 e (0 : Fin 1)) = (b e : ℝ)) (e : Fin 473088) (k : Fin 130) :
    edgeIn H v u R E (ix2 e k) = (edgeR (h (r e)) (h (c e)) (a e) (b e) k : ℝ) := by
  unfold edgeIn edgeR
  have g1 := gath_real hv hH e
  have g2 := gath_real hu hH e
  generalize Host.gather gather_S22528x64_S473088x1_S473088x64_1_0_n_n_0_1_164 H (wrap v) = A at *
  generalize Host.gather gather_S22528x64_S473088x1_S473088x64_1_0_n_n_0_1_164 H (wrap u) = B at *
  have hz : ∀ q (hq : q < 1), (⟨q, hq⟩ : Fin 1) = 0 := fun q hq => Subsingleton.elim _ _
  have hk := k.isLt
  pointwise []
  by_cases h1 : k.val < 64
  · rw [dif_pos h1, dif_pos h1]
    exact g1 _
  · rw [dif_neg h1, dif_neg h1]
    by_cases h2 : k.val < 128
    · rw [dif_pos (by omega), dif_pos h2]
      exact g2 _
    · rw [dif_neg (by omega), dif_neg h2]
      by_cases h3 : k.val < 129
      · rw [dif_pos (by omega), if_pos h3, hz]
        exact hR e
      · rw [dif_neg (by omega), if_neg h3, hz]
        exact hE e

/-- An edge's first dense layer, over the reals. -/
theorem lin1_real {I : FVec Ideal S473088x130 .f32} {w : FVec Ideal S130x64 .f32} {b : FVec Ideal S64 .f32}
    {f : Fin 473088 → Fin 130 → ℝ} {w' : Fin 130 → Fin 64 → ℝ} {b' : Fin 64 → ℝ} (hI : ∀ e k, I (ix2 e k) = (f e k : ℝ))
    (hw : ∀ i k, w (ix2 i k) = (w' i k : ℝ)) (hb : ∀ k, b (ix1 k) = (b' k : ℝ)) (e : Fin 473088) (k : Fin 64) :
    lin1 I w b (ix2 e k) = (((∑ i, f e i * w' i k) + b' k : ℝ) : EReal) := by
  show Host.dotGeneral dot_S473088x130_S130x64_S473088x64_1_0_0_1_n_n none I w (ix2 e k) + biasE b (ix2 e k) = _
  rw [biasE_apply, hb, show Host.dotGeneral dot_S473088x130_S130x64_S473088x64_1_0_0_1_n_n none I w (ix2 e k) = _ from
    StackMember.dotGeneral_plain_apply none I w e k]
  rw [EReal.coe_add]
  exact congrArg (· + _) (dot_real _ _ _ _ (hI e) fun i => hw i k)

/-- The messages over the reals. -/
theorem mess_real (A : Args) (l : Fin 4) {I : FVec Ideal S473088x130 .f32} {w1 : FVec Ideal S130x64 .f32} {b1 : FVec Ideal S64 .f32}
    {w2 : FVec Ideal S64x64 .f32} {b2 : FVec Ideal S64 .f32} {hi hj : Fin 473088 → Fin 64 → ℝ} {a b : Fin 473088 → ℝ}
    (hI : ∀ e k, I (ix2 e k) = (edgeR (hi e) (hj e) (a e) (b e) k : ℝ)) (hw1 : ∀ i k, w1 (ix2 i k) = (A.e1 l i k : ℝ))
    (hb1 : ∀ k, b1 (ix1 k) = (A.b1 l k : ℝ)) (hw2 : ∀ i k, w2 (ix2 i k) = (A.e2 l i k : ℝ))
    (hb2 : ∀ k, b2 (ix1 k) = (A.b2 l k : ℝ)) (e : Fin 473088) (k : Fin 64) :
    mess I w1 b1 w2 b2 (ix2 e k) = (msg (A.W l) (hi e) (hj e) (a e) (b e) k : ℝ) := by
  unfold mess
  rw [act_real fun e k => linE_real (act_real (lin1_real hI hw1 hb1)) hw2 hb2 e k]
  unfold msg msg2
  refine congrArg (fun z : ℝ => ((silu z : ℝ) : EReal)) (congrArg (· + _) (congrArg (fun f => mv f _ _) (funext fun q => ?_)))
  refine congrArg silu ?_
  rw [edgeR_dot]
  rfl

/-- The weights of the differences over the reals. -/
theorem coefs_real (A : Args) (l : Fin 4) {M : FVec Ideal S473088x64 .f32} {w1 : FVec Ideal S64x64 .f32} {b1 : FVec Ideal S64 .f32}
    {w2 : FVec Ideal S64x1 .f32} {f : Fin 473088 → Fin 64 → ℝ} (hM : ∀ e k, M (ix2 e k) = (f e k : ℝ))
    (hw1 : ∀ i k, w1 (ix2 i k) = (A.c1 l i k : ℝ)) (hb1 : ∀ k, b1 (ix1 k) = (A.cb1 l k : ℝ))
    (hw2 : ∀ k, w2 (ix2 k (0 : Fin 1)) = (A.c2 l k : ℝ)) (e : Fin 473088) :
    coefs M w1 b1 w2 (ix2 e (0 : Fin 1)) = (coef (A.W l) (f e) : ℝ) := by
  unfold coefs
  rw [show Host.dotGeneral dot_S473088x64_S64x1_S473088x1_1_0_0_1_n_n none (actE (linE M w1 b1)) w2 (ix2 e (0 : Fin 1)) = _ from
    StackMember.dotGeneral_plain_apply none (actE (linE M w1 b1)) w2 e (0 : Fin 1)]
  exact dot_real _ _ _ _ (fun k => act_real (linE_real hM hw1 hb1) e k) hw2

/-- A zero array. -/
theorem zeroX_apply (i : S22528x3.Idx) :
    (broadcastInDim S22528x3 ![] bcast_S_S22528x3 (constant S_ .f32 0x00000000#32) : FVec Ideal S22528x3 .f32) i = 0 := by
  show FloatOps.ofBits (F := Ideal) .f32 0x00000000#32 = 0
  exact Ideal.ofBits_zero_f32

/-- A zero array. -/
theorem zeroH_apply (i : S22528x64.Idx) :
    (broadcastInDim S22528x64 ![] bcast_S_S22528x64 (constant S_ .f32 0x00000000#32) : FVec Ideal S22528x64 .f32) i = 0 := by
  show FloatOps.ofBits (F := Ideal) .f32 0x00000000#32 = 0
  exact Ideal.ofBits_zero_f32

include hv in
/-- The new coordinates over the reals: a sum over the edges that end in the row. -/
theorem newX_real {X : FVec Ideal S22528x3 .f32} {D : FVec Ideal S473088x3 .f32} {C : FVec Ideal S473088x1 .f32}
    {x : Fin 22528 → Fin 3 → ℝ} {f : Fin 473088 → Fin 3 → ℝ} {g : Fin 473088 → ℝ} (hX : ∀ n d, X (ix2 n d) = (x n d : ℝ))
    (hD : ∀ e d, D (ix2 e d) = (f e d : ℝ)) (hC : ∀ e, C (ix2 e (0 : Fin 1)) = (g e : ℝ)) (n : Fin 22528) (d : Fin 3) :
    newX X D C v (ix2 n d) = ((x n d + ∑ e, if r e = n then f e d * g e else 0 : ℝ) : EReal) := by
  have hm : ∀ e, mulf D (broadcastInDim S473088x3 ![0, 1] bcast_S473088x1_S473088x3_0_1 C) (ix2 e d) = ((f e d * g e : ℝ) : EReal) := by
    intro e
    have e1 : broadcastInDim S473088x3 ![0, 1] bcast_S473088x1_S473088x3_0_1 C (ix2 e d) = C (ix2 e (0 : Fin 1)) := by
      pointwise []
    show D (ix2 e d) * broadcastInDim S473088x3 ![0, 1] bcast_S473088x1_S473088x3_0_1 C (ix2 e d) = _
    rw [e1, hD, hC, EReal.coe_mul]
  have hs := scatter_rows scatter_S22528x3_S473088x1_S473088x3_1_0_0_1 rfl rfl rfl rfl
    (broadcastInDim S22528x3 ![] bcast_S_S22528x3 (constant S_ .f32 0x00000000#32)) (col v)
    (mulf D (broadcastInDim S473088x3 ![0, 1] bcast_S473088x1_S473088x3_0_1 C)) r (col_apply hv) n d
  unfold newX
  show X (ix2 n d) + Host.scatterAdd _ _ _ _ (ix2 n d) = _
  rw [EReal.coe_add]
  refine congrArg₂ (· + ·) (hX n d) (hs.trans ?_)
  rw [zeroX_apply, zero_add]
  refine sum_real _ _ fun e => ?_
  by_cases h : r e = n
  · rw [if_pos h, if_pos h]; exact hm e
  · rw [if_neg h, if_neg h, EReal.coe_zero]

/-- The input of a particle's first layer over the reals. -/
def nodeR (h a : Fin 64 → ℝ) (k : Fin 128) : ℝ :=
  if h' : k.val < 64 then h ⟨k.val, h'⟩ else a ⟨k.val - 64, by omega⟩

/-- The input of a node's first layer times a column of its weights. -/
theorem nodeR_dot (h a : Fin 64 → ℝ) (w : Fin 128 → ℝ) :
    ∑ k, nodeR h a k * w k = (∑ k : Fin 64, h k * w ⟨k.val, by omega⟩) + (∑ k : Fin 64, a k * w ⟨64 + k.val, by omega⟩) := by
  rw [sum128]
  refine congrArg₂ (· + ·) ?_ ?_
  · refine Finset.sum_congr rfl fun k _ => congrArg (· * _) ?_
    unfold nodeR
    rw [dif_pos k.isLt]
  · refine Finset.sum_congr rfl fun k _ => congrArg (· * _) ?_
    have := k.isLt
    unfold nodeR
    rw [dif_neg (by show ¬ 64 + k.val < 64; omega)]
    exact congrArg a (Fin.ext (show 64 + k.val - 64 = k.val by omega))

include hv in
/-- The input of a node's first layer, over the reals. -/
theorem nodeIn_real {H : FVec Ideal S22528x64 .f32} {M : FVec Ideal S473088x64 .f32} {h : Fin 22528 → Fin 64 → ℝ}
    {f : Fin 473088 → Fin 64 → ℝ} (hH : ∀ n k, H (ix2 n k) = (h n k : ℝ)) (hM : ∀ e k, M (ix2 e k) = (f e k : ℝ))
    (n : Fin 22528) (k : Fin 128) :
    nodeIn H M v (ix2 n k) = (nodeR (h n) (fun k => ∑ e, if r e = n then f e k else 0) k : ℝ) := by
  have hs := fun k => scatter_rows scatter_S22528x64_S473088x1_S473088x64_1_0_0_1 rfl rfl rfl rfl
    (broadcastInDim S22528x64 ![] bcast_S_S22528x64 (constant S_ .f32 0x00000000#32)) (col v) M r (col_apply hv) n k
  have hs' : ∀ k, Host.scatterAdd scatter_S22528x64_S473088x1_S473088x64_1_0_0_1
      (broadcastInDim S22528x64 ![] bcast_S_S22528x64 (constant S_ .f32 0x00000000#32)) (col v) M (ix2 n k)
      = ((∑ e, if r e = n then f e k else 0 : ℝ) : EReal) := by
    intro k
    refine (hs k).trans ?_
    rw [zeroH_apply, zero_add]
    refine sum_real _ _ fun e => ?_
    by_cases h : r e = n
    · rw [if_pos h, if_pos h]; exact hM e k
    · rw [if_neg h, if_neg h, EReal.coe_zero]
  unfold nodeIn nodeR
  generalize Host.scatterAdd scatter_S22528x64_S473088x1_S473088x64_1_0_0_1
    (broadcastInDim S22528x64 ![] bcast_S_S22528x64 (constant S_ .f32 0x00000000#32)) (col v) M = B at *
  have hk := k.isLt
  pointwise []
  by_cases h1 : k.val < 64
  · rw [dif_pos h1, dif_pos h1]
    exact hH n _
  · rw [dif_neg h1, dif_neg h1]
    exact hs' _

/-- The new features over the reals. -/
theorem newH_real (A : Args) (l : Fin 4) {H : FVec Ideal S22528x64 .f32} {N : FVec Ideal S22528x128 .f32} {w1 : FVec Ideal S128x64 .f32}
    {b1 : FVec Ideal S64 .f32} {w2 : FVec Ideal S64x64 .f32} {b2 : FVec Ideal S64 .f32} {h a : Fin 22528 → Fin 64 → ℝ}
    (hH : ∀ n k, H (ix2 n k) = (h n k : ℝ)) (hN : ∀ n k, N (ix2 n k) = (nodeR (h n) (a n) k : ℝ))
    (hw1 : ∀ i k, w1 (ix2 i k) = (A.n1 l i k : ℝ)) (hb1 : ∀ k, b1 (ix1 k) = (A.nb1 l k : ℝ))
    (hw2 : ∀ i k, w2 (ix2 i k) = (A.n2 l i k : ℝ)) (hb2 : ∀ k, b2 (ix1 k) = (A.nb2 l k : ℝ)) (n : Fin 22528) (k : Fin 64) :
    newH H N w1 b1 w2 b2 (ix2 n k) = (node (A.W l) (h n) (a n) k : ℝ) := by
  unfold newH
  have hz : ∀ q, addf (Host.dotGeneral dot_S22528x128_S128x64_S22528x64_1_0_0_1_n_n none N w1) (biasN b1) (ix2 n q)
      = ((mv (h n) (A.W l).nH q + mv (a n) (A.W l).nA q + (A.W l).nb1 q : ℝ) : EReal) := by
    intro q
    show Host.dotGeneral dot_S22528x128_S128x64_S22528x64_1_0_0_1_n_n none N w1 (ix2 n q) + biasN b1 (ix2 n q) = _
    rw [biasN_apply, hb1, show Host.dotGeneral dot_S22528x128_S128x64_S22528x64_1_0_0_1_n_n none N w1 (ix2 n q) = _ from
      StackMember.dotGeneral_plain_apply none N w1 n q]
    rw [EReal.coe_add]
    refine congrArg₂ (· + ·) ((dot_real _ _ _ _ (hN n) fun i => hw1 i q).trans ?_) rfl
    rw [nodeR_dot]
    rfl
  generalize addf (Host.dotGeneral dot_S22528x128_S128x64_S22528x64_1_0_0_1_n_n none N w1) (biasN b1) = Z at *
  have ha : ∀ q, actN Z (ix2 n q) = (silu (mv (h n) (A.W l).nH q + mv (a n) (A.W l).nA q + (A.W l).nb1 q) : ℝ) := fun q =>
    silu_op oneN oneN Z _ (oneN_apply _) (oneN_apply _) (hz q)
  show H (ix2 n k) + (Host.dotGeneral dot_S22528x64_S64x64_S22528x64_1_0_0_1_n_n none (actN Z) w2 (ix2 n k) + biasN b2 (ix2 n k)) = _
  rw [biasN_apply, hb2, hH, show Host.dotGeneral dot_S22528x64_S64x64_S22528x64_1_0_0_1_n_n none (actN Z) w2 (ix2 n k) = _ from
    StackMember.dotGeneral_plain_apply none (actN Z) w2 n k]
  unfold node
  rw [EReal.coe_add, EReal.coe_add]
  exact congrArg (_ + ·) (congrArg (· + _) (dot_real _ _ _ _ ha fun i => hw2 i k))

end Real

end Cert.Proof
-- ==== Proof.REdge.lean ====
/- The edge list that the samples are drawn with: every ordered pair of different particles of a sample, once. -/
module

public import proofs.«01_k».proof.Proof.Spec
public import proofs.«01_k».proof.Pre_drawn
public import Mathlib.Logic.Equiv.Fin.Basic

@[expose] public section

noncomputable section

namespace Cert.Proof

open scoped BigOperators

/-- The receiving particle of a pair. -/
def pr (p : Fin 462) : Fin 22 := Fin.ofNat 22 (Cert.Pre_drawn.lit0 p).toNat
/-- The sending particle of a pair. -/
def pc (p : Fin 462) : Fin 22 := Fin.ofNat 22 (Cert.Pre_drawn.lit1 p).toNat

/-- The place of a pair in the list: the pairs come by their smaller particle, then by their larger one, each way round. -/
def place (i j : Fin 22) : Fin 462 :=
  if i < j then Fin.ofNat 462 (2 * (i.val * 21 - i.val * (i.val - 1) / 2 + (j.val - i.val - 1)))
  else Fin.ofNat 462 (2 * (j.val * 21 - j.val * (j.val - 1) / 2 + (i.val - j.val - 1)) + 1)

/-- The table of receiving particles holds small words. -/
theorem pr_word (p : Fin 462) : Cert.Pre_drawn.lit0 p = BitVec.ofNat 32 (pr p).val := by
  revert p
  decide +kernel

/-- The table of sending particles holds small words. -/
theorem pc_word (p : Fin 462) : Cert.Pre_drawn.lit1 p = BitVec.ofNat 32 (pc p).val := by
  revert p
  decide +kernel

/-- A pair's place in the list is where it stands, and its particles differ. -/
theorem place_of (p : Fin 462) : place (pr p) (pc p) = p ∧ pr p ≠ pc p := by
  revert p
  decide +kernel

/-- Every pair of different particles stands at its place. -/
theorem of_place (i j : Fin 22) : i ≠ j → pr (place i j) = i ∧ pc (place i j) = j := by
  revert i j
  decide +kernel

/-- A sum over the pairs that a particle receives along is one over the other particles. -/
theorem sum_pairs (i : Fin 22) (f : Fin 22 → ℝ) :
    (∑ p, if pr p = i then f (pc p) else 0) = ∑ j, if i = j then 0 else f j := by
  have e : (∑ j, if i = j then 0 else f j) = ∑ j, if i ≠ j then f j else 0 :=
    Finset.sum_congr rfl fun j _ => by by_cases h : i = j <;> simp [h]
  rw [e, ← Finset.sum_filter, ← Finset.sum_filter]
  refine Finset.sum_bij' (fun p _ => pc p) (fun j _ => place i j) ?_ ?_ ?_ ?_ ?_
  · intro p hp
    have hp := (Finset.mem_filter.1 hp).2
    exact Finset.mem_filter.2 ⟨Finset.mem_univ _, hp ▸ (place_of p).2⟩
  · intro j hj
    exact Finset.mem_filter.2 ⟨Finset.mem_univ _, (of_place i j (Finset.mem_filter.1 hj).2).1⟩
  · intro p hp
    have hp := (Finset.mem_filter.1 hp).2
    exact hp ▸ (place_of p).1
  · intro j hj
    exact (of_place i j (Finset.mem_filter.1 hj).2).2
  · intro p _
    rfl

/-- The row of a sample's particle. -/
def nd (b : Fin 1024) (i : Fin 22) : Fin 22528 := ⟨b.val * 22 + i.val, by omega⟩

/-- The row that an edge ends in. -/
def rowOf (e : Fin 473088) : Fin 22528 := nd ⟨e.val / 462, by omega⟩ (pr ⟨e.val % 462, by omega⟩)
/-- The row that an edge starts from. -/
def colOf (e : Fin 473088) : Fin 22528 := nd ⟨e.val / 462, by omega⟩ (pc ⟨e.val % 462, by omega⟩)

/-- A row is one sample's particle. -/
theorem nd_inj {b b' : Fin 1024} {i i' : Fin 22} (h : nd b i = nd b' i') : b = b' ∧ i = i' := by
  have h := congrArg Fin.val h
  simp only [nd] at h
  exact ⟨Fin.ext (by omega), Fin.ext (by omega)⟩

/-- Every row is some sample's particle. -/
theorem nd_surj (n : Fin 22528) : nd ⟨n.val / 22, by omega⟩ ⟨n.val % 22, by omega⟩ = n :=
  Fin.ext (by simp only [nd]; omega)

/-- A sum over the edges is one over the samples and their pairs. -/
theorem sum_edges (f : Fin 473088 → ℝ) :
    ∑ e, f e = ∑ b : Fin 1024, ∑ p : Fin 462, f ⟨b.val * 462 + p.val, by omega⟩ := by
  rw [← Fintype.sum_prod_type']
  symm
  refine Fintype.sum_equiv (finProdFinEquiv.trans (finCongr (by norm_num : 1024 * 462 = 473088))) _ _ fun q => ?_
  refine congrArg f (Fin.ext ?_)
  show q.1.val * 462 + q.2.val = q.2.val + 462 * q.1.val
  omega

/-- A sum over the edges that end in a sample's particle is one over the sample's other particles. -/
theorem sum_into (b : Fin 1024) (i : Fin 22) (f : Fin 22528 → Fin 22528 → ℝ) :
    (∑ e, if rowOf e = nd b i then f (rowOf e) (colOf e) else 0) = ∑ j, if i = j then 0 else f (nd b i) (nd b j) := by
  rw [sum_edges, Finset.sum_eq_single b]
  · rw [← sum_pairs i fun j => f (nd b i) (nd b j)]
    refine Finset.sum_congr rfl fun p _ => ?_
    have hp := p.isLt
    have hr : rowOf ⟨b.val * 462 + p.val, by omega⟩ = nd b (pr p) := by
      unfold rowOf
      exact congrArg₂ nd (Fin.ext (by show (b.val * 462 + p.val) / 462 = b.val; omega))
        (congrArg pr (Fin.ext (by show (b.val * 462 + p.val) % 462 = p.val; omega)))
    have hc : colOf ⟨b.val * 462 + p.val, by omega⟩ = nd b (pc p) := by
      unfold colOf
      exact congrArg₂ nd (Fin.ext (by show (b.val * 462 + p.val) / 462 = b.val; omega))
        (congrArg pc (Fin.ext (by show (b.val * 462 + p.val) % 462 = p.val; omega)))
    rw [hr, hc]
    by_cases h : pr p = i
    · rw [if_pos h, if_pos (by rw [h]), h]
    · rw [if_neg h, if_neg fun h' => h (nd_inj h').2]
  · intro b' _ hb
    refine Finset.sum_eq_zero fun p _ => if_neg fun h => hb ?_
    have hp := p.isLt
    have := (nd_inj h).1
    rw [← this]
    exact Fin.ext (by show b'.val = (b'.val * 462 + p.val) / 462; omega)
  · intro h; exact absurd (Finset.mem_univ _) h

end Cert.Proof
-- ==== Proof.RStep.lean ====
/- One layer of the reference as a step of the samples. -/
module

public import proofs.«01_k».proof.Proof.RLayer
public import proofs.«01_k».proof.Proof.REdge

@[expose] public section

noncomputable section

namespace Cert.Proof

open Idealize.ShloMosaic Idealize.ShloMosaic.TcCoe Idealize.SL.Sem Cert.ReferenceIdeal Cert.ReferenceIdeal.Gen
open scoped BigOperators

/-- The samples' particles as rows. -/
def fl {α : Type} (x : Fin 1024 → Fin 22 → α) (n : Fin 22528) : α := x ⟨n.val / 22, by omega⟩ ⟨n.val % 22, by omega⟩

/-- A flattened family at a sample's particle. -/
theorem fl_nd {α : Type} (x : Fin 1024 → Fin 22 → α) (b : Fin 1024) (i : Fin 22) : fl x (nd b i) = x b i := by
  unfold fl
  exact congrArg₂ x (Fin.ext (by simp only [nd]; omega)) (Fin.ext (by simp only [nd]; omega))

/-- The squared distance of two particles of one sample, in the flattened rows. -/
theorem sqd_fl (x : Fin 1024 → Fin 22 → Fin 3 → ℝ) (b : Fin 1024) (i j : Fin 22) : sqd (fl x) (nd b i) (nd b j) = sqd (x b) i j := by
  unfold sqd
  rw [fl_nd, fl_nd]

section

variable {v u : IVec S473088 32} (hv : Ends v rowOf) (hu : Ends u colOf)

include hv hu in
/-- The squared lengths of the edges. -/
theorem rad_dif {X : FVec Ideal S22528x3 .f32} {x : Fin 1024 → Fin 22 → Fin 3 → ℝ} (hX : ∀ n d, X (ix2 n d) = (fl x n d : ℝ))
    (e : Fin 473088) : rad (dif X v u) (ix2 e (0 : Fin 1)) = (sqd (fl x) (rowOf e) (colOf e) : ℝ) :=
  rad_real (dif_real hv hu hX) e

variable {X : FVec Ideal S22528x3 .f32} {H : FVec Ideal S22528x64 .f32} {E : FVec Ideal S473088x1 .f32}
  {x x0 : Fin 1024 → Fin 22 → Fin 3 → ℝ} {h : Fin 1024 → Fin 22 → Fin 64 → ℝ} (A : Args) (l : Fin 4)
  (hX : ∀ n d, X (ix2 n d) = (fl x n d : ℝ)) (hH : ∀ n k, H (ix2 n k) = (fl h n k : ℝ))
  (hE : ∀ e, E (ix2 e (0 : Fin 1)) = (sqd (fl x0) (rowOf e) (colOf e) : ℝ))
  {w1 : FVec Ideal S130x64 .f32} {b1 : FVec Ideal S64 .f32} {w2 : FVec Ideal S64x64 .f32} {b2 : FVec Ideal S64 .f32}
  (hw1 : ∀ i k, w1 (ix2 i k) = (A.e1 l i k : ℝ)) (hb1 : ∀ k, b1 (ix1 k) = (A.b1 l k : ℝ))
  (hw2 : ∀ i k, w2 (ix2 i k) = (A.e2 l i k : ℝ)) (hb2 : ∀ k, b2 (ix1 k) = (A.b2 l k : ℝ))

include hv hu hX hH hE hw1 hb1 hw2 hb2

/-- The messages of a layer. -/
theorem step_mess (e : Fin 473088) (k : Fin 64) :
    mess (edgeIn H v u (rad (dif X v u)) E) w1 b1 w2 b2 (ix2 e k)
      = (msg (A.W l) (fl h (rowOf e)) (fl h (colOf e)) (sqd (fl x) (rowOf e) (colOf e)) (sqd (fl x0) (rowOf e) (colOf e)) k : ℝ) :=
  mess_real A l (edgeIn_real hv hu hH (rad_dif hv hu hX) hE) hw1 hb1 hw2 hb2 e k

/-- The coordinates after a layer. -/
theorem step_X {c1 : FVec Ideal S64x64 .f32} {cb1 : FVec Ideal S64 .f32} {c2 : FVec Ideal S64x1 .f32}
    (hc1 : ∀ i k, c1 (ix2 i k) = (A.c1 l i k : ℝ)) (hcb1 : ∀ k, cb1 (ix1 k) = (A.cb1 l k : ℝ))
    (hc2 : ∀ k, c2 (ix2 k (0 : Fin 1)) = (A.c2 l k : ℝ)) (n : Fin 22528) (d : Fin 3) :
    newX X (dif X v u) (coefs (mess (edgeIn H v u (rad (dif X v u)) E) w1 b1 w2 b2) c1 cb1 c2) v (ix2 n d)
      = (fl (fun b => stepX (A.W l) (x b) (h b) (sqd (x0 b))) n d : ℝ) := by
  have e := newX_real hv hX (dif_real hv hu hX)
    (coefs_real A l (step_mess hv hu A l hX hH hE hw1 hb1 hw2 hb2) hc1 hcb1 hc2) n d
  refine e.trans (congrArg _ ?_)
  clear e
  obtain ⟨b, i, rfl⟩ : ∃ b i, n = nd b i := ⟨_, _, (nd_surj n).symm⟩
  rw [fl_nd, fl_nd]
  unfold stepX
  refine congrArg (_ + ·) ((sum_into b i fun n n' => (fl x n d - fl x n' d)
    * coef (A.W l) (msg (A.W l) (fl h n) (fl h n') (sqd (fl x) n n') (sqd (fl x0) n n'))).trans ?_)
  refine Finset.sum_congr rfl fun j _ => ?_
  rw [fl_nd, fl_nd, fl_nd, fl_nd, sqd_fl, sqd_fl]

/-- The features after a layer. -/
theorem step_H {n1 : FVec Ideal S128x64 .f32} {nb1 : FVec Ideal S64 .f32} {n2 : FVec Ideal S64x64 .f32} {nb2 : FVec Ideal S64 .f32}
    (hn1 : ∀ i k, n1 (ix2 i k) = (A.n1 l i k : ℝ)) (hnb1 : ∀ k, nb1 (ix1 k) = (A.nb1 l k : ℝ))
    (hn2 : ∀ i k, n2 (ix2 i k) = (A.n2 l i k : ℝ)) (hnb2 : ∀ k, nb2 (ix1 k) = (A.nb2 l k : ℝ)) (n : Fin 22528) (k : Fin 64) :
    newH H (nodeIn H (mess (edgeIn H v u (rad (dif X v u)) E) w1 b1 w2 b2) v) n1 nb1 n2 nb2 (ix2 n k)
      = (fl (fun b => stepH (A.W l) (x b) (h b) (sqd (x0 b))) n k : ℝ) := by
  have e := newH_real A l hH (nodeIn_real hv hH (step_mess hv hu A l hX hH hE hw1 hb1 hw2 hb2)) hn1 hnb1 hn2 hnb2 n k
  refine e.trans (congrArg _ ?_)
  clear e
  obtain ⟨b, i, rfl⟩ : ∃ b i, n = nd b i := ⟨_, _, (nd_surj n).symm⟩
  rw [fl_nd, fl_nd]
  unfold stepH
  refine congrArg (fun a => node (A.W l) (h b i) a k) (funext fun q => ?_)
  refine (sum_into b i fun n n' => msg (A.W l) (fl h n) (fl h n') (sqd (fl x) n n') (sqd (fl x0) n n') q).trans ?_
  refine Finset.sum_congr rfl fun j _ => ?_
  rw [fl_nd, fl_nd, sqd_fl, sqd_fl]

end

end Cert.Proof
-- ==== Proof.RNet.lean ====
/- The reference's stages as layers of the network, and its result over the reals. -/
module

public import proofs.«01_k».proof.Proof.RStep

@[expose] public section

noncomputable section

namespace Cert.Proof

open Idealize.ShloMosaic Idealize.ShloMosaic.TcCoe Idealize.SL.Sem Cert.ReferenceIdeal Cert.ReferenceIdeal.Gen Cert.ReferenceIdeal.Read
open scoped BigOperators

variable (R : Arrs) (x3 : IVec S2x473088 32)

/-! ## The weights of each layer -/

/-- The first edge weights of the first layer. -/
theorem w0_e1 {A : Args} (hA : Of A R) (i : Fin 130) (k : Fin 64) :
    val_main_v71 (F := Ideal) R.a8 (ix2 i k) = (A.e1 0 i k : ℝ) := by
  have e : val_main_v71 (F := Ideal) R.a8 (ix2 i k) = R.a8 (ix3 0 i k) := by
    pointwise [val_main_v71, val_main_v70]
    try rfl
  rw [e, hA.e1]

/-- The first edge bias of the first layer. -/
theorem w0_b1 {A : Args} (hA : Of A R) (k : Fin 64) :
    val_main_v74 (F := Ideal) R.a9 (ix1 k) = (A.b1 0 k : ℝ) := by
  have e : val_main_v74 (F := Ideal) R.a9 (ix1 k) = R.a9 (ix2 0 k) := by
    pointwise [val_main_v74, val_main_v73]
    try rfl
  rw [e, hA.b1]

/-- The second edge weights of the first layer. -/
theorem w0_e2 {A : Args} (hA : Of A R) (i : Fin 64) (k : Fin 64) :
    val_main_v86 (F := Ideal) R.a10 (ix2 i k) = (A.e2 0 i k : ℝ) := by
  have e : val_main_v86 (F := Ideal) R.a10 (ix2 i k) = R.a10 (ix3 0 i k) := by
    pointwise [val_main_v86, val_main_v85]
    try rfl
  rw [e, hA.e2]

/-- The second edge bias of the first layer. -/
theorem w0_b2 {A : Args} (hA : Of A R) (k : Fin 64) :
    val_main_v89 (F := Ideal) R.a11 (ix1 k) = (A.b2 0 k : ℝ) := by
  have e : val_main_v89 (F := Ideal) R.a11 (ix1 k) = R.a11 (ix2 0 k) := by
    pointwise [val_main_v89, val_main_v88]
    try rfl
  rw [e, hA.b2]

/-- The coefficient weights of the first layer. -/
theorem w0_c1 {A : Args} (hA : Of A R) (i : Fin 64) (k : Fin 64) :
    val_main_v101 (F := Ideal) R.a16 (ix2 i k) = (A.c1 0 i k : ℝ) := by
  have e : val_main_v101 (F := Ideal) R.a16 (ix2 i k) = R.a16 (ix3 0 i k) := by
    pointwise [val_main_v101, val_main_v100]
    try rfl
  rw [e, hA.c1]

/-- The coefficient bias of the first layer. -/
theorem w0_cb1 {A : Args} (hA : Of A R) (k : Fin 64) :
    val_main_v104 (F := Ideal) R.a17 (ix1 k) = (A.cb1 0 k : ℝ) := by
  have e : val_main_v104 (F := Ideal) R.a17 (ix1 k) = R.a17 (ix2 0 k) := by
    pointwise [val_main_v104, val_main_v103]
    try rfl
  rw [e, hA.cb1]

/-- The last coefficient weights of the first layer. -/
theorem w0_c2 {A : Args} (hA : Of A R) (k : Fin 64) :
    val_main_v116 (F := Ideal) R.a18 (ix2 k (0 : Fin 1)) = (A.c2 0 k : ℝ) := by
  have e : val_main_v116 (F := Ideal) R.a18 (ix2 k (0 : Fin 1)) = R.a18 (ix3 0 k (0 : Fin 1)) := by
    pointwise [val_main_v116, val_main_v115]
    try rfl
  rw [e, hA.c2]

/-- The first node weights of the first layer. -/
theorem w0_n1 {A : Args} (hA : Of A R) (i : Fin 128) (k : Fin 64) :
    val_main_v129 (F := Ideal) R.a12 (ix2 i k) = (A.n1 0 i k : ℝ) := by
  have e : val_main_v129 (F := Ideal) R.a12 (ix2 i k) = R.a12 (ix3 0 i k) := by
    pointwise [val_main_v129, val_main_v128]
    try rfl
  rw [e, hA.n1 _ _ _ (by decide)]

/-- The first node bias of the first layer. -/
theorem w0_nb1 {A : Args} (hA : Of A R) (k : Fin 64) :
    val_main_v132 (F := Ideal) R.a13 (ix1 k) = (A.nb1 0 k : ℝ) := by
  have e : val_main_v132 (F := Ideal) R.a13 (ix1 k) = R.a13 (ix2 0 k) := by
    pointwise [val_main_v132, val_main_v131]
    try rfl
  rw [e, hA.nb1 _ _ (by decide)]

/-- The second node weights of the first layer. -/
theorem w0_n2 {A : Args} (hA : Of A R) (i : Fin 64) (k : Fin 64) :
    val_main_v144 (F := Ideal) R.a14 (ix2 i k) = (A.n2 0 i k : ℝ) := by
  have e : val_main_v144 (F := Ideal) R.a14 (ix2 i k) = R.a14 (ix3 0 i k) := by
    pointwise [val_main_v144, val_main_v143]
    try rfl
  rw [e, hA.n2 _ _ _ (by decide)]

/-- The second node bias of the first layer. -/
theorem w0_nb2 {A : Args} (hA : Of A R) (k : Fin 64) :
    val_main_v147 (F := Ideal) R.a15 (ix1 k) = (A.nb2 0 k : ℝ) := by
  have e : val_main_v147 (F := Ideal) R.a15 (ix1 k) = R.a15 (ix2 0 k) := by
    pointwise [val_main_v147, val_main_v146]
    try rfl
  rw [e, hA.nb2 _ _ (by decide)]

/-- The first edge weights of the second layer. -/
theorem w1_e1 {A : Args} (hA : Of A R) (i : Fin 130) (k : Fin 64) :
    val_main_v186 (F := Ideal) R.a8 (ix2 i k) = (A.e1 1 i k : ℝ) := by
  have e : val_main_v186 (F := Ideal) R.a8 (ix2 i k) = R.a8 (ix3 1 i k) := by
    pointwise [val_main_v186, val_main_v185]
    try rfl
  rw [e, hA.e1]

/-- The first edge bias of the second layer. -/
theorem w1_b1 {A : Args} (hA : Of A R) (k : Fin 64) :
    val_main_v189 (F := Ideal) R.a9 (ix1 k) = (A.b1 1 k : ℝ) := by
  have e : val_main_v189 (F := Ideal) R.a9 (ix1 k) = R.a9 (ix2 1 k) := by
    pointwise [val_main_v189, val_main_v188]
    try rfl
  rw [e, hA.b1]

/-- The second edge weights of the second layer. -/
theorem w1_e2 {A : Args} (hA : Of A R) (i : Fin 64) (k : Fin 64) :
    val_main_v201 (F := Ideal) R.a10 (ix2 i k) = (A.e2 1 i k : ℝ) := by
  have e : val_main_v201 (F := Ideal) R.a10 (ix2 i k) = R.a10 (ix3 1 i k) := by
    pointwise [val_main_v201, val_main_v200]
    try rfl
  rw [e, hA.e2]

/-- The second edge bias of the second layer. -/
theorem w1_b2 {A : Args} (hA : Of A R) (k : Fin 64) :
    val_main_v204 (F := Ideal) R.a11 (ix1 k) = (A.b2 1 k : ℝ) := by
  have e : val_main_v204 (F := Ideal) R.a11 (ix1 k) = R.a11 (ix2 1 k) := by
    pointwise [val_main_v204, val_main_v203]
    try rfl
  rw [e, hA.b2]

/-- The coefficient weights of the second layer. -/
theorem w1_c1 {A : Args} (hA : Of A R) (i : Fin 64) (k : Fin 64) :
    val_main_v216 (F := Ideal) R.a16 (ix2 i k) = (A.c1 1 i k : ℝ) := by
  have e : val_main_v216 (F := Ideal) R.a16 (ix2 i k) = R.a16 (ix3 1 i k) := by
    pointwise [val_main_v216, val_main_v215]
    try rfl
  rw [e, hA.c1]

/-- The coefficient bias of the second layer. -/
theorem w1_cb1 {A : Args} (hA : Of A R) (k : Fin 64) :
    val_main_v219 (F := Ideal) R.a17 (ix1 k) = (A.cb1 1 k : ℝ) := by
  have e : val_main_v219 (F := Ideal) R.a17 (ix1 k) = R.a17 (ix2 1 k) := by
    pointwise [val_main_v219, val_main_v218]
    try rfl
  rw [e, hA.cb1]

/-- The last coefficient weights of the second layer. -/
theorem w1_c2 {A : Args} (hA : Of A R) (k : Fin 64) :
    val_main_v231 (F := Ideal) R.a18 (ix2 k (0 : Fin 1)) = (A.c2 1 k : ℝ) := by
  have e : val_main_v231 (F := Ideal) R.a18 (ix2 k (0 : Fin 1)) = R.a18 (ix3 1 k (0 : Fin 1)) := by
    pointwise [val_main_v231, val_main_v230]
    try rfl
  rw [e, hA.c2]

/-- The first node weights of the second layer. -/
theorem w1_n1 {A : Args} (hA : Of A R) (i : Fin 128) (k : Fin 64) :
    val_main_v244 (F := Ideal) R.a12 (ix2 i k) = (A.n1 1 i k : ℝ) := by
  have e : val_main_v244 (F := Ideal) R.a12 (ix2 i k) = R.a12 (ix3 1 i k) := by
    pointwise [val_main_v244, val_main_v243]
    try rfl
  rw [e, hA.n1 _ _ _ (by decide)]

/-- The first node bias of the second layer. -/
theorem w1_nb1 {A : Args} (hA : Of A R) (k : Fin 64) :
    val_main_v247 (F := Ideal) R.a13 (ix1 k) = (A.nb1 1 k : ℝ) := by
  have e : val_main_v247 (F := Ideal) R.a13 (ix1 k) = R.a13 (ix2 1 k) := by
    pointwise [val_main_v247, val_main_v246]
    try rfl
  rw [e, hA.nb1 _ _ (by decide)]

/-- The second node weights of the second layer. -/
theorem w1_n2 {A : Args} (hA : Of A R) (i : Fin 64) (k : Fin 64) :
    val_main_v259 (F := Ideal) R.a14 (ix2 i k) = (A.n2 1 i k : ℝ) := by
  have e : val_main_v259 (F := Ideal) R.a14 (ix2 i k) = R.a14 (ix3 1 i k) := by
    pointwise [val_main_v259, val_main_v258]
    try rfl
  rw [e, hA.n2 _ _ _ (by decide)]

/-- The second node bias of the second layer. -/
theorem w1_nb2 {A : Args} (hA : Of A R) (k : Fin 64) :
    val_main_v262 (F := Ideal) R.a15 (ix1 k) = (A.nb2 1 k : ℝ) := by
  have e : val_main_v262 (F := Ideal) R.a15 (ix1 k) = R.a15 (ix2 1 k) := by
    pointwise [val_main_v262, val_main_v261]
    try rfl
  rw [e, hA.nb2 _ _ (by decide)]

/-- The first edge weights of the third layer. -/
theorem w2_e1 {A : Args} (hA : Of A R) (i : Fin 130) (k : Fin 64) :
    val_main_v301 (F := Ideal) R.a8 (ix2 i k) = (A.e1 2 i k : ℝ) := by
  have e : val_main_v301 (F := Ideal) R.a8 (ix2 i k) = R.a8 (ix3 2 i k) := by
    pointwise [val_main_v301, val_main_v300]
    try rfl
  rw [e, hA.e1]

/-- The first edge bias of the third layer. -/
theorem w2_b1 {A : Args} (hA : Of A R) (k : Fin 64) :
    val_main_v304 (F := Ideal) R.a9 (ix1 k) = (A.b1 2 k : ℝ) := by
  have e : val_main_v304 (F := Ideal) R.a9 (ix1 k) = R.a9 (ix2 2 k) := by
    pointwise [val_main_v304, val_main_v303]
    try rfl
  rw [e, hA.b1]

/-- The second edge weights of the third layer. -/
theorem w2_e2 {A : Args} (hA : Of A R) (i : Fin 64) (k : Fin 64) :
    val_main_v316 (F := Ideal) R.a10 (ix2 i k) = (A.e2 2 i k : ℝ) := by
  have e : val_main_v316 (F := Ideal) R.a10 (ix2 i k) = R.a10 (ix3 2 i k) := by
    pointwise [val_main_v316, val_main_v315]
    try rfl
  rw [e, hA.e2]

/-- The second edge bias of the third layer. -/
theorem w2_b2 {A : Args} (hA : Of A R) (k : Fin 64) :
    val_main_v319 (F := Ideal) R.a11 (ix1 k) = (A.b2 2 k : ℝ) := by
  have e : val_main_v319 (F := Ideal) R.a11 (ix1 k) = R.a11 (ix2 2 k) := by
    pointwise [val_main_v319, val_main_v318]
    try rfl
  rw [e, hA.b2]

/-- The coefficient weights of the third layer. -/
theorem w2_c1 {A : Args} (hA : Of A R) (i : Fin 64) (k : Fin 64) :
    val_main_v331 (F := Ideal) R.a16 (ix2 i k) = (A.c1 2 i k : ℝ) := by
  have e : val_main_v331 (F := Ideal) R.a16 (ix2 i k) = R.a16 (ix3 2 i k) := by
    pointwise [val_main_v331, val_main_v330]
    try rfl
  rw [e, hA.c1]

/-- The coefficient bias of the third layer. -/
theorem w2_cb1 {A : Args} (hA : Of A R) (k : Fin 64) :
    val_main_v334 (F := Ideal) R.a17 (ix1 k) = (A.cb1 2 k : ℝ) := by
  have e : val_main_v334 (F := Ideal) R.a17 (ix1 k) = R.a17 (ix2 2 k) := by
    pointwise [val_main_v334, val_main_v333]
    try rfl
  rw [e, hA.cb1]

/-- The last coefficient weights of the third layer. -/
theorem w2_c2 {A : Args} (hA : Of A R) (k : Fin 64) :
    val_main_v346 (F := Ideal) R.a18 (ix2 k (0 : Fin 1)) = (A.c2 2 k : ℝ) := by
  have e : val_main_v346 (F := Ideal) R.a18 (ix2 k (0 : Fin 1)) = R.a18 (ix3 2 k (0 : Fin 1)) := by
    pointwise [val_main_v346, val_main_v345]
    try rfl
  rw [e, hA.c2]

/-- The first node weights of the third layer. -/
theorem w2_n1 {A : Args} (hA : Of A R) (i : Fin 128) (k : Fin 64) :
    val_main_v359 (F := Ideal) R.a12 (ix2 i k) = (A.n1 2 i k : ℝ) := by
  have e : val_main_v359 (F := Ideal) R.a12 (ix2 i k) = R.a12 (ix3 2 i k) := by
    pointwise [val_main_v359, val_main_v358]
    try rfl
  rw [e, hA.n1 _ _ _ (by decide)]

/-- The first node bias of the third layer. -/
theorem w2_nb1 {A : Args} (hA : Of A R) (k : Fin 64) :
    val_main_v362 (F := Ideal) R.a13 (ix1 k) = (A.nb1 2 k : ℝ) := by
  have e : val_main_v362 (F := Ideal) R.a13 (ix1 k) = R.a13 (ix2 2 k) := by
    pointwise [val_main_v362, val_main_v361]
    try rfl
  rw [e, hA.nb1 _ _ (by decide)]

/-- The second node weights of the third layer. -/
theorem w2_n2 {A : Args} (hA : Of A R) (i : Fin 64) (k : Fin 64) :
    val_main_v374 (F := Ideal) R.a14 (ix2 i k) = (A.n2 2 i k : ℝ) := by
  have e : val_main_v374 (F := Ideal) R.a14 (ix2 i k) = R.a14 (ix3 2 i k) := by
    pointwise [val_main_v374, val_main_v373]
    try rfl
  rw [e, hA.n2 _ _ _ (by decide)]

/-- The second node bias of the third layer. -/
theorem w2_nb2 {A : Args} (hA : Of A R) (k : Fin 64) :
    val_main_v377 (F := Ideal) R.a15 (ix1 k) = (A.nb2 2 k : ℝ) := by
  have e : val_main_v377 (F := Ideal) R.a15 (ix1 k) = R.a15 (ix2 2 k) := by
    pointwise [val_main_v377, val_main_v376]
    try rfl
  rw [e, hA.nb2 _ _ (by decide)]

/-- The first edge weights of the last layer. -/
theorem w3_e1 {A : Args} (hA : Of A R) (i : Fin 130) (k : Fin 64) :
    val_main_v416 (F := Ideal) R.a8 (ix2 i k) = (A.e1 3 i k : ℝ) := by
  have e : val_main_v416 (F := Ideal) R.a8 (ix2 i k) = R.a8 (ix3 3 i k) := by
    pointwise [val_main_v416, val_main_v415]
    try rfl
  rw [e, hA.e1]

/-- The first edge bias of the last layer. -/
theorem w3_b1 {A : Args} (hA : Of A R) (k : Fin 64) :
    val_main_v419 (F := Ideal) R.a9 (ix1 k) = (A.b1 3 k : ℝ) := by
  have e : val_main_v419 (F := Ideal) R.a9 (ix1 k) = R.a9 (ix2 3 k) := by
    pointwise [val_main_v419, val_main_v418]
    try rfl
  rw [e, hA.b1]

/-- The second edge weights of the last layer. -/
theorem w3_e2 {A : Args} (hA : Of A R) (i : Fin 64) (k : Fin 64) :
    val_main_v431 (F := Ideal) R.a10 (ix2 i k) = (A.e2 3 i k : ℝ) := by
  have e : val_main_v431 (F := Ideal) R.a10 (ix2 i k) = R.a10 (ix3 3 i k) := by
    pointwise [val_main_v431, val_main_v430]
    try rfl
  rw [e, hA.e2]

/-- The second edge bias of the last layer. -/
theorem w3_b2 {A : Args} (hA : Of A R) (k : Fin 64) :
    val_main_v434 (F := Ideal) R.a11 (ix1 k) = (A.b2 3 k : ℝ) := by
  have e : val_main_v434 (F := Ideal) R.a11 (ix1 k) = R.a11 (ix2 3 k) := by
    pointwise [val_main_v434, val_main_v433]
    try rfl
  rw [e, hA.b2]

/-- The coefficient weights of the last layer. -/
theorem w3_c1 {A : Args} (hA : Of A R) (i : Fin 64) (k : Fin 64) :
    val_main_v446 (F := Ideal) R.a16 (ix2 i k) = (A.c1 3 i k : ℝ) := by
  have e : val_main_v446 (F := Ideal) R.a16 (ix2 i k) = R.a16 (ix3 3 i k) := by
    pointwise [val_main_v446, val_main_v445]
    try rfl
  rw [e, hA.c1]

/-- The coefficient bias of the last layer. -/
theorem w3_cb1 {A : Args} (hA : Of A R) (k : Fin 64) :
    val_main_v449 (F := Ideal) R.a17 (ix1 k) = (A.cb1 3 k : ℝ) := by
  have e : val_main_v449 (F := Ideal) R.a17 (ix1 k) = R.a17 (ix2 3 k) := by
    pointwise [val_main_v449, val_main_v448]
    try rfl
  rw [e, hA.cb1]

/-- The last coefficient weights of the last layer. -/
theorem w3_c2 {A : Args} (hA : Of A R) (k : Fin 64) :
    val_main_v461 (F := Ideal) R.a18 (ix2 k (0 : Fin 1)) = (A.c2 3 k : ℝ) := by
  have e : val_main_v461 (F := Ideal) R.a18 (ix2 k (0 : Fin 1)) = R.a18 (ix3 3 k (0 : Fin 1)) := by
    pointwise [val_main_v461, val_main_v460]
    try rfl
  rw [e, hA.c2]

/-! ## The stages -/

/-- The stage of the squared lengths at the start. -/
theorem E_eq : (val_main_v32 (F := Ideal) R.a1 x3) = rad (dif (val_main_v4 (F := Ideal) R.a1) (val_main_v1 (F := Ideal) x3) (val_main_v3 (F := Ideal) x3)) := rfl

/-- The stage of the coordinate differences of the first layer. -/
theorem D0_eq : (val_main_v51 (F := Ideal) R.a1 x3) = dif (val_main_v4 (F := Ideal) R.a1) (val_main_v1 (F := Ideal) x3) (val_main_v3 (F := Ideal) x3) := rfl

/-- The stage of the messages of the first layer. -/
theorem M0_eq : (val_main_v99 (F := Ideal) R.a0 R.a1 R.a2 x3 R.a4 R.a5 R.a8 R.a9 R.a10 R.a11)
    = mess (edgeIn (val_main_v36 (F := Ideal) R.a0 R.a2 R.a4 R.a5) (val_main_v1 (F := Ideal) x3) (val_main_v3 (F := Ideal) x3) (rad (val_main_v51 (F := Ideal) R.a1 x3)) (val_main_v32 (F := Ideal) R.a1 x3)) (val_main_v71 (F := Ideal) R.a8) (val_main_v74 (F := Ideal) R.a9) (val_main_v86 (F := Ideal) R.a10) (val_main_v89 (F := Ideal) R.a11) := rfl

/-- The stage of the coordinates after the first layer. -/
theorem X0_eq : (val_main_v123 (F := Ideal) R.a0 R.a1 R.a2 x3 R.a4 R.a5 R.a8 R.a9 R.a10 R.a11 R.a16 R.a17 R.a18)
    = newX (val_main_v4 (F := Ideal) R.a1) (val_main_v51 (F := Ideal) R.a1 x3) (coefs (val_main_v99 (F := Ideal) R.a0 R.a1 R.a2 x3 R.a4 R.a5 R.a8 R.a9 R.a10 R.a11) (val_main_v101 (F := Ideal) R.a16) (val_main_v104 (F := Ideal) R.a17) (val_main_v116 (F := Ideal) R.a18)) (val_main_v1 (F := Ideal) x3) := rfl

/-- The stage of the features after the first layer. -/
theorem H0_eq : (val_main_v151 (F := Ideal) R.a0 R.a1 R.a2 x3 R.a4 R.a5 R.a8 R.a9 R.a10 R.a11 R.a12 R.a13 R.a14 R.a15)
    = newH (val_main_v36 (F := Ideal) R.a0 R.a2 R.a4 R.a5) (nodeIn (val_main_v36 (F := Ideal) R.a0 R.a2 R.a4 R.a5) (val_main_v99 (F := Ideal) R.a0 R.a1 R.a2 x3 R.a4 R.a5 R.a8 R.a9 R.a10 R.a11) (val_main_v1 (F := Ideal) x3)) (val_main_v129 (F := Ideal) R.a12) (val_main_v132 (F := Ideal) R.a13) (val_main_v144 (F := Ideal) R.a14) (val_main_v147 (F := Ideal) R.a15) := rfl

/-- The stage of the coordinate differences of the second layer. -/
theorem D1_eq : (val_main_v166 (F := Ideal) R.a0 R.a1 R.a2 x3 R.a4 R.a5 R.a8 R.a9 R.a10 R.a11 R.a16 R.a17 R.a18) = dif (val_main_v123 (F := Ideal) R.a0 R.a1 R.a2 x3 R.a4 R.a5 R.a8 R.a9 R.a10 R.a11 R.a16 R.a17 R.a18) (val_main_v1 (F := Ideal) x3) (val_main_v3 (F := Ideal) x3) := rfl

/-- The stage of the messages of the second layer. -/
theorem M1_eq : (val_main_v214 (F := Ideal) R.a0 R.a1 R.a2 x3 R.a4 R.a5 R.a8 R.a9 R.a10 R.a11 R.a12 R.a13 R.a14 R.a15 R.a16 R.a17 R.a18)
    = mess (edgeIn (val_main_v151 (F := Ideal) R.a0 R.a1 R.a2 x3 R.a4 R.a5 R.a8 R.a9 R.a10 R.a11 R.a12 R.a13 R.a14 R.a15) (val_main_v1 (F := Ideal) x3) (val_main_v3 (F := Ideal) x3) (rad (val_main_v166 (F := Ideal) R.a0 R.a1 R.a2 x3 R.a4 R.a5 R.a8 R.a9 R.a10 R.a11 R.a16 R.a17 R.a18)) (val_main_v32 (F := Ideal) R.a1 x3)) (val_main_v186 (F := Ideal) R.a8) (val_main_v189 (F := Ideal) R.a9) (val_main_v201 (F := Ideal) R.a10) (val_main_v204 (F := Ideal) R.a11) := rfl

/-- The stage of the coordinates after the second layer. -/
theorem X1_eq : (val_main_v238 (F := Ideal) R.a0 R.a1 R.a2 x3 R.a4 R.a5 R.a8 R.a9 R.a10 R.a11 R.a12 R.a13 R.a14 R.a15 R.a16 R.a17 R.a18)
    = newX (val_main_v123 (F := Ideal) R.a0 R.a1 R.a2 x3 R.a4 R.a5 R.a8 R.a9 R.a10 R.a11 R.a16 R.a17 R.a18) (val_main_v166 (F := Ideal) R.a0 R.a1 R.a2 x3 R.a4 R.a5 R.a8 R.a9 R.a10 R.a11 R.a16 R.a17 R.a18) (coefs (val_main_v214 (F := Ideal) R.a0 R.a1 R.a2 x3 R.a4 R.a5 R.a8 R.a9 R.a10 R.a11 R.a12 R.a13 R.a14 R.a15 R.a16 R.a17 R.a18) (val_main_v216 (F := Ideal) R.a16) (val_main_v219 (F := Ideal) R.a17) (val_main_v231 (F := Ideal) R.a18)) (val_main_v1 (F := Ideal) x3) := rfl

/-- The stage of the features after the second layer. -/
theorem H1_eq : (val_main_v266 (F := Ideal) R.a0 R.a1 R.a2 x3 R.a4 R.a5 R.a8 R.a9 R.a10 R.a11 R.a12 R.a13 R.a14 R.a15 R.a16 R.a17 R.a18)
    = newH (val_main_v151 (F := Ideal) R.a0 R.a1 R.a2 x3 R.a4 R.a5 R.a8 R.a9 R.a10 R.a11 R.a12 R.a13 R.a14 R.a15) (nodeIn (val_main_v151 (F := Ideal) R.a0 R.a1 R.a2 x3 R.a4 R.a5 R.a8 R.a9 R.a10 R.a11 R.a12 R.a13 R.a14 R.a15) (val_main_v214 (F := Ideal) R.a0 R.a1 R.a2 x3 R.a4 R.a5 R.a8 R.a9 R.a10 R.a11 R.a12 R.a13 R.a14 R.a15 R.a16 R.a17 R.a18) (val_main_v1 (F := Ideal) x3)) (val_main_v244 (F := Ideal) R.a12) (val_main_v247 (F := Ideal) R.a13) (val_main_v259 (F := Ideal) R.a14) (val_main_v262 (F := Ideal) R.a15) := rfl

/-- The stage of the coordinate differences of the third layer. -/
theorem D2_eq : (val_main_v281 (F := Ideal) R.a0 R.a1 R.a2 x3 R.a4 R.a5 R.a8 R.a9 R.a10 R.a11 R.a12 R.a13 R.a14 R.a15 R.a16 R.a17 R.a18) = dif (val_main_v238 (F := Ideal) R.a0 R.a1 R.a2 x3 R.a4 R.a5 R.a8 R.a9 R.a10 R.a11 R.a12 R.a13 R.a14 R.a15 R.a16 R.a17 R.a18) (val_main_v1 (F := Ideal) x3) (val_main_v3 (F := Ideal) x3) := rfl

/-- The stage of the messages of the third layer. -/
theorem M2_eq : (val_main_v329 (F := Ideal) R.a0 R.a1 R.a2 x3 R.a4 R.a5 R.a8 R.a9 R.a10 R.a11 R.a12 R.a13 R.a14 R.a15 R.a16 R.a17 R.a18)
    = mess (edgeIn (val_main_v266 (F := Ideal) R.a0 R.a1 R.a2 x3 R.a4 R.a5 R.a8 R.a9 R.a10 R.a11 R.a12 R.a13 R.a14 R.a15 R.a16 R.a17 R.a18) (val_main_v1 (F := Ideal) x3) (val_main_v3 (F := Ideal) x3) (rad (val_main_v281 (F := Ideal) R.a0 R.a1 R.a2 x3 R.a4 R.a5 R.a8 R.a9 R.a10 R.a11 R.a12 R.a13 R.a14 R.a15 R.a16 R.a17 R.a18)) (val_main_v32 (F := Ideal) R.a1 x3)) (val_main_v301 (F := Ideal) R.a8) (val_main_v304 (F := Ideal) R.a9) (val_main_v316 (F := Ideal) R.a10) (val_main_v319 (F := Ideal) R.a11) := rfl

/-- The stage of the coordinates after the third layer. -/
theorem X2_eq : (val_main_v353 (F := Ideal) R.a0 R.a1 R.a2 x3 R.a4 R.a5 R.a8 R.a9 R.a10 R.a11 R.a12 R.a13 R.a14 R.a15 R.a16 R.a17 R.a18)
    = newX (val_main_v238 (F := Ideal) R.a0 R.a1 R.a2 x3 R.a4 R.a5 R.a8 R.a9 R.a10 R.a11 R.a12 R.a13 R.a14 R.a15 R.a16 R.a17 R.a18) (val_main_v281 (F := Ideal) R.a0 R.a1 R.a2 x3 R.a4 R.a5 R.a8 R.a9 R.a10 R.a11 R.a12 R.a13 R.a14 R.a15 R.a16 R.a17 R.a18) (coefs (val_main_v329 (F := Ideal) R.a0 R.a1 R.a2 x3 R.a4 R.a5 R.a8 R.a9 R.a10 R.a11 R.a12 R.a13 R.a14 R.a15 R.a16 R.a17 R.a18) (val_main_v331 (F := Ideal) R.a16) (val_main_v334 (F := Ideal) R.a17) (val_main_v346 (F := Ideal) R.a18)) (val_main_v1 (F := Ideal) x3) := rfl

/-- The stage of the features after the third layer. -/
theorem H2_eq : (val_main_v381 (F := Ideal) R.a0 R.a1 R.a2 x3 R.a4 R.a5 R.a8 R.a9 R.a10 R.a11 R.a12 R.a13 R.a14 R.a15 R.a16 R.a17 R.a18)
    = newH (val_main_v266 (F := Ideal) R.a0 R.a1 R.a2 x3 R.a4 R.a5 R.a8 R.a9 R.a10 R.a11 R.a12 R.a13 R.a14 R.a15 R.a16 R.a17 R.a18) (nodeIn (val_main_v266 (F := Ideal) R.a0 R.a1 R.a2 x3 R.a4 R.a5 R.a8 R.a9 R.a10 R.a11 R.a12 R.a13 R.a14 R.a15 R.a16 R.a17 R.a18) (val_main_v329 (F := Ideal) R.a0 R.a1 R.a2 x3 R.a4 R.a5 R.a8 R.a9 R.a10 R.a11 R.a12 R.a13 R.a14 R.a15 R.a16 R.a17 R.a18) (val_main_v1 (F := Ideal) x3)) (val_main_v359 (F := Ideal) R.a12) (val_main_v362 (F := Ideal) R.a13) (val_main_v374 (F := Ideal) R.a14) (val_main_v377 (F := Ideal) R.a15) := rfl

/-- The stage of the coordinate differences of the last layer. -/
theorem D3_eq : (val_main_v396 (F := Ideal) R.a0 R.a1 R.a2 x3 R.a4 R.a5 R.a8 R.a9 R.a10 R.a11 R.a12 R.a13 R.a14 R.a15 R.a16 R.a17 R.a18) = dif (val_main_v353 (F := Ideal) R.a0 R.a1 R.a2 x3 R.a4 R.a5 R.a8 R.a9 R.a10 R.a11 R.a12 R.a13 R.a14 R.a15 R.a16 R.a17 R.a18) (val_main_v1 (F := Ideal) x3) (val_main_v3 (F := Ideal) x3) := rfl

/-- The stage of the messages of the last layer. -/
theorem M3_eq : (val_main_v444 (F := Ideal) R.a0 R.a1 R.a2 x3 R.a4 R.a5 R.a8 R.a9 R.a10 R.a11 R.a12 R.a13 R.a14 R.a15 R.a16 R.a17 R.a18)
    = mess (edgeIn (val_main_v381 (F := Ideal) R.a0 R.a1 R.a2 x3 R.a4 R.a5 R.a8 R.a9 R.a10 R.a11 R.a12 R.a13 R.a14 R.a15 R.a16 R.a17 R.a18) (val_main_v1 (F := Ideal) x3) (val_main_v3 (F := Ideal) x3) (rad (val_main_v396 (F := Ideal) R.a0 R.a1 R.a2 x3 R.a4 R.a5 R.a8 R.a9 R.a10 R.a11 R.a12 R.a13 R.a14 R.a15 R.a16 R.a17 R.a18)) (val_main_v32 (F := Ideal) R.a1 x3)) (val_main_v416 (F := Ideal) R.a8) (val_main_v419 (F := Ideal) R.a9) (val_main_v431 (F := Ideal) R.a10) (val_main_v434 (F := Ideal) R.a11) := rfl

/-- The stage of the coordinates after the last layer. -/
theorem X3_eq : (val_main_v468 (F := Ideal) R.a0 R.a1 R.a2 x3 R.a4 R.a5 R.a8 R.a9 R.a10 R.a11 R.a12 R.a13 R.a14 R.a15 R.a16 R.a17 R.a18)
    = newX (val_main_v353 (F := Ideal) R.a0 R.a1 R.a2 x3 R.a4 R.a5 R.a8 R.a9 R.a10 R.a11 R.a12 R.a13 R.a14 R.a15 R.a16 R.a17 R.a18) (val_main_v396 (F := Ideal) R.a0 R.a1 R.a2 x3 R.a4 R.a5 R.a8 R.a9 R.a10 R.a11 R.a12 R.a13 R.a14 R.a15 R.a16 R.a17 R.a18) (coefs (val_main_v444 (F := Ideal) R.a0 R.a1 R.a2 x3 R.a4 R.a5 R.a8 R.a9 R.a10 R.a11 R.a12 R.a13 R.a14 R.a15 R.a16 R.a17 R.a18) (val_main_v446 (F := Ideal) R.a16) (val_main_v449 (F := Ideal) R.a17) (val_main_v461 (F := Ideal) R.a18)) (val_main_v1 (F := Ideal) x3) := rfl

/-! ## The first stages over the reals -/

section First

variable {R} {A : Args} (hA : Of A R)

include hA in
/-- The coordinates at the start, over the reals. -/
theorem X_0 (n : Fin 22528) (d : Fin 3) : val_main_v4 (F := Ideal) R.a1 (ix2 n d) = (fl A.x n d : ℝ) := by
  rw [val_main_v4_apply]
  have hn := n.isLt
  have hd := d.isLt
  have e : idx_main_v4 (ix2 n d) = ix2 ⟨n.val / 22, by omega⟩ ⟨n.val % 22 * 3 + d.val, by omega⟩ := by
    funext a
    refine Fin.ext ?_
    match a with
    | ⟨0, _⟩ => show (n.val * 3 + d.val) / 66 = n.val / 22; omega
    | ⟨1, _⟩ => show (n.val * 3 + d.val) % 66 = n.val % 22 * 3 + d.val; omega
  rw [e]
  exact hA.xs _ _

/-- The initial features of a row are those of its particle. -/
theorem tile_apply (n : Fin 22528) (r : Fin 4) :
    val_main_v9 (F := Ideal) R.a2 (ix2 n r) = R.a2 (ix2 (⟨n.val % 22, by omega⟩ : Fin 22) r) := by
  rw [val_main_v9_apply, val_main_v8_apply, val_main_v7_apply, val_main_v6_apply, val_main_v5_apply]
  have hn := n.isLt
  have hr := r.isLt
  refine congrArg R.a2 (funext fun a => Fin.ext ?_)
  match a with
  | ⟨0, _⟩ => simp [idx_main_v9, idx_main_v8, idx_main_v7, idx_main_v6, idx_main_v5, ix2]; omega
  | ⟨1, _⟩ => simp [idx_main_v9, idx_main_v8, idx_main_v7, idx_main_v6, idx_main_v5, ix2]

/-- The time of a row is that of its sample. -/
theorem time_apply (n : Fin 22528) :
    val_main_v13 (F := Ideal) R.a0 (ix2 n (0 : Fin 1)) = R.a0 (ix2 (⟨n.val / 22, by omega⟩ : Fin 1024) (0 : Fin 1)) := by
  rw [val_main_v13_apply, val_main_v12_apply, val_main_v11_apply, val_main_v10_apply]
  have hn := n.isLt
  refine congrArg R.a0 (funext fun a => Fin.ext ?_)
  match a with
  | ⟨0, _⟩ => simp [idx_main_v13, idx_main_v12, idx_main_v11, idx_main_v10, ix2]; omega
  | ⟨1, _⟩ => rfl

/-- The input of the embedding. -/
theorem in_apply (n : Fin 22528) (r : Fin 5) : val_main_v14 (F := Ideal) R.a0 R.a2 (ix2 n r)
    = if h : r.val < 4 then R.a2 (ix2 (⟨n.val % 22, by omega⟩ : Fin 22) ⟨r.val, h⟩) else R.a0 (ix2 (⟨n.val / 22, by omega⟩ : Fin 1024) (0 : Fin 1)) := by
  unfold val_main_v14
  have e1 := tile_apply (R := R) n
  have e2 := time_apply (R := R) n
  generalize val_main_v9 (F := Ideal) R.a2 = a at *
  generalize val_main_v13 (F := Ideal) R.a0 = b at *
  have hr := r.isLt
  pointwise []
  by_cases h : r.val < 4
  · rw [dif_pos h, dif_pos h]; exact e1 _
  · rw [dif_neg h, dif_neg h, ← e2]
    exact congrArg b (congrArg (ix2 n) (Subsingleton.elim _ _))

include hA in
/-- The features at the start, over the reals. -/
theorem H_0 (n : Fin 22528) (k : Fin 64) : val_main_v36 (F := Ideal) R.a0 R.a2 R.a4 R.a5 (ix2 n k) = (fl A.h n k : ℝ) := by
  show val_main_v33 (F := Ideal) R.a0 R.a2 R.a4 (ix2 n k) + biasN R.a5 (ix2 n k) = _
  rw [biasN_apply, hA.eb]
  unfold val_main_v33
  have hi : ∀ r : Fin 5, val_main_v14 (F := Ideal) R.a0 R.a2 (ix2 n r)
      = ((if h : r.val < 4 then A.hi ⟨n.val % 22, by omega⟩ ⟨r.val, h⟩ else A.t ⟨n.val / 22, by omega⟩ : ℝ) : EReal) := by
    intro r
    rw [in_apply]
    by_cases h : r.val < 4
    · rw [dif_pos h, dif_pos h]; exact hA.hi _ _
    · rw [dif_neg h, dif_neg h]; exact hA.t _
  refine (congrArg (· + ((A.eb k : ℝ) : EReal)) ((StackMember.dotGeneral_plain_apply none (val_main_v14 (F := Ideal) R.a0 R.a2) R.a4 n k).trans
    (dot_real _ _ _ _ hi fun r => hA.em r k))).trans ?_
  rw [← EReal.coe_add]
  refine congrArg _ ?_
  unfold fl Args.h feat
  rw [Fin.sum_univ_castSucc]
  rfl

end First

/-! ## The layers over the reals -/

/-- The samples before a layer. -/
def samp (A : Args) : ℕ → Fin 1024 → (Fin 22 → Fin 3 → ℝ) × (Fin 22 → Fin 64 → ℝ)
  | 0, b => (A.x b, A.h b)
  | 1, b => lay (A.W 0) (sqd (A.x b)) (A.x b, A.h b)
  | 2, b => lay (A.W 1) (sqd (A.x b)) (lay (A.W 0) (sqd (A.x b)) (A.x b, A.h b))
  | _, b => lay3 A.W (A.x b) (A.h b)

section Layers

variable {R} {x3} {A : Args} (hA : Of A R) (hv : Ends (val_main_v1 (F := Ideal) x3) rowOf) (hu : Ends (val_main_v3 (F := Ideal) x3) colOf)
include hA hv hu

/-- The squared lengths at the start, over the reals. -/
theorem E_real (e : Fin 473088) : (val_main_v32 (F := Ideal) R.a1 x3) (ix2 e (0 : Fin 1)) = (sqd (fl A.x) (rowOf e) (colOf e) : ℝ) := by
  rw [E_eq]
  exact rad_dif hv hu (X_0 hA) e

/-- The coordinates after the first layer, over the reals. -/
theorem X_1 (n : Fin 22528) (d : Fin 3) :
    (val_main_v123 (F := Ideal) R.a0 R.a1 R.a2 x3 R.a4 R.a5 R.a8 R.a9 R.a10 R.a11 R.a16 R.a17 R.a18) (ix2 n d)
      = (fl (fun b => (samp A 1 b).1) n d : ℝ) := by
  rw [X0_eq, M0_eq, D0_eq]
  exact step_X (x := fun b => (samp A 0 b).1) (h := fun b => (samp A 0 b).2) hv hu A 0 (X_0 hA) (H_0 hA) (E_real hA hv hu) (w0_e1 R hA) (w0_b1 R hA) (w0_e2 R hA) (w0_b2 R hA) (w0_c1 R hA) (w0_cb1 R hA) (w0_c2 R hA) n d

/-- The features after the first layer, over the reals. -/
theorem H_1 (n : Fin 22528) (k : Fin 64) :
    (val_main_v151 (F := Ideal) R.a0 R.a1 R.a2 x3 R.a4 R.a5 R.a8 R.a9 R.a10 R.a11 R.a12 R.a13 R.a14 R.a15) (ix2 n k)
      = (fl (fun b => (samp A 1 b).2) n k : ℝ) := by
  rw [H0_eq, M0_eq, D0_eq]
  exact step_H (x := fun b => (samp A 0 b).1) (h := fun b => (samp A 0 b).2) hv hu A 0 (X_0 hA) (H_0 hA) (E_real hA hv hu) (w0_e1 R hA) (w0_b1 R hA) (w0_e2 R hA) (w0_b2 R hA) (w0_n1 R hA) (w0_nb1 R hA) (w0_n2 R hA) (w0_nb2 R hA) n k

/-- The coordinates after the second layer, over the reals. -/
theorem X_2 (n : Fin 22528) (d : Fin 3) :
    (val_main_v238 (F := Ideal) R.a0 R.a1 R.a2 x3 R.a4 R.a5 R.a8 R.a9 R.a10 R.a11 R.a12 R.a13 R.a14 R.a15 R.a16 R.a17 R.a18) (ix2 n d)
      = (fl (fun b => (samp A 2 b).1) n d : ℝ) := by
  rw [X1_eq, M1_eq, D1_eq]
  exact step_X (x := fun b => (samp A 1 b).1) (h := fun b => (samp A 1 b).2) hv hu A 1 (X_1 hA hv hu) (H_1 hA hv hu) (E_real hA hv hu) (w1_e1 R hA) (w1_b1 R hA) (w1_e2 R hA) (w1_b2 R hA) (w1_c1 R hA) (w1_cb1 R hA) (w1_c2 R hA) n d

/-- The features after the second layer, over the reals. -/
theorem H_2 (n : Fin 22528) (k : Fin 64) :
    (val_main_v266 (F := Ideal) R.a0 R.a1 R.a2 x3 R.a4 R.a5 R.a8 R.a9 R.a10 R.a11 R.a12 R.a13 R.a14 R.a15 R.a16 R.a17 R.a18) (ix2 n k)
      = (fl (fun b => (samp A 2 b).2) n k : ℝ) := by
  rw [H1_eq, M1_eq, D1_eq]
  exact step_H (x := fun b => (samp A 1 b).1) (h := fun b => (samp A 1 b).2) hv hu A 1 (X_1 hA hv hu) (H_1 hA hv hu) (E_real hA hv hu) (w1_e1 R hA) (w1_b1 R hA) (w1_e2 R hA) (w1_b2 R hA) (w1_n1 R hA) (w1_nb1 R hA) (w1_n2 R hA) (w1_nb2 R hA) n k

/-- The coordinates after the third layer, over the reals. -/
theorem X_3 (n : Fin 22528) (d : Fin 3) :
    (val_main_v353 (F := Ideal) R.a0 R.a1 R.a2 x3 R.a4 R.a5 R.a8 R.a9 R.a10 R.a11 R.a12 R.a13 R.a14 R.a15 R.a16 R.a17 R.a18) (ix2 n d)
      = (fl (fun b => (samp A 3 b).1) n d : ℝ) := by
  rw [X2_eq, M2_eq, D2_eq]
  exact step_X (x := fun b => (samp A 2 b).1) (h := fun b => (samp A 2 b).2) hv hu A 2 (X_2 hA hv hu) (H_2 hA hv hu) (E_real hA hv hu) (w2_e1 R hA) (w2_b1 R hA) (w2_e2 R hA) (w2_b2 R hA) (w2_c1 R hA) (w2_cb1 R hA) (w2_c2 R hA) n d

/-- The features after the third layer, over the reals. -/
theorem H_3 (n : Fin 22528) (k : Fin 64) :
    (val_main_v381 (F := Ideal) R.a0 R.a1 R.a2 x3 R.a4 R.a5 R.a8 R.a9 R.a10 R.a11 R.a12 R.a13 R.a14 R.a15 R.a16 R.a17 R.a18) (ix2 n k)
      = (fl (fun b => (samp A 3 b).2) n k : ℝ) := by
  rw [H2_eq, M2_eq, D2_eq]
  exact step_H (x := fun b => (samp A 2 b).1) (h := fun b => (samp A 2 b).2) hv hu A 2 (X_2 hA hv hu) (H_2 hA hv hu) (E_real hA hv hu) (w2_e1 R hA) (w2_b1 R hA) (w2_e2 R hA) (w2_b2 R hA) (w2_n1 R hA) (w2_nb1 R hA) (w2_n2 R hA) (w2_nb2 R hA) n k

/-- The coordinates after the last layer, over the reals. -/
theorem X_4 (n : Fin 22528) (d : Fin 3) :
    (val_main_v468 (F := Ideal) R.a0 R.a1 R.a2 x3 R.a4 R.a5 R.a8 R.a9 R.a10 R.a11 R.a12 R.a13 R.a14 R.a15 R.a16 R.a17 R.a18) (ix2 n d)
      = (fl (fun b => lastX A.W (A.x b) (A.h b)) n d : ℝ) := by
  rw [X3_eq, M3_eq, D3_eq]
  exact step_X (x := fun b => (samp A 3 b).1) (h := fun b => (samp A 3 b).2) hv hu A 3 (X_3 hA hv hu) (H_3 hA hv hu) (E_real hA hv hu) (w3_e1 R hA) (w3_b1 R hA) (w3_e2 R hA) (w3_b2 R hA) (w3_c1 R hA) (w3_cb1 R hA) (w3_c2 R hA) n d

/-- The displacement of a sample's particle. -/
theorem disp (b : Fin 1024) (i : Fin 22) (d : Fin 3) :
    (val_main_v502 (F := Ideal) R.a0 R.a1 R.a2 x3 R.a4 R.a5 R.a8 R.a9 R.a10 R.a11 R.a12 R.a13 R.a14 R.a15 R.a16 R.a17 R.a18) (ix3 b i d)
      = ((lastX A.W (A.x b) (A.h b) i d - A.x b i d : ℝ) : EReal) := by
  have e : (val_main_v502 (F := Ideal) R.a0 R.a1 R.a2 x3 R.a4 R.a5 R.a8 R.a9 R.a10 R.a11 R.a12 R.a13 R.a14 R.a15 R.a16 R.a17 R.a18) (ix3 b i d)
      = (val_main_v501 (F := Ideal) R.a0 R.a1 R.a2 x3 R.a4 R.a5 R.a8 R.a9 R.a10 R.a11 R.a12 R.a13 R.a14 R.a15 R.a16 R.a17 R.a18) (ix2 (nd b i) d) := by
    unfold val_main_v502
    exact shapeCast_apply _ _ _ _ (by
      rewrite [Shape.rowMajor_val_two, Shape.rowMajor_val_three]
      rfl)
  rw [e]
  show (val_main_v468 (F := Ideal) R.a0 R.a1 R.a2 x3 R.a4 R.a5 R.a8 R.a9 R.a10 R.a11 R.a12 R.a13 R.a14 R.a15 R.a16 R.a17 R.a18) (ix2 (nd b i) d) - (val_main_v4 (F := Ideal) R.a1) (ix2 (nd b i) d) = _
  rw [X_4 hA hv hu, X_0 hA, ← EReal.coe_sub, fl_nd, fl_nd]

/-- The reference's result over the reals. -/
theorem ref_vel (b : Fin 1024) (n : Fin 66) :
    (val_main_v509 (F := Ideal) R.a0 R.a1 R.a2 x3 R.a4 R.a5 R.a8 R.a9 R.a10 R.a11 R.a12 R.a13 R.a14 R.a15 R.a16 R.a17 R.a18) (ix2 b n)
      = (A.vel b ⟨n.val / 3, by omega⟩ ⟨n.val % 3, by omega⟩ : ℝ) := by
  have hn := n.isLt
  have hd := disp hA hv hu b
  rw [val_main_v509_apply, val_main_v508_apply, val_main_v507_apply, val_main_v506_apply, val_main_v504_apply, val_main_v503_apply]
  generalize (val_main_v502 (F := Ideal) R.a0 R.a1 R.a2 x3 R.a4 R.a5 R.a8 R.a9 R.a10 R.a11 R.a12 R.a13 R.a14 R.a15 R.a16 R.a17 R.a18) = Z at *
  have e : idx_main_v509 (ix2 b n) = ix3 b ⟨n.val / 3, by omega⟩ ⟨n.val % 3, by omega⟩ := by
    funext a
    refine Fin.ext ?_
    match a with
    | ⟨0, _⟩ => show (b.val * 66 + n.val) / 66 = b.val; omega
    | ⟨1, _⟩ => show (b.val * 66 + n.val) / 3 % 22 = n.val / 3; omega
    | ⟨2, _⟩ => show (b.val * 66 + n.val) % 3 = n.val % 3; omega
  have e' : ∀ k : Fin 22, idx_main_v503 (idx_main_v504 (idx_main_v507 (ix3 b (⟨n.val / 3, by omega⟩ : Fin 22) (⟨n.val % 3, by omega⟩ : Fin 3)))) k
      = ix3 b k ⟨n.val % 3, by omega⟩ := by
    intro k
    funext a
    match a with
    | ⟨0, _⟩ => rfl
    | ⟨1, _⟩ => rfl
    | ⟨2, _⟩ => rfl
  have h22 : val_main_v505 (F := Ideal) (idx_main_v507 (idx_main_v509 (ix2 b n))) = ((22 : ℝ) : EReal) := by
    rw [val_main_v505_apply]
    show Ideal.ofBits .f32 0x41B00000#32 = _
    simp [Ideal.ofBits, Ideal.ieee, -EReal.coe_mul]
    norm_num
    try rfl
  have h0 : val_main_cst_79 (F := Ideal) (Shape.Idx.first h_S_) = 0 := Ideal.ofBits_zero_f32
  rw [h22, h0, e]
  show Z _ - Ideal.div (0 + ∑ k, Z _) _ = _
  rw [zero_add, Finset.sum_congr rfl fun k _ => congrArg Z (e' k), hd, sum_real _ _ fun k => hd k _,
    Ideal.div_coe (by norm_num), ← EReal.coe_mul, ← EReal.coe_sub]
  rfl

end Layers

end Cert.Proof
-- ==== Proof.Pre.lean ====
/- What the precondition says: the edge list is the drawn one, and the floats that the result reads are real numbers. -/
module

public import proofs.«01_k».proof.Proof.Args
public import proofs.«01_k».proof.Proof.REdge
public import proofs.«01_k».proof.Pre_drawn
public import Idealize.ShloMosaic.Lib.ReduceAll
public import Idealize.ShloMosaic.Lib.KernelVsHost
public import Idealize.ShloMosaic.Lib.StableHlo.Predicate

@[expose] public section

noncomputable section

namespace Cert.Proof

open Idealize.ShloMosaic Cert.Pre_drawn Cert.Pre_drawn.Facts

/-- An extended real whose absolute value compares below infinity is a real number. -/
theorem real_of_lt (x : Ideal .f32)
    (h : FloatOps.cmpf .olt (FloatOps.hostAbsf x) (FloatOps.ofBits (F := Ideal) .f32 0x7F800000#32) = 1#1) :
    x = ((EReal.toReal x : ℝ) : EReal) := by
  have top : Ideal.ofBits .f32 0x7F800000#32 = ⊤ := by simp [Ideal.ofBits, Ideal.ieee]
  rw [Ideal.cmpf_def, Ideal.hostAbsf_def, Ideal.ofBits_def, top] at h
  induction x using EReal.rec with
  | bot => exact absurd h (by simp [Ideal.cmp, Ideal.absf_def])
  | top => exact absurd h (by simp [Ideal.cmp, Ideal.absf_def])
  | coe r => rfl

/-- Every entry of an array is a real number. -/
def Reals {s : Shape} (x : FVec Ideal s .f32) : Prop := ∀ i, x i = ((EReal.toReal (x i) : ℝ) : EReal)

/-- An array all of whose absolute values compare below infinity holds real numbers. -/
theorem reals_of {s : Shape} (x : FVec Ideal s .f32) (d : Fin S_.rank → Fin s.rank) (hb : S_.BroadcastsInDim s d)
    {axes : List (Fin s.rank)} (hr : s.ReducesTo axes S_) (hu : 0 < S_.numel) (j : S_.Idx)
    (h : Host.reduce IntOp.andi (cmpf .olt (Host.absf x) (broadcastInDim s d hb (constant S_ .f32 0x7F800000#32)))
      (constantI S_ 1 1#1) hr hu j = 1#1) : Reals x := by
  intro i
  have : Subsingleton S_.Idx := ⟨fun a b => funext fun k => k.elim0⟩
  exact real_of_lt _ (Host.reduce_andi_all _ _ hr hu j h i)

/-- The words of an edge list's row: the row of a pair's first particle in a sample's rows. -/
theorem word_of (b q : ℕ) (hb : b < 1024) (hq : q < 22) :
    IntOp.addi (BitVec.ofNat 32 q) (IntOp.muli (BitVec.ofNat 32 b) 22#32) = BitVec.ofNat 32 (b * 22 + q) := by
  apply BitVec.eq_of_toNat_eq
  show ((BitVec.ofNat 32 q) + (BitVec.ofNat 32 b) * 22#32).toNat = _
  simp only [BitVec.toNat_add, BitVec.toNat_mul, BitVec.toNat_ofNat]
  omega

/-- What the precondition gives. -/
structure Drawn (x0 : FVec Ideal S1024x1 .f32) (x1 : FVec Ideal S1024x66 .f32) (x2 : FVec Ideal S22x4 .f32) (x3 : IVec S2x473088 32)
    (x4 : FVec Ideal S5x64 .f32) (x5 : FVec Ideal S64 .f32) (x8 : FVec Ideal S4x130x64 .f32) (x9 : FVec Ideal S4x64 .f32)
    (x10 : FVec Ideal S4x64x64 .f32) (x11 : FVec Ideal S4x64 .f32) (x12 : FVec Ideal S4x128x64 .f32) (x13 : FVec Ideal S4x64 .f32)
    (x14 : FVec Ideal S4x64x64 .f32) (x15 : FVec Ideal S4x64 .f32) (x16 : FVec Ideal S4x64x64 .f32) (x17 : FVec Ideal S4x64 .f32)
    (x18 : FVec Ideal S4x64x1 .f32) : Prop where
  rows : ∀ e, x3 (ix2 0 e) = BitVec.ofNat 32 (rowOf e).val
  cols : ∀ e, x3 (ix2 1 e) = BitVec.ofNat 32 (colOf e).val
  r0 : Reals x0
  r1 : Reals x1
  r2 : Reals x2
  r4 : Reals x4
  r5 : Reals x5
  r8 : Reals x8
  r9 : Reals x9
  r10 : Reals x10
  r11 : Reals x11
  r12 : ∀ (l : Fin 4) (i : Fin 128) (k : Fin 64), l.val < 3 → x12 (ix3 l i k) = ((EReal.toReal (x12 (ix3 l i k)) : ℝ) : EReal)
  r13 : ∀ (l : Fin 4) (k : Fin 64), l.val < 3 → x13 (ix2 l k) = ((EReal.toReal (x13 (ix2 l k)) : ℝ) : EReal)
  r14 : ∀ (l : Fin 4) (i k : Fin 64), l.val < 3 → x14 (ix3 l i k) = ((EReal.toReal (x14 (ix3 l i k)) : ℝ) : EReal)
  r15 : ∀ (l : Fin 4) (k : Fin 64), l.val < 3 → x15 (ix2 l k) = ((EReal.toReal (x15 (ix2 l k)) : ℝ) : EReal)
  r16 : Reals x16
  r17 : Reals x17
  r18 : Reals x18

variable [Facts]

/-- The drawn edge list's first or second row, as the precondition computes it from a table of pairs. -/
def list (T : IVec S462 32) : IVec S473088 32 :=
  shapeCast S473088 (addi (broadcastInDim S1024x462 ![0, 1] bcast_S1x462_S1024x462_0_1 (broadcastInDim S1x462 ![1] bcast_S462_S1x462_1 T))
    (broadcastInDim S1024x462 ![0, 1] bcast_S1024x1_S1024x462_0_1
      (muli (iotaInDim S1024x1 32 0) (broadcastInDim S1024x1 ![] bcast_S_S1024x1 (constantI S_ 32 22#32))))) shapeCasts_S1024x462_S473088

/-- An entry of a list: the table's word plus 22 for each sample before. -/
theorem list_apply (T : IVec S462 32) (e : Fin 473088) :
    list T (ix1 e) = IntOp.addi (T (ix1 ⟨e.val % 462, by omega⟩)) (IntOp.muli (BitVec.ofNat 32 (e.val / 462)) 22#32) := by
  pointwise [list]

/-- The edge list, as the precondition computes it. -/
def both (U V : IVec S473088 32) : IVec S2x473088 32 :=
  concatenate S2x473088 0 [⟨S1x473088, broadcastInDim S1x473088 ![1] bcast_S473088_S1x473088_1 U⟩,
    ⟨S1x473088, broadcastInDim S1x473088 ![1] bcast_S473088_S1x473088_1 V⟩] concatenates_S1x473088_S1x473088_S2x473088_d0

/-- The first row of the drawn edge list. -/
theorem both_fst (U V : IVec S473088 32) (e : Fin 473088) : both U V (ix2 0 e) = U (ix1 e) := by
  pointwise [both]

/-- The second row of the drawn edge list. -/
theorem both_snd (U V : IVec S473088 32) (e : Fin 473088) : both U V (ix2 1 e) = V (ix1 e) := by
  pointwise [both]

/-- The drawn list of receiving rows. -/
theorem list_rows (e : Fin 473088) : list (fun i => lit0 (S462.rowMajor i)) (ix1 e) = BitVec.ofNat 32 (rowOf e).val := by
  rw [list_apply]
  have p : S462.rowMajor (ix1 ⟨e.val % 462, by omega⟩) = (⟨e.val % 462, by omega⟩ : Fin 462) := Fin.ext (Shape.rowMajor_val_one _)
  beta_reduce
  rw [p, pr_word, word_of _ _ (by omega) (pr _).isLt]
  rfl

/-- The drawn list of sending rows. -/
theorem list_cols (e : Fin 473088) : list (fun i => lit1 (S462.rowMajor i)) (ix1 e) = BitVec.ofNat 32 (colOf e).val := by
  rw [list_apply]
  have p : S462.rowMajor (ix1 ⟨e.val % 462, by omega⟩) = (⟨e.val % 462, by omega⟩ : Fin 462) := Fin.ext (Shape.rowMajor_val_one _)
  beta_reduce
  rw [p, pc_word, word_of _ _ (by omega) (pc _).isLt]
  rfl

/-- The precondition as facts about the arguments. -/
theorem drawn_of {x0 x1 x2 x3 x4 x5 x6 x7 x8 x9 x10 x11 x12 x13 x14 x15 x16 x17 x18}
    (h : fn (F := Ideal) x0 x1 x2 x3 x4 x5 x6 x7 x8 x9 x10 x11 x12 x13 x14 x15 x16 x17 x18 = fun _ => 1#1) :
    Drawn x0 x1 x2 x3 x4 x5 x8 x9 x10 x11 x12 x13 x14 x15 x16 x17 x18 := by
  have j : S_.Idx := fun k => k.elim0
  have h := congrFun h j
  simp only [fn, fn_part1, fn_part2, fn_part3, fn_part4, fn_part5, andi, IntOp.andi_eq_one] at h
  obtain ⟨⟨⟨⟨⟨⟨⟨⟨⟨⟨⟨⟨⟨⟨⟨⟨he, h0⟩, h1⟩, h2⟩, h4⟩, h5⟩, h8⟩, h9⟩, h10⟩, h11⟩, h12⟩, h13⟩, h14⟩, h15⟩, h16⟩, h17⟩, h18⟩ := h
  have : Subsingleton S_.Idx := ⟨fun a b => funext fun k => k.elim0⟩
  have e (i) : x3 i = both (list fun i => lit0 (S462.rowMajor i)) (list fun i => lit1 (S462.rowMajor i)) i :=
    StableHlo.Predicate.cmpi_eq_iff.1 (Host.reduce_andi_all _ _ _ _ j he i)
  have h12 := reals_of _ _ _ _ _ j h12
  have h13 := reals_of _ _ _ _ _ j h13
  have h14 := reals_of _ _ _ _ _ j h14
  have h15 := reals_of _ _ _ _ _ j h15
  constructor
  · intro k
    rw [e, both_fst, list_rows]
  · intro k
    rw [e, both_snd, list_cols]
  · exact reals_of _ _ _ _ _ j h0
  · exact reals_of _ _ _ _ _ j h1
  · exact reals_of _ _ _ _ _ j h2
  · exact reals_of _ _ _ _ _ j h4
  · exact reals_of _ _ _ _ _ j h5
  · exact reals_of _ _ _ _ _ j h8
  · exact reals_of _ _ _ _ _ j h9
  · exact reals_of _ _ _ _ _ j h10
  · exact reals_of _ _ _ _ _ j h11
  · intro l i k hl
    have g := h12 (ix3 ⟨l.val, hl⟩ i k)
    pointwise at g
    exact g
  · intro l k hl
    have g := h13 (ix2 ⟨l.val, hl⟩ k)
    pointwise at g
    exact g
  · intro l i k hl
    have g := h14 (ix3 ⟨l.val, hl⟩ i k)
    pointwise at g
    exact g
  · intro l k hl
    have g := h15 (ix2 ⟨l.val, hl⟩ k)
    pointwise at g
    exact g
  · exact reals_of _ _ _ _ _ j h16
  · exact reals_of _ _ _ _ _ j h17
  · exact reals_of _ _ _ _ _ j h18

end Cert.Proof
-- ==== Proof.Alg.lean ====
/- The kernel's result and the reference's are one array: the velocities of the arguments, which the precondition makes real numbers. -/
module

public import proofs.«01_k».proof.Proof.KNet
public import proofs.«01_k».proof.Proof.RNet
public import proofs.«01_k».proof.Proof.Pre
public import proofs.«01_k».proof.Proof.Gen.ReferenceIdeal.Run
public import proofs.«01_k».proof.Proof.Gen.Pre_drawn
public import proofs.«01_k».proof.Defs

@[expose] public section

noncomputable section

namespace Cert.Proof

open Idealize.ShloMosaic Idealize.SL.Sem

/-- The real numbers of the arguments. -/
def argsOf (R : Arrs) : Args where
  t b := EReal.toReal (R.a0 (ix2 b 0))
  xs b n := EReal.toReal (R.a1 (ix2 b n))
  hi i r := EReal.toReal (R.a2 (ix2 i r))
  em r k := EReal.toReal (R.a4 (ix2 r k))
  eb k := EReal.toReal (R.a5 (ix1 k))
  e1 l r k := EReal.toReal (R.a8 (ix3 l r k))
  b1 l k := EReal.toReal (R.a9 (ix2 l k))
  e2 l r k := EReal.toReal (R.a10 (ix3 l r k))
  b2 l k := EReal.toReal (R.a11 (ix2 l k))
  n1 l r k := EReal.toReal (R.a12 (ix3 l r k))
  nb1 l k := EReal.toReal (R.a13 (ix2 l k))
  n2 l r k := EReal.toReal (R.a14 (ix3 l r k))
  nb2 l k := EReal.toReal (R.a15 (ix2 l k))
  c1 l r k := EReal.toReal (R.a16 (ix3 l r k))
  cb1 l k := EReal.toReal (R.a17 (ix2 l k))
  c2 l k := EReal.toReal (R.a18 (ix3 l k 0))

/-- Under the precondition the arrays hold their real numbers. -/
theorem of_drawn {R : Arrs} {x3 : IVec Cert.Pre_drawn.S2x473088 32}
    (h : Drawn R.a0 R.a1 R.a2 x3 R.a4 R.a5 R.a8 R.a9 R.a10 R.a11 R.a12 R.a13 R.a14 R.a15 R.a16 R.a17 R.a18) : Of (argsOf R) R where
  t b := h.r0 _
  xs b n := h.r1 _
  hi i r := h.r2 _
  em r k := h.r4 _
  eb k := h.r5 _
  e1 l r k := h.r8 _
  b1 l k := h.r9 _
  e2 l r k := h.r10 _
  b2 l k := h.r11 _
  n1 l r k hl := h.r12 l r k hl
  nb1 l k hl := h.r13 l k hl
  n2 l r k hl := h.r14 l r k hl
  nb2 l k hl := h.r15 l k hl
  c1 l r k := h.r16 _
  cb1 l k := h.r17 _
  c2 l k := h.r18 _

section Reference
open Cert.ReferenceIdeal Cert.ReferenceIdeal.Gen Cert.ReferenceIdeal.Read

/-- The reference reads the first row of the edge list as the rows that edges end in. -/
theorem ends_rows {x3 : IVec S2x473088 32} (h : ∀ e, x3 (ix2 0 e) = BitVec.ofNat 32 (rowOf e).val) :
    Ends (val_main_v1 (F := Ideal) x3) rowOf := by
  intro e
  rw [← h e]
  pointwise [val_main_v1, val_main_v0]

/-- The reference reads the second row of the edge list as the rows that edges start from. -/
theorem ends_cols {x3 : IVec S2x473088 32} (h : ∀ e, x3 (ix2 1 e) = BitVec.ofNat 32 (colOf e).val) :
    Ends (val_main_v3 (F := Ideal) x3) colOf := by
  intro e
  rw [← h e]
  pointwise [val_main_v3, val_main_v2]

/-- The reference's result at the arrays of the arguments. -/
def resR (R : Arrs) (x3 : IVec S2x473088 32) : FVec Ideal S1024x66 .f32 :=
  val_main_v509 (F := Ideal) R.a0 R.a1 R.a2 x3 R.a4 R.a5 R.a8 R.a9 R.a10 R.a11 R.a12 R.a13 R.a14 R.a15 R.a16 R.a17 R.a18

end Reference

section Both
open Cert.KernelIdeal Cert.KernelIdeal.Gen Idealize.ShloMosaic.TcCoe

variable (m : (ℓ : Loc nD τ sig) → Buf (Elt Ideal) ℓ) (c : Dev nD)

/-- Under the precondition the reference's result is the kernel's. -/
theorem res_eq {x3 : IVec Cert.Pre_drawn.S2x473088 32}
    (h : Drawn (arrsK m c).a0 (arrsK m c).a1 (arrsK m c).a2 x3 (arrsK m c).a4 (arrsK m c).a5 (arrsK m c).a8 (arrsK m c).a9
      (arrsK m c).a10 (arrsK m c).a11 (arrsK m c).a12 (arrsK m c).a13 (arrsK m c).a14 (arrsK m c).a15 (arrsK m c).a16
      (arrsK m c).a17 (arrsK m c).a18) : resR (arrsK m c) x3 = resK m c := by
  have hA := of_drawn h
  funext i
  obtain ⟨b, n, rfl⟩ : ∃ b n, i = ix2 b n := ⟨i 0, i 1, by pointwise⟩
  exact (ref_vel hA (ends_rows h.rows) (ends_cols h.cols) b n).trans (kernel_vel hA b n).symm

/-- The kernel runs, leaves its result as read above and its arguments as they were. -/
theorem run_kernel (ρ : Dev nD → PrngReg) :
    θ_run defs (onTc (τ := τ) (main (F := Ideal))) ⟨m, fun _ => 0, ρ⟩ fun r => ∀ c : Dev nD,
      r.2.mem ((c.tc : Thread nD τ).loc main_v100) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).2 main_v100 (Pipeline.mem_restRefs_of main_v100 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c)⟩)
    (run_main m ρ)

end Both

section Claim
open Cert.ReferenceIdeal Cert.ReferenceIdeal.Gen

/-- The reference's composed term, at a memory whose arguments are the arrays given, is its result at them. -/
theorem run_term (V : Valuation τ sig (Elt Ideal)) (R : Arrs) (x3 : IVec S2x473088 32)
    (h0 : V (Proc.devRef .tc main_arg0) = R.a0)
    (h1 : V (Proc.devRef .tc main_arg1) = R.a1)
    (h2 : V (Proc.devRef .tc main_arg2) = R.a2)
    (h3 : V (Proc.devRef .tc main_arg3) = x3)
    (h4 : V (Proc.devRef .tc main_arg4) = R.a4)
    (h5 : V (Proc.devRef .tc main_arg5) = R.a5)
    (h8 : V (Proc.devRef .tc main_arg8) = R.a8)
    (h9 : V (Proc.devRef .tc main_arg9) = R.a9)
    (h10 : V (Proc.devRef .tc main_arg10) = R.a10)
    (h11 : V (Proc.devRef .tc main_arg11) = R.a11)
    (h12 : V (Proc.devRef .tc main_arg12) = R.a12)
    (h13 : V (Proc.devRef .tc main_arg13) = R.a13)
    (h14 : V (Proc.devRef .tc main_arg14) = R.a14)
    (h15 : V (Proc.devRef .tc main_arg15) = R.a15)
    (h16 : V (Proc.devRef .tc main_arg16) = R.a16)
    (h17 : V (Proc.devRef .tc main_arg17) = R.a17)
    (h18 : V (Proc.devRef .tc main_arg18) = R.a18) :
    shapeCast _ (subf (Value.res_main_v502 V) (broadcastInDim S1024x22x3 ![0, 1, 2] bcast_S1024x1x3_S1024x22x3_0_1_2
      (Host.divf (broadcastInDim S1024x1x3 ![0, 2] bcast_S1024x3_S1024x1x3_0_2
        (Host.reduceAdd (Value.res_main_v502 V) (constant S_ .f32 0x00000000#32) reducesTo_S1024x22x3_S1024x3_d1 h_S_))
        (broadcastInDim S1024x1x3 ![] bcast_S_S1024x1x3 (constant S_ .f32 0x41B00000#32))))) shapeCasts_S1024x22x3_S1024x66
      = resR R x3 := by
  rw [Read.val_main_v509_eq V, h0, h1, h2, h3, h4, h5, h8, h9, h10, h11, h12, h13, h14, h15, h16, h17, h18]
  rfl

end Claim

/-- Under the precondition the kernel and the reference end with one result. -/
theorem algebraic : Cert.algebraic_KernelIdeal_ReferenceIdeal_pre_drawn := by
  intro m ρ m' ρ' hpre hagree
  refine ⟨fun c => resK m c, run_kernel m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15, g16, g17, g18⟩ := hagree c
  exact (run_term (StableHlo.launchContents m' c) (arrsK m c) _ g0 g1 g2 g3 g4 g5 g8 g9 g10 g11 g12 g13 g14 g15 g16 g17 g18).trans
    (res_eq m c (drawn_of (hpre c)))

end Cert.Proof
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_drawn
public import proofs.«01_k».proof.Proof.Alg
public import Idealize.ShloMosaic.Adequacy
public import Idealize.ShloMosaic.Init

@[expose] public section

noncomputable section

namespace Cert.Proof

open Idealize.ShloMosaic Idealize.SL.Sem

/-- The reference runs, leaves its arguments as they were, and has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants of the ledger: the mask's `-1e30` as `⊥` and the mean's factor as `1 / 22`. -/
theorem preserves : Cert.preserves_Kernel_KernelIdeal :=
  ⟨IdealRules.named_const.statement Cert.KernelIdeal.κ "mask" .f32 0xF149F2CA#32 ⊥ rfl,
    IdealRules.named_const.statement Cert.KernelIdeal.κ "inv_p" .f32 0x3D3A2E8C#32 ((1 / 22 : ℝ) : EReal) rfl⟩

/-- Everything that is claimed. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
